-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((8 * (Real.log 2))⁻¹ : ℝ) : EReal)
  ∧ IdealRules.named_const.Statement Cert.KernelIdeal.κ "big" .f32 0x7149F2CA#32 ⊤

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v310_1)) (v1 : (c : Dev Cert.Kernel4Ideal.nD) → Buf (Elt Ideal) ((c.tc : Thread Cert.Kernel4Ideal.nD Cert.Kernel4Ideal.τ).loc Cert.Kernel4Ideal.main_v310_2)) (v2 : (c : Dev Cert.Kernel4Ideal.nD) → Buf (Elt Ideal) ((c.tc : Thread Cert.Kernel4Ideal.nD Cert.Kernel4Ideal.τ).loc Cert.Kernel4Ideal.main_v310_5)) (v3 : (c : Dev Cert.Kernel4Ideal.nD) → Buf (Elt Ideal) ((c.tc : Thread Cert.Kernel4Ideal.nD Cert.Kernel4Ideal.τ).loc Cert.Kernel4Ideal.main_v310_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v310_1) = v0 c
          ∧ r.2.mem ((c.tc : Thread Cert.Kernel4Ideal.nD Cert.Kernel4Ideal.τ).loc Cert.Kernel4Ideal.main_v310_2) = v1 c
          ∧ r.2.mem ((c.tc : Thread Cert.Kernel4Ideal.nD Cert.Kernel4Ideal.τ).loc Cert.Kernel4Ideal.main_v310_5) = v2 c
          ∧ r.2.mem ((c.tc : Thread Cert.Kernel4Ideal.nD Cert.Kernel4Ideal.τ).loc Cert.Kernel4Ideal.main_v310_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v139) = v0 c
          ∧ r.2.mem ((c.tc : Thread Cert.Reference4Ideal.nD Cert.Reference4Ideal.τ).loc Cert.Reference4Ideal.main_v141) = v1 c
          ∧ r.2.mem ((c.tc : Thread Cert.Reference4Ideal.nD Cert.Reference4Ideal.τ).loc Cert.Reference4Ideal.main_v143) = v2 c
          ∧ r.2.mem ((c.tc : Thread Cert.Reference4Ideal.nD Cert.Reference4Ideal.τ).loc Cert.Reference4Ideal.main_v197) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x4x64 : Shape := ⟨4, ![8, 2048, 4, 64]⟩
abbrev S8x2048x64 : Shape := ⟨3, ![8, 2048, 64]⟩
abbrev S8x2048x8x32 : Shape := ⟨4, ![8, 2048, 8, 32]⟩
abbrev S8x2048x32 : Shape := ⟨3, ![8, 2048, 32]⟩
abbrev S8x2048x8 : Shape := ⟨3, ![8, 2048, 8]⟩
abbrev S_ : Shape := ⟨0, ![]⟩
abbrev S16384x256 : Shape := ⟨2, ![16384, 256]⟩
abbrev S16384x64 : Shape := ⟨2, ![16384, 64]⟩
abbrev S16384x896 : Shape := ⟨2, ![16384, 896]⟩
abbrev S16384x32 : Shape := ⟨2, ![16384, 32]⟩
abbrev S16384x512 : Shape := ⟨2, ![16384, 512]⟩
abbrev S16384x128 : Shape := ⟨2, ![16384, 128]⟩
abbrev S16384x8 : Shape := ⟨2, ![16384, 8]⟩
abbrev S16384x248 : Shape := ⟨2, ![16384, 248]⟩
abbrev S16384x384 : Shape := ⟨2, ![16384, 384]⟩
abbrev S4x256 : Shape := ⟨2, ![4, 256]⟩
abbrev S4x128x256 : Shape := ⟨3, ![4, 128, 256]⟩
abbrev S128x256 : Shape := ⟨2, ![128, 256]⟩
abbrev S128x128 : Shape := ⟨2, ![128, 128]⟩
abbrev S1x128 : Shape := ⟨2, ![1, 128]⟩
abbrev S256x256 : Shape := ⟨2, ![256, 256]⟩
abbrev S2048x128 : Shape := ⟨2, ![2048, 128]⟩
abbrev S2048x256 : Shape := ⟨2, ![2048, 256]⟩
abbrev S256x128 : Shape := ⟨2, ![256, 128]⟩
abbrev S8x256x256 : Shape := ⟨3, ![8, 256, 256]⟩
abbrev S256x2048 : Shape := ⟨2, ![256, 2048]⟩
abbrev S1x256 : Shape := ⟨2, ![1, 256]⟩
abbrev S1x256x256 : Shape := ⟨3, ![1, 256, 256]⟩
abbrev S8x256 : Shape := ⟨2, ![8, 256]⟩
abbrev S32x8x256 : Shape := ⟨3, ![32, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1024x256 : Shape := ⟨2, ![1024, 256]⟩
abbrev S1024x1 : Shape := ⟨2, ![1024, 1]⟩
abbrev S1024x128 : Shape := ⟨2, ![1024, 128]⟩
abbrev S256x1024 : Shape := ⟨2, ![256, 1024]⟩
abbrev S1024x1024 : Shape := ⟨2, ![1024, 1024]⟩
abbrev S1024 : Shape := ⟨1, ![1024]⟩
abbrev S256x768 : Shape := ⟨2, ![256, 768]⟩
abbrev S512x256 : Shape := ⟨2, ![512, 256]⟩
abbrev S256x512 : Shape := ⟨2, ![256, 512]⟩
abbrev S1024x512 : Shape := ⟨2, ![1024, 512]⟩
abbrev S512x128 : Shape := ⟨2, ![512, 128]⟩
abbrev S1x128x256 : Shape := ⟨3, ![1, 128, 256]⟩

abbrev nBuf : Space → Nat
  | .hbm => 158
  | .vmem => 26
  | .smem => 0
  | _ => 0

abbrev hbmTy0_0 (i : Nat) : BufTy := match i % 128 with
  | 0 => ⟨S8x2048x4x64, .f32⟩
  | 1 => ⟨S8x2048x64, .f32⟩
  | 2 => ⟨S8x2048x64, .f32⟩
  | 3 => ⟨S8x2048x8x32, .f32⟩
  | 4 => ⟨S8x2048x32, .f32⟩
  | 5 => ⟨S8x2048x8, .f32⟩
  | 6 => ⟨S_, .f32⟩
  | 7 => ⟨S16384x256, .f32⟩
  | 8 => ⟨S16384x256, .f32⟩
  | 9 => ⟨S_, .f32⟩
  | 10 => ⟨S16384x256, .f32⟩
  | 11 => ⟨S16384x64, .f32⟩
  | 12 => ⟨S16384x64, .f32⟩
  | 13 => ⟨S16384x896, .f32⟩
  | 14 => ⟨S16384x256, .f32⟩
  | 15 => ⟨S_, .f32⟩
  | 16 => ⟨S16384x256, .f32⟩
  | 17 => ⟨S16384x256, .f32⟩
  | 18 => ⟨S16384x32, .f32⟩
  | 19 => ⟨S16384x512, .f32⟩
  | 20 => ⟨S_, .f32⟩
  | 21 => ⟨S16384x128, .f32⟩
  | 22 => ⟨S16384x8, .f32⟩
  | 23 => ⟨S_, .f32⟩
  | 24 => ⟨S16384x248, .f32⟩
  | 25 => ⟨S16384x384, .f32⟩
  | 26 => ⟨S16384x896, .bf16⟩
  | 27 => ⟨S16384x512, .bf16⟩
  | 28 => ⟨S4x256, .i32⟩
  | 29 => ⟨S4x256, .i32⟩
  | 30 => ⟨S_, .i32⟩
  | 31 => ⟨S_, .i32⟩
  | 32 => ⟨S4x256, .i32⟩
  | 33 => ⟨S4x256, .i32⟩
  | 34 => ⟨S4x256, .i32⟩
  | 35 => ⟨S_, .i32⟩
  | 36 => ⟨S4x256, .i32⟩
  | 37 => ⟨S4x256, .i1⟩
  | 38 => ⟨S4x256, .i32⟩
  | 39 => ⟨S4x256, .i32⟩
  | 40 => ⟨S_, .i32⟩
  | 41 => ⟨S4x256, .i32⟩
  | 42 => ⟨S4x256, .i1⟩
  | 43 => ⟨S4x256, .i1⟩
  | 44 => ⟨S_, .i32⟩
  | 45 => ⟨S4x256, .i32⟩
  | 46 => ⟨S4x256, .i32⟩
  | 47 => ⟨S4x256, .i32⟩
  | 48 => ⟨S4x256, .i1⟩
  | 49 => ⟨S4x256, .bf16⟩
  | 50 => ⟨S4x128x256, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i32⟩
  | 59 => ⟨S128x256, .i1⟩
  | 60 => ⟨S128x256, .i1⟩
  | 61 => ⟨S_, .f32⟩
  | 62 => ⟨S_, .f32⟩
  | 63 => ⟨S128x256, .f32⟩
  | 64 => ⟨S128x256, .f32⟩
  | 65 => ⟨S128x256, .f32⟩
  | 66 => ⟨S128x256, .f32⟩
  | 67 => ⟨S128x256, .bf16⟩
  | 68 => ⟨S128x128, .i32⟩
  | 69 => ⟨S128x128, .i32⟩
  | 70 => ⟨S_, .i32⟩
  | 71 => ⟨S128x128, .i32⟩
  | 72 => ⟨S128x128, .i32⟩
  | 73 => ⟨S128x128, .i1⟩
  | 74 => ⟨S_, .f32⟩
  | 75 => ⟨S_, .f32⟩
  | 76 => ⟨S128x128, .f32⟩
  | 77 => ⟨S128x128, .f32⟩
  | 78 => ⟨S128x128, .f32⟩
  | 79 => ⟨S128x128, .f32⟩
  | 80 => ⟨S128x128, .bf16⟩
  | 81 => ⟨S4x128x256, .i32⟩
  | 82 => ⟨S4x128x256, .i32⟩
  | 83 => ⟨S_, .i32⟩
  | 84 => ⟨S4x128x256, .i32⟩
  | 85 => ⟨S4x128x256, .i1⟩
  | 86 => ⟨S_, .i32⟩
  | 87 => ⟨S4x128x256, .i32⟩
  | 88 => ⟨S4x128x256, .i32⟩
  | 89 => ⟨S4x128x256, .i32⟩
  | 90 => ⟨S4x128x256, .i1⟩
  | 91 => ⟨S4x128x256, .i1⟩
  | 92 => ⟨S_, .f32⟩
  | 93 => ⟨S_, .f32⟩
  | 94 => ⟨S4x128x256, .f32⟩
  | 95 => ⟨S4x128x256, .f32⟩
  | 96 => ⟨S4x128x256, .f32⟩
  | 97 => ⟨S4x128x256, .f32⟩
  | 98 => ⟨S4x128x256, .bf16⟩
  | 99 => ⟨S1x128, .i32⟩
  | 100 => ⟨S1x128, .i32⟩
  | 101 => ⟨S_, .i32⟩
  | 102 => ⟨S1x128, .i32⟩
  | 103 => ⟨S1x128, .i1⟩
  | 104 => ⟨S_, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S256x256, .i32⟩
  | 111 => ⟨S256x256, .i32⟩
  | 112 => ⟨S256x256, .i1⟩
  | 113 => ⟨S_, .f32⟩
  | 114 => ⟨S_, .f32⟩
  | 115 => ⟨S256x256, .f32⟩
  | 116 => ⟨S256x256, .f32⟩
  | 117 => ⟨S256x256, .f32⟩
  | 118 => ⟨S256x256, .f32⟩
  | 119 => ⟨S256x256, .i32⟩
  | 120 => ⟨S256x256, .i32⟩
  | 121 => ⟨S256x256, .i1⟩
  | 122 => ⟨S_, .f32⟩
  | 123 => ⟨S_, .f32⟩
  | 124 => ⟨S256x256, .f32⟩
  | 125 => ⟨S256x256, .f32⟩
  | 126 => ⟨S256x256, .f32⟩
  | 127 => ⟨S256x256, .f32⟩
  | _ => ⟨S8x2048x4x64, .f32⟩

abbrev hbmTy0_1 (i : Nat) : BufTy := match i % 128 with
  | 0 => ⟨S256x256, .i32⟩
  | 1 => ⟨S256x256, .i32⟩
  | 2 => ⟨S256x256, .i1⟩
  | 3 => ⟨S_, .f32⟩
  | 4 => ⟨S_, .f32⟩
  | 5 => ⟨S256x256, .f32⟩
  | 6 => ⟨S256x256, .f32⟩
  | 7 => ⟨S256x256, .f32⟩
  | 8 => ⟨S256x256, .f32⟩
  | 9 => ⟨S256x256, .bf16⟩
  | 10 => ⟨S256x256, .i32⟩
  | 11 => ⟨S256x256, .i32⟩
  | 12 => ⟨S256x256, .i1⟩
  | 13 => ⟨S_, .f32⟩
  | 14 => ⟨S_, .f32⟩
  | 15 => ⟨S256x256, .f32⟩
  | 16 => ⟨S256x256, .f32⟩
  | 17 => ⟨S256x256, .f32⟩
  | 18 => ⟨S256x256, .f32⟩
  | 19 => ⟨S256x256, .bf16⟩
  | 20 => ⟨S128x128, .i32⟩
  | 21 => ⟨S128x128, .i32⟩
  | 22 => ⟨S128x128, .i1⟩
  | 23 => ⟨S_, .f32⟩
  | 24 => ⟨S_, .f32⟩
  | 25 => ⟨S128x128, .f32⟩
  | 26 => ⟨S128x128, .f32⟩
  | 27 => ⟨S128x128, .f32⟩
  | 28 => ⟨S128x128, .f32⟩
  | 29 => ⟨S16384x256, .bf16⟩
  | _ => ⟨S8x2048x4x64, .f32⟩

abbrev hbmTy (i : Nat) : BufTy := match i / 128 with
  | 0 => hbmTy0_0 i
  | 1 => hbmTy0_1 i
  | _ => ⟨S8x2048x4x64, .f32⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S2048x128, .bf16⟩
  | .local _ .vmem, ⟨3, _⟩ => ⟨S2048x128, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S256x128, .f32⟩
  | .local _ .vmem, ⟨9, _⟩ => ⟨S256x128, .f32⟩
  | .local _ .vmem, ⟨10, _⟩ => ⟨S4x256, .bf16⟩
  | .local _ .vmem, ⟨11, _⟩ => ⟨S128x256, .bf16⟩
  | .local _ .vmem, ⟨12, _⟩ => ⟨S128x128, .bf16⟩
  | .local _ .vmem, ⟨13, _⟩ => ⟨S1x128, .f32⟩
  | .local _ .vmem, ⟨14, _⟩ => ⟨S4x128x256, .bf16⟩
  | .local _ .vmem, ⟨15, _⟩ => ⟨S256x256, .f32⟩
  | .local _ .vmem, ⟨16, _⟩ => ⟨S256x256, .f32⟩
  | .local _ .vmem, ⟨17, _⟩ => ⟨S256x256, .bf16⟩
  | .local _ .vmem, ⟨18, _⟩ => ⟨S128x128, .f32⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S2048x256, .bf16⟩
  | .local _ .vmem, ⟨23, _⟩ => ⟨S2048x128, .bf16⟩
  | .local _ .vmem, ⟨24, _⟩ => ⟨S8x256x256, .f32⟩
  | .local _ .vmem, ⟨25, _⟩ => ⟨S256x2048, .bf16⟩
  | _, _ => ⟨S8x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_9 : Ref sig .tc := ⟨.hbm, 74, rfl⟩
abbrev main_cst_10 : Ref sig .tc := ⟨.hbm, 75, rfl⟩
abbrev main_call2_v0 : Ref sig .tc := ⟨.hbm, 76, rfl⟩
abbrev main_call2_v1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_11 : Ref sig .tc := ⟨.hbm, 83, rfl⟩
abbrev main_v44 : Ref sig .tc := ⟨.hbm, 84, rfl⟩
abbrev main_v45 : Ref sig .tc := ⟨.hbm, 85, rfl⟩
abbrev main_c_12 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_13 : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_15 : Ref sig .tc := ⟨.hbm, 101, rfl⟩
abbrev main_v56 : Ref sig .tc := ⟨.hbm, 102, rfl⟩
abbrev main_v57 : Ref sig .tc := ⟨.hbm, 103, rfl⟩
abbrev main_cst_16 : Ref sig .tc := ⟨.hbm, 104, rfl⟩
abbrev main_cst_17 : Ref sig .tc := ⟨.hbm, 105, rfl⟩
abbrev main_call4_v0 : Ref sig .tc := ⟨.hbm, 106, rfl⟩
abbrev main_call4_v1 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_18 : Ref sig .tc := ⟨.hbm, 113, rfl⟩
abbrev main_cst_19 : Ref sig .tc := ⟨.hbm, 114, rfl⟩
abbrev main_call5_v0 : Ref sig .tc := ⟨.hbm, 115, rfl⟩
abbrev main_call5_v1 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_20 : Ref sig .tc := ⟨.hbm, 122, rfl⟩
abbrev main_cst_21 : Ref sig .tc := ⟨.hbm, 123, rfl⟩
abbrev main_call6_v0 : Ref sig .tc := ⟨.hbm, 124, rfl⟩
abbrev main_call6_v1 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_22 : Ref sig .tc := ⟨.hbm, 131, rfl⟩
abbrev main_cst_23 : Ref sig .tc := ⟨.hbm, 132, rfl⟩
abbrev main_call7_v0 : Ref sig .tc := ⟨.hbm, 133, rfl⟩
abbrev main_call7_v1 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_24 : Ref sig .tc := ⟨.hbm, 141, rfl⟩
abbrev main_cst_25 : Ref sig .tc := ⟨.hbm, 142, rfl⟩
abbrev main_call8_v0 : Ref sig .tc := ⟨.hbm, 143, rfl⟩
abbrev main_call8_v1 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_26 : Ref sig .tc := ⟨.hbm, 151, rfl⟩
abbrev main_cst_27 : Ref sig .tc := ⟨.hbm, 152, rfl⟩
abbrev main_call9_v0 : Ref sig .tc := ⟨.hbm, 153, rfl⟩
abbrev main_call9_v1 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_36 : BitVec 32 := 0#32
  let arg1 : BitVec 32 := BitVec.ofNat 32 (i 1).val
  let v102 : BitVec 32 := Scalar.subi arg1 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_38 : BitVec 32 := 1#32
  ⟨c0_i32_36, v106, c1_i32_38⟩
def k0_mult1 (i : grid0.Coords) (k0_t1 : Fin (k0_t1_loop i).trips) : BitVec 32 :=
  let c0_i32_36 : BitVec 32 := 0#32
  let c1_i32_38 : BitVec 32 := 1#32
  let arg22 : BitVec 32 := Scf.iv c0_i32_36 c1_i32_38 k0_t1
  let c256_i32_149 : BitVec 32 := 256#32
  let v349 : BitVec 32 := Scalar.muli arg22 c256_i32_149
  v349
def k0_off1 (i : grid0.Coords) (k0_t1 : Fin (k0_t1_loop i).trips) : Fin 2 → Nat :=
  let c0_i32_36 : BitVec 32 := 0#32
  let c1_i32_38 : BitVec 32 := 1#32
  let arg22 : BitVec 32 := Scf.iv c0_i32_36 c1_i32_38 k0_t1
  let c256_i32_149 : BitVec 32 := 256#32
  let v349 : BitVec 32 := Scalar.muli arg22 c256_i32_149
  let v350 : BitVec 32 := v349
  let v351 : Index := Scalar.indexCast v350
  let c0_150 : Index := 0#32
  ![v351.toNat, 0]
def k0_off2 (i : grid0.Coords) (k0_t1 : Fin (k0_t1_loop i).trips) : Fin 3 → Nat :=
  let c0_i32_36 : BitVec 32 := 0#32
  let c1_i32_38 : BitVec 32 := 1#32
  let arg22 : BitVec 32 := Scf.iv c0_i32_36 c1_i32_38 k0_t1
  let v403 : Index := Scalar.indexCast arg22
  let c0_162 : Index := 0#32
  let c0_163 : Index := 0#32
  ![v403.toNat, 0, 0]
@[reducible] def k0_t2_loop (i : grid0.Coords) : Scf.Loop 32 :=
  let c0_i32_36 : BitVec 32 := 0#32
  let arg1 : BitVec 32 := BitVec.ofNat 32 (i 1).val
  let v102 : BitVec 32 := Scalar.subi arg1 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let v103 : BitVec 32 := Scalar.addi c0_i32_36 v102
  let c1_i32_39 : BitVec 32 := 1#32
  ⟨v106, v103, c1_i32_39⟩
def k0_mult2 (i : grid0.Coords) (k0_t2 : Fin (k0_t2_loop i).trips) : BitVec 32 :=
  let c0_i32_36 : BitVec 32 := 0#32
  let arg1 : BitVec 32 := BitVec.ofNat 32 (i 1).val
  let v102 : BitVec 32 := Scalar.subi arg1 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg22 : BitVec 32 := Scf.iv v106 c1_i32_39 k0_t2
  let c256_i32_149 : BitVec 32 := 256#32
  let v349 : BitVec 32 := Scalar.muli arg22 c256_i32_149
  v349
def k0_off3 (i : grid0.Coords) (k0_t2 : Fin (k0_t2_loop i).trips) : Fin 2 → Nat :=
  let c0_i32_36 : BitVec 32 := 0#32
  let arg1 : BitVec 32 := BitVec.ofNat 32 (i 1).val
  let v102 : BitVec 32 := Scalar.subi arg1 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg22 : BitVec 32 := Scf.iv v106 c1_i32_39 k0_t2
  let c256_i32_149 : BitVec 32 := 256#32
  let v349 : BitVec 32 := Scalar.muli arg22 c256_i32_149
  let v350 : BitVec 32 := v349
  let v351 : Index := Scalar.indexCast v350
  let c0_150 : Index := 0#32
  ![v351.toNat, 0]
def k0_off4 (i : grid0.Coords) (k0_t2 : Fin (k0_t2_loop i).trips) : Fin 3 → Nat :=
  let c0_i32_36 : BitVec 32 := 0#32
  let arg1 : BitVec 32 := BitVec.ofNat 32 (i 1).val
  let v102 : BitVec 32 := Scalar.subi arg1 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg22 : BitVec 32 := Scf.iv v106 c1_i32_39 k0_t2
  let v403 : Index := Scalar.indexCast arg22
  let c0_162 : Index := 0#32
  let c0_163 : Index := 0#32
  ![v403.toNat, 0, 0]
def k0_mult3 (i : grid0.Coords) : BitVec 32 :=
  let arg1 : BitVec 32 := BitVec.ofNat 32 (i 1).val
  let c256_i32 : BitVec 32 := 256#32
  let v111 : BitVec 32 := Scalar.muli arg1 c256_i32
  v111
def k0_off5 (i : grid0.Coords) : Fin 2 → Nat :=
  let arg1 : BitVec 32 := BitVec.ofNat 32 (i 1).val
  let c256_i32 : BitVec 32 := 256#32
  let v111 : BitVec 32 := Scalar.muli arg1 c256_i32
  let v112 : BitVec 32 := v111
  let v113 : Index := Scalar.indexCast v112
  let c0_43 : Index := 0#32
  ![v113.toNat, 0]
def k0_off6 (i : grid0.Coords) : Fin 3 → Nat :=
  let arg1 : BitVec 32 := BitVec.ofNat 32 (i 1).val
  let v166 : Index := Scalar.indexCast arg1
  let c0_55 : Index := 0#32
  let c0_56 : Index := 0#32
  ![v166.toNat, 0, 0]
@[reducible] def k0_t3_loop (i : grid0.Coords) : Scf.Loop 32 :=
  let c0_i32_61 : BitVec 32 := 0#32
  let arg1 : BitVec 32 := BitVec.ofNat 32 (i 1).val
  let c1_i32_59 : BitVec 32 := 1#32
  let v173 : BitVec 32 := Scalar.addi arg1 c1_i32_59
  let v175 : BitVec 32 := Scalar.subi v173 c0_i32_61
  let c1_i32_62 : BitVec 32 := 1#32
  let v177 : BitVec 32 := Scalar.divsi v175 c1_i32_62
  let v178 : BitVec 32 := Scalar.muli v177 c1_i32_62
  let v179 : BitVec 32 := Scalar.addi c0_i32_61 v178
  let c1_i32_63 : BitVec 32 := 1#32
  ⟨c0_i32_61, v179, c1_i32_63⟩
def k0_off7 (i : grid0.Coords) (k0_t3 : Fin (k0_t3_loop i).trips) : Fin 3 → Nat :=
  let c0_i32_61 : BitVec 32 := 0#32
  let c1_i32_63 : BitVec 32 := 1#32
  let arg22 : BitVec 32 := Scf.iv c0_i32_61 c1_i32_63 k0_t3
  let v349 : Index := Scalar.indexCast arg22
  let c0_149 : Index := 0#32
  let c0_150 : Index := 0#32
  ![v349.toNat, 0, 0]
@[reducible] def k0_t4_loop (i : grid0.Coords) : Scf.Loop 32 :=
  let c0_i32_61 : BitVec 32 := 0#32
  let arg1 : BitVec 32 := BitVec.ofNat 32 (i 1).val
  let c1_i32_59 : BitVec 32 := 1#32
  let v173 : BitVec 32 := Scalar.addi arg1 c1_i32_59
  let v175 : BitVec 32 := Scalar.subi v173 c0_i32_61
  let c1_i32_62 : BitVec 32 := 1#32
  let v177 : BitVec 32 := Scalar.divsi v175 c1_i32_62
  let v178 : BitVec 32 := Scalar.muli v177 c1_i32_62
  let v179 : BitVec 32 := Scalar.addi c0_i32_61 v178
  let v176 : BitVec 32 := Scalar.addi c0_i32_61 v175
  let c1_i32_64 : BitVec 32 := 1#32
  ⟨v179, v176, c1_i32_64⟩
def k0_off8 (i : grid0.Coords) (k0_t4 : Fin (k0_t4_loop i).trips) : Fin 3 → Nat :=
  let c0_i32_61 : BitVec 32 := 0#32
  let arg1 : BitVec 32 := BitVec.ofNat 32 (i 1).val
  let c1_i32_59 : BitVec 32 := 1#32
  let v173 : BitVec 32 := Scalar.addi arg1 c1_i32_59
  let v175 : BitVec 32 := Scalar.subi v173 c0_i32_61
  let c1_i32_62 : BitVec 32 := 1#32
  let v177 : BitVec 32 := Scalar.divsi v175 c1_i32_62
  let v178 : BitVec 32 := Scalar.muli v177 c1_i32_62
  let v179 : BitVec 32 := Scalar.addi c0_i32_61 v178
  let c1_i32_64 : BitVec 32 := 1#32
  let arg22 : BitVec 32 := Scf.iv v179 c1_i32_64 k0_t4
  let v349 : Index := Scalar.indexCast arg22
  let c0_149 : Index := 0#32
  let c0_150 : Index := 0#32
  ![v349.toNat, 0, 0]
@[reducible] def k0_t5_loop : Scf.Loop 32 :=
  let c0_i32_69 : BitVec 32 := 0#32
  let c31_i32 : BitVec 32 := 31#32
  let v193 : BitVec 32 := Scalar.addi c0_i32_69 c31_i32
  let c1_i32_70 : BitVec 32 := 1#32
  ⟨c0_i32_69, v193, c1_i32_70⟩
@[reducible] def k0_t6_loop (i : grid0.Coords) : Scf.Loop 32 :=
  let c0_i32_154 : BitVec 32 := 0#32
  let arg1 : BitVec 32 := BitVec.ofNat 32 (i 1).val
  let c1_i32_152 : BitVec 32 := 1#32
  let v359 : BitVec 32 := Scalar.addi arg1 c1_i32_152
  let v361 : BitVec 32 := Scalar.subi v359 c0_i32_154
  let c1_i32_155 : BitVec 32 := 1#32
  let v363 : BitVec 32 := Scalar.divsi v361 c1_i32_155
  let v364 : BitVec 32 := Scalar.muli v363 c1_i32_155
  let v365 : BitVec 32 := Scalar.addi c0_i32_154 v364
  let c1_i32_156 : BitVec 32 := 1#32
  ⟨c0_i32_154, v365, c1_i32_156⟩
def k0_off9 (i : grid0.Coords) (k0_t6 : Fin (k0_t6_loop i).trips) : Fin 3 → Nat :=
  let c0_i32_154 : BitVec 32 := 0#32
  let c1_i32_156 : BitVec 32 := 1#32
  let arg25 : BitVec 32 := Scf.iv c0_i32_154 c1_i32_156 k0_t6
  let v374 : Index := Scalar.indexCast arg25
  let c0_160 : Index := 0#32
  let c0_161 : Index := 0#32
  ![v374.toNat, 0, 0]
@[reducible] def k0_t7_loop (i : grid0.Coords) : Scf.Loop 32 :=
  let c0_i32_154 : BitVec 32 := 0#32
  let arg1 : BitVec 32 := BitVec.ofNat 32 (i 1).val
  let c1_i32_152 : BitVec 32 := 1#32
  let v359 : BitVec 32 := Scalar.addi arg1 c1_i32_152
  let v361 : BitVec 32 := Scalar.subi v359 c0_i32_154
  let c1_i32_155 : BitVec 32 := 1#32
  let v363 : BitVec 32 := Scalar.divsi v361 c1_i32_155
  let v364 : BitVec 32 := Scalar.muli v363 c1_i32_155
  let v365 : BitVec 32 := Scalar.addi c0_i32_154 v364
  let v362 : BitVec 32 := Scalar.addi c0_i32_154 v361
  let c1_i32_157 : BitVec 32 := 1#32
  ⟨v365, v362, c1_i32_157⟩
def k0_off10 (i : grid0.Coords) (k0_t7 : Fin (k0_t7_loop i).trips) : Fin 3 → Nat :=
  let c0_i32_154 : BitVec 32 := 0#32
  let arg1 : BitVec 32 := BitVec.ofNat 32 (i 1).val
  let c1_i32_152 : BitVec 32 := 1#32
  let v359 : BitVec 32 := Scalar.addi arg1 c1_i32_152
  let v361 : BitVec 32 := Scalar.subi v359 c0_i32_154
  let c1_i32_155 : BitVec 32 := 1#32
  let v363 : BitVec 32 := Scalar.divsi v361 c1_i32_155
  let v364 : BitVec 32 := Scalar.muli v363 c1_i32_155
  let v365 : BitVec 32 := Scalar.addi c0_i32_154 v364
  let c1_i32_157 : BitVec 32 := 1#32
  let arg25 : BitVec 32 := Scf.iv v365 c1_i32_157 k0_t7
  let v374 : Index := Scalar.indexCast arg25
  let c0_160 : Index := 0#32
  let c0_161 : Index := 0#32
  ![v374.toNat, 0, 0]
@[reducible] def k0_t8_loop (i : grid0.Coords) : Scf.Loop 32 :=
  let c0_i32_151 : BitVec 32 := 0#32
  let arg1 : BitVec 32 := BitVec.ofNat 32 (i 1).val
  let c1_i32_149 : BitVec 32 := 1#32
  let v349 : BitVec 32 := Scalar.addi arg1 c1_i32_149
  let v351 : BitVec 32 := Scalar.subi v349 c0_i32_151
  let c1_i32_152 : BitVec 32 := 1#32
  let v353 : BitVec 32 := Scalar.divsi v351 c1_i32_152
  let v354 : BitVec 32 := Scalar.muli v353 c1_i32_152
  let v355 : BitVec 32 := Scalar.addi c0_i32_151 v354
  let c1_i32_153 : BitVec 32 := 1#32
  ⟨c0_i32_151, v355, c1_i32_153⟩
def k0_off11 (i : grid0.Coords) (k0_t8 : Fin (k0_t8_loop i).trips) : Fin 3 → Nat :=
  let c0_i32_151 : BitVec 32 := 0#32
  let c1_i32_153 : BitVec 32 := 1#32
  let arg22 : BitVec 32 := Scf.iv c0_i32_151 c1_i32_153 k0_t8
  let v365 : Index := Scalar.indexCast arg22
  let c0_161 : Index := 0#32
  let c0_162 : Index := 0#32
  ![v365.toNat, 0, 0]
@[reducible] def k0_t9_loop (i : grid0.Coords) : Scf.Loop 32 :=
  let c0_i32_151 : BitVec 32 := 0#32
  let arg1 : BitVec 32 := BitVec.ofNat 32 (i 1).val
  let c1_i32_149 : BitVec 32 := 1#32
  let v349 : BitVec 32 := Scalar.addi arg1 c1_i32_149
  let v351 : BitVec 32 := Scalar.subi v349 c0_i32_151
  let c1_i32_152 : BitVec 32 := 1#32
  let v353 : BitVec 32 := Scalar.divsi v351 c1_i32_152
  let v354 : BitVec 32 := Scalar.muli v353 c1_i32_152
  let v355 : BitVec 32 := Scalar.addi c0_i32_151 v354
  let v352 : BitVec 32 := Scalar.addi c0_i32_151 v351
  let c1_i32_154 : BitVec 32 := 1#32
  ⟨v355, v352, c1_i32_154⟩
def k0_off12 (i : grid0.Coords) (k0_t9 : Fin (k0_t9_loop i).trips) : Fin 3 → Nat :=
  let c0_i32_151 : BitVec 32 := 0#32
  let arg1 : BitVec 32 := BitVec.ofNat 32 (i 1).val
  let c1_i32_149 : BitVec 32 := 1#32
  let v349 : BitVec 32 := Scalar.addi arg1 c1_i32_149
  let v351 : BitVec 32 := Scalar.subi v349 c0_i32_151
  let c1_i32_152 : BitVec 32 := 1#32
  let v353 : BitVec 32 := Scalar.divsi v351 c1_i32_152
  let v354 : BitVec 32 := Scalar.muli v353 c1_i32_152
  let v355 : BitVec 32 := Scalar.addi c0_i32_151 v354
  let c1_i32_154 : BitVec 32 := 1#32
  let arg22 : BitVec 32 := Scf.iv v355 c1_i32_154 k0_t9
  let v365 : Index := Scalar.indexCast arg22
  let c0_161 : Index := 0#32
  let c0_162 : Index := 0#32
  ![v365.toNat, 0, 0]
@[reducible] def k0_t10_loop : Scf.Loop 32 :=
  let c0_i32_158 : BitVec 32 := 0#32
  let c11_i32 : BitVec 32 := 11#32
  let v363 : BitVec 32 := Scalar.addi c0_i32_158 c11_i32
  let c1_i32_159 : BitVec 32 := 1#32
  ⟨c0_i32_158, v363, c1_i32_159⟩
@[reducible] def k0_t11_loop (i : grid0.Coords) : Scf.Loop 32 :=
  let c0_i32_164 : BitVec 32 := 0#32
  let arg1 : BitVec 32 := BitVec.ofNat 32 (i 1).val
  let c1_i32_162 : BitVec 32 := 1#32
  let v369 : BitVec 32 := Scalar.addi arg1 c1_i32_162
  let v371 : BitVec 32 := Scalar.subi v369 c0_i32_164
  let c1_i32_165 : BitVec 32 := 1#32
  let v373 : BitVec 32 := Scalar.divsi v371 c1_i32_165
  let v374 : BitVec 32 := Scalar.muli v373 c1_i32_165
  let v375 : BitVec 32 := Scalar.addi c0_i32_164 v374
  let c1_i32_166 : BitVec 32 := 1#32
  ⟨c0_i32_164, v375, c1_i32_166⟩
def k0_off13 (i : grid0.Coords) (k0_t11 : Fin (k0_t11_loop i).trips) : Fin 3 → Nat :=
  let c0_i32_164 : BitVec 32 := 0#32
  let c1_i32_166 : BitVec 32 := 1#32
  let arg24 : BitVec 32 := Scf.iv c0_i32_164 c1_i32_166 k0_t11
  let v382 : Index := Scalar.indexCast arg24
  let c0_169 : Index := 0#32
  let c0_170 : Index := 0#32
  ![v382.toNat, 0, 0]
@[reducible] def k0_t12_loop (i : grid0.Coords) : Scf.Loop 32 :=
  let c0_i32_164 : BitVec 32 := 0#32
  let arg1 : BitVec 32 := BitVec.ofNat 32 (i 1).val
  let c1_i32_162 : BitVec 32 := 1#32
  let v369 : BitVec 32 := Scalar.addi arg1 c1_i32_162
  let v371 : BitVec 32 := Scalar.subi v369 c0_i32_164
  let c1_i32_165 : BitVec 32 := 1#32
  let v373 : BitVec 32 := Scalar.divsi v371 c1_i32_165
  let v374 : BitVec 32 := Scalar.muli v373 c1_i32_165
  let v375 : BitVec 32 := Scalar.addi c0_i32_164 v374
  let v372 : BitVec 32 := Scalar.addi c0_i32_164 v371
  let c1_i32_167 : BitVec 32 := 1#32
  ⟨v375, v372, c1_i32_167⟩
def k0_off14 (i : grid0.Coords) (k0_t12 : Fin (k0_t12_loop i).trips) : Fin 3 → Nat :=
  let c0_i32_164 : BitVec 32 := 0#32
  let arg1 : BitVec 32 := BitVec.ofNat 32 (i 1).val
  let c1_i32_162 : BitVec 32 := 1#32
  let v369 : BitVec 32 := Scalar.addi arg1 c1_i32_162
  let v371 : BitVec 32 := Scalar.subi v369 c0_i32_164
  let c1_i32_165 : BitVec 32 := 1#32
  let v373 : BitVec 32 := Scalar.divsi v371 c1_i32_165
  let v374 : BitVec 32 := Scalar.muli v373 c1_i32_165
  let v375 : BitVec 32 := Scalar.addi c0_i32_164 v374
  let c1_i32_167 : BitVec 32 := 1#32
  let arg24 : BitVec 32 := Scf.iv v375 c1_i32_167 k0_t12
  let v382 : Index := Scalar.indexCast arg24
  let c0_169 : Index := 0#32
  let c0_170 : Index := 0#32
  ![v382.toNat, 0, 0]
@[reducible] def k0_t13_loop (i : grid0.Coords) : Scf.Loop 32 :=
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let c1_i32_107 : BitVec 32 := 1#32
  ⟨c0_i32_105, v278, c1_i32_107⟩
def k0_mult4 (i : grid0.Coords) (k0_t13 : Fin (k0_t13_loop i).trips) : BitVec 32 :=
  let c4_i32_149 : BitVec 32 := 4#32
  let c0_i32_105 : BitVec 32 := 0#32
  let c1_i32_107 : BitVec 32 := 1#32
  let arg22 : BitVec 32 := Scf.iv c0_i32_105 c1_i32_107 k0_t13
  let v349 : BitVec 32 := Scalar.muli c4_i32_149 arg22
  let c256_i32_150 : BitVec 32 := 256#32
  let v350 : BitVec 32 := Scalar.muli v349 c256_i32_150
  v350
def k0_off15 (i : grid0.Coords) (k0_t13 : Fin (k0_t13_loop i).trips) (c0_i32_151 : BitVec 32) : Fin 3 → Nat :=
  let c4_i32_149 : BitVec 32 := 4#32
  let c0_i32_105 : BitVec 32 := 0#32
  let c1_i32_107 : BitVec 32 := 1#32
  let arg22 : BitVec 32 := Scf.iv c0_i32_105 c1_i32_107 k0_t13
  let v349 : BitVec 32 := Scalar.muli c4_i32_149 arg22
  let v352 : BitVec 32 := Scalar.addi v349 c0_i32_151
  let v353 : Index := Scalar.indexCast v352
  let c0_152 : Index := 0#32
  let c0_153 : Index := 0#32
  ![v353.toNat, 0, 0]
def k0_off16 (i : grid0.Coords) (k0_t13 : Fin (k0_t13_loop i).trips) : Fin 2 → Nat :=
  let c4_i32_149 : BitVec 32 := 4#32
  let c0_i32_105 : BitVec 32 := 0#32
  let c1_i32_107 : BitVec 32 := 1#32
  let arg22 : BitVec 32 := Scf.iv c0_i32_105 c1_i32_107 k0_t13
  let v349 : BitVec 32 := Scalar.muli c4_i32_149 arg22
  let c256_i32_150 : BitVec 32 := 256#32
  let v350 : BitVec 32 := Scalar.muli v349 c256_i32_150
  let v351 : BitVec 32 := v350
  let v388 : Index := Scalar.indexCast v351
  let c0_169 : Index := 0#32
  ![v388.toNat, 0]
def k0_off17 (i : grid0.Coords) (k0_t13 : Fin (k0_t13_loop i).trips) : Fin 2 → Nat :=
  let c4_i32_149 : BitVec 32 := 4#32
  let c0_i32_105 : BitVec 32 := 0#32
  let c1_i32_107 : BitVec 32 := 1#32
  let arg22 : BitVec 32 := Scf.iv c0_i32_105 c1_i32_107 k0_t13
  let v349 : BitVec 32 := Scalar.muli c4_i32_149 arg22
  let c256_i32_150 : BitVec 32 := 256#32
  let v350 : BitVec 32 := Scalar.muli v349 c256_i32_150
  let v351 : BitVec 32 := v350
  let v400 : Index := Scalar.indexCast v351
  let c0_171 : Index := 0#32
  ![v400.toNat, 0]
@[reducible] def k0_t14_loop (i : grid0.Coords) : Scf.Loop 32 :=
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let v275 : BitVec 32 := Scalar.addi c0_i32_105 v274
  let c1_i32_108 : BitVec 32 := 1#32
  ⟨v278, v275, c1_i32_108⟩
def k0_mult5 (i : grid0.Coords) (k0_t14 : Fin (k0_t14_loop i).trips) : BitVec 32 :=
  let c4_i32_149 : BitVec 32 := 4#32
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let c1_i32_108 : BitVec 32 := 1#32
  let arg22 : BitVec 32 := Scf.iv v278 c1_i32_108 k0_t14
  let v349 : BitVec 32 := Scalar.muli c4_i32_149 arg22
  let c256_i32_150 : BitVec 32 := 256#32
  let v350 : BitVec 32 := Scalar.muli v349 c256_i32_150
  v350
def k0_off18 (i : grid0.Coords) (k0_t14 : Fin (k0_t14_loop i).trips) (c0_i32_151 : BitVec 32) : Fin 3 → Nat :=
  let c4_i32_149 : BitVec 32 := 4#32
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let c1_i32_108 : BitVec 32 := 1#32
  let arg22 : BitVec 32 := Scf.iv v278 c1_i32_108 k0_t14
  let v349 : BitVec 32 := Scalar.muli c4_i32_149 arg22
  let v352 : BitVec 32 := Scalar.addi v349 c0_i32_151
  let v353 : Index := Scalar.indexCast v352
  let c0_152 : Index := 0#32
  let c0_153 : Index := 0#32
  ![v353.toNat, 0, 0]
def k0_off19 (i : grid0.Coords) (k0_t14 : Fin (k0_t14_loop i).trips) : Fin 2 → Nat :=
  let c4_i32_149 : BitVec 32 := 4#32
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let c1_i32_108 : BitVec 32 := 1#32
  let arg22 : BitVec 32 := Scf.iv v278 c1_i32_108 k0_t14
  let v349 : BitVec 32 := Scalar.muli c4_i32_149 arg22
  let c256_i32_150 : BitVec 32 := 256#32
  let v350 : BitVec 32 := Scalar.muli v349 c256_i32_150
  let v351 : BitVec 32 := v350
  let v388 : Index := Scalar.indexCast v351
  let c0_169 : Index := 0#32
  ![v388.toNat, 0]
def k0_off20 (i : grid0.Coords) (k0_t14 : Fin (k0_t14_loop i).trips) : Fin 2 → Nat :=
  let c4_i32_149 : BitVec 32 := 4#32
  let c0_i32_105 : BitVec 32 := 0#32
  let arg1 : BitVec 32 := BitVec.ofNat 32 (i 1).val
  let c1_i32_88 : BitVec 32 := 1#32
  let v241 : BitVec 32 := Scalar.addi arg1 c1_i32_88
  let c0_i32_92 : BitVec 32 := 0#32
  let v245 : BitVec 1 := Scalar.cmpi .sgt v241 c0_i32_92
  let v246 : BitVec 32 := Scalar.extui v245
  let c0_i32_93 : BitVec 32 := 0#32
  let v247 : BitVec 1 := Scalar.cmpi .slt v241 c0_i32_93
  let v248 : BitVec 32 := Scalar.extui v247
  let v249 : BitVec 32 := Scalar.subi v246 v248
  let c4_i32_91 : BitVec 32 := 4#32
  let c0_i32_94 : BitVec 32 := 0#32
  let v250 : BitVec 1 := Scalar.cmpi .sgt c4_i32_91 c0_i32_94
  let v251 : BitVec 32 := Scalar.extui v250
  let c0_i32_95 : BitVec 32 := 0#32
  let v252 : BitVec 1 := Scalar.cmpi .slt c4_i32_91 c0_i32_95
  let v253 : BitVec 32 := Scalar.extui v252
  let v254 : BitVec 32 := Scalar.subi v251 v253
  let v255 : BitVec 1 := Scalar.cmpi .ne v249 v254
  let v256 : BitVec 32 := Scalar.remsi v241 c4_i32_91
  let c0_i32_96 : BitVec 32 := 0#32
  let v257 : BitVec 1 := Scalar.cmpi .ne v256 c0_i32_96
  let v258 : BitVec 1 := Scalar.andi v255 v257
  let v244 : BitVec 32 := Scalar.divsi v241 c4_i32_91
  let c1_i32_97 : BitVec 32 := 1#32
  let v259 : BitVec 32 := Scalar.subi v244 c1_i32_97
  let v260 : BitVec 32 := Scalar.select v258 v259 v244
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_104 : BitVec 32 := 0#32
  let v271 : BitVec 1 := Scalar.cmpi .eq v270 c0_i32_104
  let v272 : BitVec 32 := Scalar.extui v271
  let v273 : BitVec 32 := Scalar.subi v260 v272
  let v274 : BitVec 32 := Scalar.subi v273 c0_i32_105
  let c1_i32_106 : BitVec 32 := 1#32
  let v276 : BitVec 32 := Scalar.divsi v274 c1_i32_106
  let v277 : BitVec 32 := Scalar.muli v276 c1_i32_106
  let v278 : BitVec 32 := Scalar.addi c0_i32_105 v277
  let c1_i32_108 : BitVec 32 := 1#32
  let arg22 : BitVec 32 := Scf.iv v278 c1_i32_108 k0_t14
  let v349 : BitVec 32 := Scalar.muli c4_i32_149 arg22
  let c256_i32_150 : BitVec 32 := 256#32
  let v350 : BitVec 32 := Scalar.muli v349 c256_i32_150
  let v351 : BitVec 32 := v350
  let v400 : Index := Scalar.indexCast v351
  let c0_171 : Index := 0#32
  ![v400.toNat, 0]
@[reducible] def k0_t15_loop (i : grid0.Coords) : Scf.Loop 32 :=
  let c0_i32_110 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_109 : BitVec 32 := 0#32
  let v281 : BitVec 1 := Scalar.cmpi .eq v270 c0_i32_109
  let v282 : BitVec 32 := Scalar.extui v281
  let v283 : BitVec 32 := Scalar.subi v282 c0_i32_110
  let c1_i32_111 : BitVec 32 := 1#32
  let v285 : BitVec 32 := Scalar.divsi v283 c1_i32_111
  let v286 : BitVec 32 := Scalar.muli v285 c1_i32_111
  let v287 : BitVec 32 := Scalar.addi c0_i32_110 v286
  let c1_i32_112 : BitVec 32 := 1#32
  ⟨c0_i32_110, v287, c1_i32_112⟩
def k0_mult6 (i : grid0.Coords) : BitVec 32 :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  v350
def k0_off21 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let v352 : BitVec 32 := Scalar.addi v349 c0_i32_151
  let v353 : Index := Scalar.indexCast v352
  let c0_152 : Index := 0#32
  let c0_153 : Index := 0#32
  ![v353.toNat, 0, 0]
def k0_off22 (i : grid0.Coords) : Fin 2 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  let v351 : BitVec 32 := v350
  let v396 : Index := Scalar.indexCast v351
  let c0_172 : Index := 0#32
  ![v396.toNat, 0]
def k0_off23 (i : grid0.Coords) : Fin 2 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  let v351 : BitVec 32 := v350
  let v408 : Index := Scalar.indexCast v351
  let c0_174 : Index := 0#32
  ![v408.toNat, 0]
@[reducible] def k0_t16_loop (i : grid0.Coords) : Scf.Loop 32 :=
  let c0_i32_110 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c0_i32_109 : BitVec 32 := 0#32
  let v281 : BitVec 1 := Scalar.cmpi .eq v270 c0_i32_109
  let v282 : BitVec 32 := Scalar.extui v281
  let v283 : BitVec 32 := Scalar.subi v282 c0_i32_110
  let c1_i32_111 : BitVec 32 := 1#32
  let v285 : BitVec 32 := Scalar.divsi v283 c1_i32_111
  let v286 : BitVec 32 := Scalar.muli v285 c1_i32_111
  let v287 : BitVec 32 := Scalar.addi c0_i32_110 v286
  let v284 : BitVec 32 := Scalar.addi c0_i32_110 v283
  let c1_i32_113 : BitVec 32 := 1#32
  ⟨v287, v284, c1_i32_113⟩
def k0_mult7 (i : grid0.Coords) : BitVec 32 :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  v350
def k0_off24 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let v352 : BitVec 32 := Scalar.addi v349 c0_i32_151
  let v353 : Index := Scalar.indexCast v352
  let c0_152 : Index := 0#32
  let c0_153 : Index := 0#32
  ![v353.toNat, 0, 0]
def k0_off25 (i : grid0.Coords) : Fin 2 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  let v351 : BitVec 32 := v350
  let v396 : Index := Scalar.indexCast v351
  let c0_172 : Index := 0#32
  ![v396.toNat, 0]
def k0_off26 (i : grid0.Coords) : Fin 2 → Nat :=
  let arg1 : BitVec 32 := BitVec.ofNat 32 (i 1).val
  let c1_i32_88 : BitVec 32 := 1#32
  let v241 : BitVec 32 := Scalar.addi arg1 c1_i32_88
  let c4_i32_149 : BitVec 32 := 4#32
  let v349 : BitVec 32 := Scalar.subi v241 c4_i32_149
  let c256_i32_150 : BitVec 32 := 256#32
  let v350 : BitVec 32 := Scalar.muli v349 c256_i32_150
  let v351 : BitVec 32 := v350
  let v408 : Index := Scalar.indexCast v351
  let c0_174 : Index := 0#32
  ![v408.toNat, 0]
@[reducible] def k0_t17_loop (i : grid0.Coords) : Scf.Loop 32 :=
  let c0_i32_115 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c3_i32_114 : BitVec 32 := 3#32
  let v290 : BitVec 1 := Scalar.cmpi .eq v270 c3_i32_114
  let v291 : BitVec 32 := Scalar.extui v290
  let v292 : BitVec 32 := Scalar.subi v291 c0_i32_115
  let c1_i32_116 : BitVec 32 := 1#32
  let v294 : BitVec 32 := Scalar.divsi v292 c1_i32_116
  let v295 : BitVec 32 := Scalar.muli v294 c1_i32_116
  let v296 : BitVec 32 := Scalar.addi c0_i32_115 v295
  let c1_i32_117 : BitVec 32 := 1#32
  ⟨c0_i32_115, v296, c1_i32_117⟩
def k0_mult8 (i : grid0.Coords) : BitVec 32 :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  v350
def k0_off27 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let v352 : BitVec 32 := Scalar.addi v349 c0_i32_151
  let v353 : Index := Scalar.indexCast v352
  let c0_152 : Index := 0#32
  let c0_153 : Index := 0#32
  ![v353.toNat, 0, 0]
def k0_off28 (i : grid0.Coords) : Fin 2 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  let v351 : BitVec 32 := v350
  let v380 : Index := Scalar.indexCast v351
  let c0_163 : Index := 0#32
  ![v380.toNat, 0]
def k0_off29 (i : grid0.Coords) : Fin 2 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  let v351 : BitVec 32 := v350
  let v392 : Index := Scalar.indexCast v351
  let c0_165 : Index := 0#32
  ![v392.toNat, 0]
@[reducible] def k0_t18_loop (i : grid0.Coords) : Scf.Loop 32 :=
  let c0_i32_115 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c3_i32_114 : BitVec 32 := 3#32
  let v290 : BitVec 1 := Scalar.cmpi .eq v270 c3_i32_114
  let v291 : BitVec 32 := Scalar.extui v290
  let v292 : BitVec 32 := Scalar.subi v291 c0_i32_115
  let c1_i32_116 : BitVec 32 := 1#32
  let v294 : BitVec 32 := Scalar.divsi v292 c1_i32_116
  let v295 : BitVec 32 := Scalar.muli v294 c1_i32_116
  let v296 : BitVec 32 := Scalar.addi c0_i32_115 v295
  let v293 : BitVec 32 := Scalar.addi c0_i32_115 v292
  let c1_i32_118 : BitVec 32 := 1#32
  ⟨v296, v293, c1_i32_118⟩
def k0_mult9 (i : grid0.Coords) : BitVec 32 :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  v350
def k0_off30 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let v352 : BitVec 32 := Scalar.addi v349 c0_i32_151
  let v353 : Index := Scalar.indexCast v352
  let c0_152 : Index := 0#32
  let c0_153 : Index := 0#32
  ![v353.toNat, 0, 0]
def k0_off31 (i : grid0.Coords) : Fin 2 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  let v351 : BitVec 32 := v350
  let v380 : Index := Scalar.indexCast v351
  let c0_163 : Index := 0#32
  ![v380.toNat, 0]
def k0_off32 (i : grid0.Coords) : Fin 2 → Nat :=
  let arg1 : BitVec 32 := BitVec.ofNat 32 (i 1).val
  let c1_i32_88 : BitVec 32 := 1#32
  let v241 : BitVec 32 := Scalar.addi arg1 c1_i32_88
  let c3_i32_149 : BitVec 32 := 3#32
  let v349 : BitVec 32 := Scalar.subi v241 c3_i32_149
  let c256_i32_150 : BitVec 32 := 256#32
  let v350 : BitVec 32 := Scalar.muli v349 c256_i32_150
  let v351 : BitVec 32 := v350
  let v392 : Index := Scalar.indexCast v351
  let c0_165 : Index := 0#32
  ![v392.toNat, 0]
@[reducible] def k0_t19_loop (i : grid0.Coords) : Scf.Loop 32 :=
  let c0_i32_120 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c2_i32_119 : BitVec 32 := 2#32
  let v299 : BitVec 1 := Scalar.cmpi .eq v270 c2_i32_119
  let v300 : BitVec 32 := Scalar.extui v299
  let v301 : BitVec 32 := Scalar.subi v300 c0_i32_120
  let c1_i32_121 : BitVec 32 := 1#32
  let v303 : BitVec 32 := Scalar.divsi v301 c1_i32_121
  let v304 : BitVec 32 := Scalar.muli v303 c1_i32_121
  let v305 : BitVec 32 := Scalar.addi c0_i32_120 v304
  let c1_i32_122 : BitVec 32 := 1#32
  ⟨c0_i32_120, v305, c1_i32_122⟩
def k0_mult10 (i : grid0.Coords) : BitVec 32 :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  v350
def k0_off33 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let v352 : BitVec 32 := Scalar.addi v349 c0_i32_151
  let v353 : Index := Scalar.indexCast v352
  let c0_152 : Index := 0#32
  let c0_153 : Index := 0#32
  ![v353.toNat, 0, 0]
def k0_off34 (i : grid0.Coords) : Fin 2 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  let v351 : BitVec 32 := v350
  let v388 : Index := Scalar.indexCast v351
  let c0_166 : Index := 0#32
  ![v388.toNat, 0]
def k0_off35 (i : grid0.Coords) : Fin 2 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  let v351 : BitVec 32 := v350
  let v400 : Index := Scalar.indexCast v351
  let c0_168 : Index := 0#32
  ![v400.toNat, 0]
@[reducible] def k0_t20_loop (i : grid0.Coords) : Scf.Loop 32 :=
  let c0_i32_120 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c2_i32_119 : BitVec 32 := 2#32
  let v299 : BitVec 1 := Scalar.cmpi .eq v270 c2_i32_119
  let v300 : BitVec 32 := Scalar.extui v299
  let v301 : BitVec 32 := Scalar.subi v300 c0_i32_120
  let c1_i32_121 : BitVec 32 := 1#32
  let v303 : BitVec 32 := Scalar.divsi v301 c1_i32_121
  let v304 : BitVec 32 := Scalar.muli v303 c1_i32_121
  let v305 : BitVec 32 := Scalar.addi c0_i32_120 v304
  let v302 : BitVec 32 := Scalar.addi c0_i32_120 v301
  let c1_i32_123 : BitVec 32 := 1#32
  ⟨v305, v302, c1_i32_123⟩
def k0_mult11 (i : grid0.Coords) : BitVec 32 :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  v350
def k0_off36 (i : grid0.Coords) (c0_i32_151 : BitVec 32) : Fin 3 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let v352 : BitVec 32 := Scalar.addi v349 c0_i32_151
  let v353 : Index := Scalar.indexCast v352
  let c0_152 : Index := 0#32
  let c0_153 : Index := 0#32
  ![v353.toNat, 0, 0]
def k0_off37 (i : grid0.Coords) : Fin 2 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  let v351 : BitVec 32 := v350
  let v388 : Index := Scalar.indexCast v351
  let c0_166 : Index := 0#32
  ![v388.toNat, 0]
def k0_off38 (i : grid0.Coords) : Fin 2 → Nat :=
  let arg1 : BitVec 32 := BitVec.ofNat 32 (i 1).val
  let c1_i32_88 : BitVec 32 := 1#32
  let v241 : BitVec 32 := Scalar.addi arg1 c1_i32_88
  let c2_i32_149 : BitVec 32 := 2#32
  let v349 : BitVec 32 := Scalar.subi v241 c2_i32_149
  let c256_i32_150 : BitVec 32 := 256#32
  let v350 : BitVec 32 := Scalar.muli v349 c256_i32_150
  let v351 : BitVec 32 := v350
  let v400 : Index := Scalar.indexCast v351
  let c0_168 : Index := 0#32
  ![v400.toNat, 0]
@[reducible] def k0_t21_loop (i : grid0.Coords) : Scf.Loop 32 :=
  let c0_i32_126 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c1_i32_124 : BitVec 32 := 1#32
  let v308 : BitVec 1 := Scalar.cmpi .eq v270 c1_i32_124
  let c3_i32_125 : BitVec 32 := 3#32
  let v309 : BitVec 1 := Scalar.cmpi .eq v270 c3_i32_125
  let v310 : BitVec 1 := Scalar.ori v308 v309
  let v311 : BitVec 32 := Scalar.extui v310
  let v312 : BitVec 32 := Scalar.subi v311 c0_i32_126
  let c1_i32_127 : BitVec 32 := 1#32
  let v314 : BitVec 32 := Scalar.divsi v312 c1_i32_127
  let v315 : BitVec 32 := Scalar.muli v314 c1_i32_127
  let v316 : BitVec 32 := Scalar.addi c0_i32_126 v315
  let c1_i32_128 : BitVec 32 := 1#32
  ⟨c0_i32_126, v316, c1_i32_128⟩
def k0_mult12 (i : grid0.Coords) : BitVec 32 :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  v350
def k0_off39 (i : grid0.Coords) : Fin 3 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c0_i32_151 : BitVec 32 := 0#32
  let v352 : BitVec 32 := Scalar.addi v349 c0_i32_151
  let v353 : Index := Scalar.indexCast v352
  let c0_152 : Index := 0#32
  let c0_153 : Index := 0#32
  ![v353.toNat, 0, 0]
def k0_off40 (i : grid0.Coords) : Fin 2 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  let v351 : BitVec 32 := v350
  let v380 : Index := Scalar.indexCast v351
  let c0_163 : Index := 0#32
  ![v380.toNat, 0]
def k0_off41 (i : grid0.Coords) : Fin 2 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  let v351 : BitVec 32 := v350
  let v392 : Index := Scalar.indexCast v351
  let c0_165 : Index := 0#32
  ![v392.toNat, 0]
@[reducible] def k0_t22_loop (i : grid0.Coords) : Scf.Loop 32 :=
  let c0_i32_126 : BitVec 32 := 0#32
  let arg1 : BitVec 32 := BitVec.ofNat 32 (i 1).val
  let c1_i32_88 : BitVec 32 := 1#32
  let v241 : BitVec 32 := Scalar.addi arg1 c1_i32_88
  let c4_i32_98 : BitVec 32 := 4#32
  let c0_i32_99 : BitVec 32 := 0#32
  let v261 : BitVec 1 := Scalar.cmpi .eq c4_i32_98 c0_i32_99
  let c1_i32_100 : BitVec 32 := 1#32
  let v262 : BitVec 32 := Scalar.select v261 c1_i32_100 c4_i32_98
  let v263 : BitVec 32 := Scalar.remsi v241 v262
  let c0_i32_102 : BitVec 32 := 0#32
  let v265 : BitVec 1 := Scalar.cmpi .slt v263 c0_i32_102
  let c0_i32_103 : BitVec 32 := 0#32
  let v266 : BitVec 1 := Scalar.cmpi .slt v262 c0_i32_103
  let v267 : BitVec 1 := Scalar.xori v265 v266
  let c0_i32_101 : BitVec 32 := 0#32
  let v264 : BitVec 1 := Scalar.cmpi .ne v263 c0_i32_101
  let v268 : BitVec 1 := Scalar.andi v267 v264
  let v269 : BitVec 32 := Scalar.addi v263 v262
  let v270 : BitVec 32 := Scalar.select v268 v269 v263
  let c1_i32_124 : BitVec 32 := 1#32
  let v308 : BitVec 1 := Scalar.cmpi .eq v270 c1_i32_124
  let c3_i32_125 : BitVec 32 := 3#32
  let v309 : BitVec 1 := Scalar.cmpi .eq v270 c3_i32_125
  let v310 : BitVec 1 := Scalar.ori v308 v309
  let v311 : BitVec 32 := Scalar.extui v310
  let v312 : BitVec 32 := Scalar.subi v311 c0_i32_126
  let c1_i32_127 : BitVec 32 := 1#32
  let v314 : BitVec 32 := Scalar.divsi v312 c1_i32_127
  let v315 : BitVec 32 := Scalar.muli v314 c1_i32_127
  let v316 : BitVec 32 := Scalar.addi c0_i32_126 v315
  let v313 : BitVec 32 := Scalar.addi c0_i32_126 v312
  let c1_i32_129 : BitVec 32 := 1#32
  ⟨v316, v313, c1_i32_129⟩
def k0_mult13 (i : grid0.Coords) : BitVec 32 :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  v350
def k0_off42 (i : grid0.Coords) : Fin 3 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c0_i32_151 : BitVec 32 := 0#32
  let v352 : BitVec 32 := Scalar.addi v349 c0_i32_151
  let v353 : Index := Scalar.indexCast v352
  let c0_152 : Index := 0#32
  let c0_153 : Index := 0#32
  ![v353.toNat, 0, 0]
def k0_off43 (i : grid0.Coords) : Fin 2 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  let v351 : BitVec 32 := v350
  let v380 : Index := Scalar.indexCast v351
  let c0_163 : Index := 0#32
  ![v380.toNat, 0]
def k0_off44 (i : grid0.Coords) : Fin 2 → Nat :=
  let arg1 : BitVec 32 := BitVec.ofNat 32 (i 1).val
  let c1_i32_88 : BitVec 32 := 1#32
  let v241 : BitVec 32 := Scalar.addi arg1 c1_i32_88
  let c1_i32_149 : BitVec 32 := 1#32
  let v349 : BitVec 32 := Scalar.subi v241 c1_i32_149
  let c256_i32_150 : BitVec 32 := 256#32
  let v350 : BitVec 32 := Scalar.muli v349 c256_i32_150
  let v351 : BitVec 32 := v350
  let v392 : Index := Scalar.indexCast v351
  let c0_165 : Index := 0#32
  ![v392.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "big" => some ⊤
  | "mask" => some ⊥
  | "scale" => some (((8 * (Real.log 2))⁻¹ : ℝ) : EReal)
  | _ => none
-- ==== Kernel2.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x6616 : Shape := ⟨2, ![1024, 6616]⟩
abbrev S8x2048x256 : Shape := ⟨3, ![8, 2048, 256]⟩
abbrev S4x256x1024 : Shape := ⟨3, ![4, 256, 1024]⟩
abbrev S1024x1024 : Shape := ⟨2, ![1024, 1024]⟩
abbrev S16384x256 : Shape := ⟨2, ![16384, 256]⟩
abbrev S16384x1024 : Shape := ⟨2, ![16384, 1024]⟩
abbrev S1x1024 : Shape := ⟨2, ![1, 1024]⟩
abbrev S1024x4096 : Shape := ⟨2, ![1024, 4096]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 24
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6616, .f32⟩
  | .hbm, ⟨3, _⟩ => ⟨S8x2048x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S4x256x1024, .f32⟩
  | .hbm, ⟨8, _⟩ => ⟨S1024x1024, .f32⟩
  | .hbm, ⟨9, _⟩ => ⟨S16384x256, .f32⟩
  | .hbm, ⟨10, _⟩ => ⟨S16384x256, .bf16⟩
  | .hbm, ⟨11, _⟩ => ⟨S16384x256, .f32⟩
  | .hbm, ⟨12, _⟩ => ⟨S16384x256, .bf16⟩
  | .hbm, ⟨13, _⟩ => ⟨S16384x256, .f32⟩
  | .hbm, ⟨14, _⟩ => ⟨S16384x256, .bf16⟩
  | .hbm, ⟨15, _⟩ => ⟨S16384x256, .f32⟩
  | .hbm, ⟨16, _⟩ => ⟨S16384x256, .bf16⟩
  | .hbm, ⟨17, _⟩ => ⟨S16384x1024, .f32⟩
  | .hbm, ⟨18, _⟩ => ⟨S1x1024, .f32⟩
  | .hbm, ⟨19, _⟩ => ⟨S1024x4096, .f32⟩
  | .hbm, ⟨20, _⟩ => ⟨S1024x4096, .bf16⟩
  | .hbm, ⟨21, _⟩ => ⟨S4x256x1024, .bf16⟩
  | .hbm, ⟨22, _⟩ => ⟨S1024x1024, .bf16⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x2048x1024 : Shape := ⟨3, ![8, 2048, 1024]⟩
abbrev S1024 : Shape := ⟨1, ![1024]⟩
abbrev S1024x6616 : Shape := ⟨2, ![1024, 6616]⟩
abbrev S8x2048x256 : Shape := ⟨3, ![8, 2048, 256]⟩
abbrev S4x256x1024 : Shape := ⟨3, ![4, 256, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6616 : Shape := ⟨3, ![8, 2048, 6616]⟩
abbrev S8x2048x4096 : Shape := ⟨3, ![8, 2048, 4096]⟩
abbrev S8x2048x1x256 : Shape := ⟨4, ![8, 2048, 1, 256]⟩
abbrev S8x2048x4x256 : Shape := ⟨4, ![8, 2048, 4, 256]⟩
abbrev S4x1024x8x2048 : Shape := ⟨4, ![4, 1024, 8, 2048]⟩
abbrev S8x2048x4x1024 : Shape := ⟨4, ![8, 2048, 4, 1024]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6616, .f32⟩
  | .hbm, ⟨3, _⟩ => ⟨S8x2048x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S4x256x1024, .f32⟩
  | .hbm, ⟨8, _⟩ => ⟨S1024x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x6616, .f32⟩
  | .hbm, ⟨26, _⟩ => ⟨S8x2048x4096, .f32⟩
  | .hbm, ⟨27, _⟩ => ⟨S8x2048x1x256, .f32⟩
  | .hbm, ⟨28, _⟩ => ⟨S8x2048x1x256, .f32⟩
  | .hbm, ⟨29, _⟩ => ⟨S8x2048x1x256, .f32⟩
  | .hbm, ⟨30, _⟩ => ⟨S8x2048x1x256, .f32⟩
  | .hbm, ⟨31, _⟩ => ⟨S8x2048x4x256, .f32⟩
  | .hbm, ⟨32, _⟩ => ⟨S4x1024x8x2048, .f32⟩
  | .hbm, ⟨33, _⟩ => ⟨S8x2048x4x1024, .f32⟩
  | .hbm, ⟨34, _⟩ => ⟨S8x2048x4x1024, .f32⟩
  | .hbm, ⟨35, _⟩ => ⟨S8x2048x4x1024, .f32⟩
  | .hbm, ⟨36, _⟩ => ⟨S8x2048x4x1024, .f32⟩
  | .hbm, ⟨37, _⟩ => ⟨S_, .f32⟩
  | .hbm, ⟨38, _⟩ => ⟨S8x2048x4x1024, .f32⟩
  | .hbm, ⟨39, _⟩ => ⟨S8x2048x4x1024, .f32⟩
  | .hbm, ⟨40, _⟩ => ⟨S_, .f32⟩
  | .hbm, ⟨41, _⟩ => ⟨S8x2048x4x1024, .f32⟩
  | .hbm, ⟨42, _⟩ => ⟨S8x2048x4x1024, .f32⟩
  | .hbm, ⟨43, _⟩ => ⟨S8x2048x4x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048 : Shape := ⟨2, ![8, 2048]⟩
abbrev S1024 : Shape := ⟨1, ![1024]⟩
abbrev S1024x6616 : Shape := ⟨2, ![1024, 6616]⟩
abbrev S256 : Shape := ⟨1, ![256]⟩
abbrev S256x384 : Shape := ⟨2, ![256, 384]⟩
abbrev S128 : Shape := ⟨1, ![128]⟩
abbrev S128x512 : Shape := ⟨2, ![128, 512]⟩
abbrev S4 : Shape := ⟨1, ![4]⟩
abbrev S16384 : Shape := ⟨1, ![16384]⟩
abbrev S1x16384 : Shape := ⟨2, ![1, 16384]⟩
abbrev S16 : Shape := ⟨1, ![16]⟩
abbrev S_ : Shape := ⟨0, ![]⟩
abbrev S8 : Shape := ⟨1, ![8]⟩
abbrev S28 : Shape := ⟨1, ![28]⟩
abbrev S28x1 : Shape := ⟨2, ![28, 1]⟩
abbrev S28x16384 : Shape := ⟨2, ![28, 16384]⟩
abbrev S16x16384 : Shape := ⟨2, ![16, 16384]⟩
abbrev S8x16384 : Shape := ⟨2, ![8, 16384]⟩
abbrev S4x16384 : Shape := ⟨2, ![4, 16384]⟩
abbrev S64x16384 : Shape := ⟨2, ![64, 16384]⟩
abbrev S256x16384 : Shape := ⟨2, ![256, 16384]⟩
abbrev S16384x256 : Shape := ⟨2, ![16384, 256]⟩
abbrev S64x768 : Shape := ⟨2, ![64, 768]⟩
abbrev S256x768 : Shape := ⟨2, ![256, 768]⟩
abbrev S1024x2520 : Shape := ⟨2, ![1024, 2520]⟩
abbrev S1024x384 : Shape := ⟨2, ![1024, 384]⟩
abbrev S1024x64 : Shape := ⟨2, ![1024, 64]⟩
abbrev S1024x32 : Shape := ⟨2, ![1024, 32]⟩
abbrev S1024x256 : Shape := ⟨2, ![1024, 256]⟩
abbrev S1024x128 : Shape := ⟨2, ![1024, 128]⟩
abbrev S1024x12 : Shape := ⟨2, ![1024, 12]⟩
abbrev S1024x116 : Shape := ⟨2, ![1024, 116]⟩
abbrev S1024x8 : Shape := ⟨2, ![1024, 8]⟩
abbrev S1024x120 : Shape := ⟨2, ![1024, 120]⟩
abbrev S1024x516 : Shape := ⟨2, ![1024, 516]⟩
abbrev S1024x124 : Shape := ⟨2, ![1024, 124]⟩
abbrev S1024x2016 : Shape := ⟨2, ![1024, 2016]⟩
abbrev S1024x1184 : Shape := ⟨2, ![1024, 1184]⟩
abbrev S1024x3200 : Shape := ⟨2, ![1024, 3200]⟩
abbrev S256x96 : Shape := ⟨2, ![256, 96]⟩
abbrev S256x32 : Shape := ⟨2, ![256, 32]⟩
abbrev S256x512 : Shape := ⟨2, ![256, 512]⟩
abbrev S128x64 : Shape := ⟨2, ![128, 64]⟩
abbrev S128x256 : Shape := ⟨2, ![128, 256]⟩
abbrev S1x4 : Shape := ⟨2, ![1, 4]⟩
abbrev S1x124 : Shape := ⟨2, ![1, 124]⟩
abbrev S1x128 : Shape := ⟨2, ![1, 128]⟩
abbrev S16384x1024 : Shape := ⟨2, ![16384, 1024]⟩
abbrev S1x1024 : Shape := ⟨2, ![1, 1024]⟩
abbrev S1x256 : Shape := ⟨2, ![1, 256]⟩
abbrev S16384x1280 : Shape := ⟨2, ![16384, 1280]⟩
abbrev S16384x896 : Shape := ⟨2, ![16384, 896]⟩
abbrev S16384x128 : Shape := ⟨2, ![16384, 128]⟩
abbrev S16384x512 : Shape := ⟨2, ![16384, 512]⟩
abbrev S16384x384 : Shape := ⟨2, ![16384, 384]⟩
abbrev S16384x768 : Shape := ⟨2, ![16384, 768]⟩
abbrev S256x1024 : Shape := ⟨2, ![256, 1024]⟩
abbrev S256x256 : Shape := ⟨2, ![256, 256]⟩
abbrev S256x1280 : Shape := ⟨2, ![256, 1280]⟩
abbrev S256x896 : Shape := ⟨2, ![256, 896]⟩
abbrev S256x128 : Shape := ⟨2, ![256, 128]⟩
abbrev S8x128 : Shape := ⟨2, ![8, 128]⟩
abbrev S256x1 : Shape := ⟨2, ![256, 1]⟩
abbrev S256x3200 : Shape := ⟨2, ![256, 3200]⟩

abbrev nBuf : Space → Nat
  | .hbm => 441
  | .vmem => 26
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x6616, .f32⟩
  | 4 => ⟨S256, .f32⟩
  | 5 => ⟨S256x384, .f32⟩
  | 6 => ⟨S128, .f32⟩
  | 7 => ⟨S128x512, .f32⟩
  | 8 => ⟨S4, .f32⟩
  | 9 => ⟨S8x2048, .f32⟩
  | 10 => ⟨S16384, .f32⟩
  | 11 => ⟨S1x16384, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .f32⟩
  | 54 => ⟨S28, .f32⟩
  | 55 => ⟨S28x1, .f32⟩
  | 56 => ⟨S28x16384, .f32⟩
  | 57 => ⟨S28x16384, .f32⟩
  | 58 => ⟨S28x16384, .f32⟩
  | 59 => ⟨S28x16384, .f32⟩
  | 60 => ⟨S28x16384, .f32⟩
  | 61 => ⟨S16x16384, .f32⟩
  | 62 => ⟨S16x16384, .f32⟩
  | 63 => ⟨S8x16384, .f32⟩
  | 64 => ⟨S8x16384, .f32⟩
  | 65 => ⟨S4x16384, .f32⟩
  | 66 => ⟨S4x16384, .f32⟩
  | 67 => ⟨S_, .f32⟩
  | 68 => ⟨S8x16384, .f32⟩
  | 69 => ⟨S64x16384, .f32⟩
  | 70 => ⟨S64x16384, .bf16⟩
  | 71 => ⟨S64x16384, .f32⟩
  | 72 => ⟨S64x16384, .f32⟩
  | 73 => ⟨S64x16384, .bf16⟩
  | 74 => ⟨S64x16384, .f32⟩
  | 75 => ⟨S64x16384, .f32⟩
  | 76 => ⟨S64x16384, .bf16⟩
  | 77 => ⟨S_, .bf16⟩
  | 78 => ⟨S64x16384, .bf16⟩
  | 79 => ⟨S256x16384, .bf16⟩
  | 80 => ⟨S16384x256, .bf16⟩
  | 81 => ⟨S64x768, .i32⟩
  | 82 => ⟨S64x768, .i32⟩
  | 83 => ⟨S_, .i32⟩
  | 84 => ⟨S64x768, .i32⟩
  | 85 => ⟨S64x768, .i32⟩
  | 86 => ⟨S_, .i32⟩
  | 87 => ⟨S64x768, .i32⟩
  | 88 => ⟨S64x768, .i32⟩
  | 89 => ⟨S_, .i32⟩
  | 90 => ⟨S64x768, .i32⟩
  | 91 => ⟨S_, .i32⟩
  | 92 => ⟨S64x768, .i32⟩
  | 93 => ⟨S_, .i32⟩
  | 94 => ⟨S64x768, .i32⟩
  | 95 => ⟨S64x768, .i32⟩
  | 96 => ⟨S_, .i32⟩
  | 97 => ⟨S64x768, .i32⟩
  | 98 => ⟨S64x768, .i32⟩
  | 99 => ⟨S_, .i32⟩
  | 100 => ⟨S64x768, .i32⟩
  | 101 => ⟨S64x768, .i1⟩
  | 102 => ⟨S_, .i32⟩
  | 103 => ⟨S64x768, .i32⟩
  | 104 => ⟨S64x768, .i1⟩
  | 105 => ⟨S64x768, .i1⟩
  | 106 => ⟨S_, .i32⟩
  | 107 => ⟨S64x768, .i32⟩
  | 108 => ⟨S64x768, .i1⟩
  | 109 => ⟨S_, .i32⟩
  | 110 => ⟨S64x768, .i32⟩
  | 111 => ⟨S64x768, .i32⟩
  | 112 => ⟨S64x768, .i32⟩
  | 113 => ⟨S_, .i32⟩
  | 114 => ⟨S64x768, .i32⟩
  | 115 => ⟨S64x768, .i1⟩
  | 116 => ⟨S_, .i32⟩
  | 117 => ⟨S64x768, .i32⟩
  | 118 => ⟨S64x768, .i32⟩
  | 119 => ⟨S_, .i32⟩
  | 120 => ⟨S64x768, .i32⟩
  | 121 => ⟨S64x768, .i32⟩
  | 122 => ⟨S64x768, .i32⟩
  | 123 => ⟨S_, .i32⟩
  | 124 => ⟨S64x768, .i32⟩
  | 125 => ⟨S64x768, .i1⟩
  | 126 => ⟨S_, .i32⟩
  | 127 => ⟨S64x768, .i32⟩
  | _ => ⟨S8x2048x1024, .f32⟩

abbrev hbmTy0_1 (i : Nat) : BufTy := match i % 128 with
  | 0 => ⟨S64x768, .i32⟩
  | 1 => ⟨S_, .i32⟩
  | 2 => ⟨S64x768, .i32⟩
  | 3 => ⟨S64x768, .i1⟩
  | 4 => ⟨S_, .i32⟩
  | 5 => ⟨S64x768, .i32⟩
  | 6 => ⟨S64x768, .i32⟩
  | 7 => ⟨S64x768, .i32⟩
  | 8 => ⟨S_, .i32⟩
  | 9 => ⟨S64x768, .i32⟩
  | 10 => ⟨S_, .i32⟩
  | 11 => ⟨S64x768, .i32⟩
  | 12 => ⟨S64x768, .i32⟩
  | 13 => ⟨S_, .i32⟩
  | 14 => ⟨S64x768, .i32⟩
  | 15 => ⟨S64x768, .i32⟩
  | 16 => ⟨S_, .i32⟩
  | 17 => ⟨S64x768, .i32⟩
  | 18 => ⟨S64x768, .i1⟩
  | 19 => ⟨S64x768, .i32⟩
  | 20 => ⟨S_, .i32⟩
  | 21 => ⟨S64x768, .i32⟩
  | 22 => ⟨S64x768, .i32⟩
  | 23 => ⟨S_, .i32⟩
  | 24 => ⟨S64x768, .i32⟩
  | 25 => ⟨S64x768, .i32⟩
  | 26 => ⟨S_, .i32⟩
  | 27 => ⟨S64x768, .i32⟩
  | 28 => ⟨S64x768, .i1⟩
  | 29 => ⟨S_, .i32⟩
  | 30 => ⟨S64x768, .i32⟩
  | 31 => ⟨S64x768, .i1⟩
  | 32 => ⟨S64x768, .i1⟩
  | 33 => ⟨S_, .i32⟩
  | 34 => ⟨S64x768, .i32⟩
  | 35 => ⟨S64x768, .i1⟩
  | 36 => ⟨S_, .i32⟩
  | 37 => ⟨S64x768, .i32⟩
  | 38 => ⟨S64x768, .i32⟩
  | 39 => ⟨S64x768, .i32⟩
  | 40 => ⟨S_, .i32⟩
  | 41 => ⟨S64x768, .i32⟩
  | 42 => ⟨S64x768, .i1⟩
  | 43 => ⟨S_, .i32⟩
  | 44 => ⟨S64x768, .i32⟩
  | 45 => ⟨S64x768, .i32⟩
  | 46 => ⟨S_, .i32⟩
  | 47 => ⟨S64x768, .i32⟩
  | 48 => ⟨S64x768, .i32⟩
  | 49 => ⟨S64x768, .i32⟩
  | 50 => ⟨S_, .i32⟩
  | 51 => ⟨S64x768, .i32⟩
  | 52 => ⟨S64x768, .i1⟩
  | 53 => ⟨S_, .i32⟩
  | 54 => ⟨S64x768, .i32⟩
  | 55 => ⟨S64x768, .i32⟩
  | 56 => ⟨S_, .i32⟩
  | 57 => ⟨S64x768, .i32⟩
  | 58 => ⟨S64x768, .i1⟩
  | 59 => ⟨S_, .i32⟩
  | 60 => ⟨S64x768, .i32⟩
  | 61 => ⟨S64x768, .i32⟩
  | 62 => ⟨S64x768, .i32⟩
  | 63 => ⟨S_, .i32⟩
  | 64 => ⟨S64x768, .i32⟩
  | 65 => ⟨S_, .i32⟩
  | 66 => ⟨S64x768, .i32⟩
  | 67 => ⟨S64x768, .i32⟩
  | 68 => ⟨S_, .i32⟩
  | 69 => ⟨S64x768, .i32⟩
  | 70 => ⟨S64x768, .i32⟩
  | 71 => ⟨S_, .i32⟩
  | 72 => ⟨S64x768, .i32⟩
  | 73 => ⟨S64x768, .i1⟩
  | 74 => ⟨S64x768, .i32⟩
  | 75 => ⟨S_, .i32⟩
  | 76 => ⟨S64x768, .i32⟩
  | 77 => ⟨S64x768, .i32⟩
  | 78 => ⟨S_, .i32⟩
  | 79 => ⟨S64x768, .i32⟩
  | 80 => ⟨S64x768, .i32⟩
  | 81 => ⟨S_, .i32⟩
  | 82 => ⟨S64x768, .i32⟩
  | 83 => ⟨S64x768, .i1⟩
  | 84 => ⟨S_, .i32⟩
  | 85 => ⟨S64x768, .i32⟩
  | 86 => ⟨S64x768, .i1⟩
  | 87 => ⟨S64x768, .i1⟩
  | 88 => ⟨S_, .i32⟩
  | 89 => ⟨S64x768, .i32⟩
  | 90 => ⟨S64x768, .i1⟩
  | 91 => ⟨S_, .i32⟩
  | 92 => ⟨S64x768, .i32⟩
  | 93 => ⟨S64x768, .i32⟩
  | 94 => ⟨S64x768, .i32⟩
  | 95 => ⟨S_, .i32⟩
  | 96 => ⟨S64x768, .i32⟩
  | 97 => ⟨S64x768, .i1⟩
  | 98 => ⟨S_, .i32⟩
  | 99 => ⟨S64x768, .i32⟩
  | 100 => ⟨S64x768, .i32⟩
  | 101 => ⟨S_, .i32⟩
  | 102 => ⟨S64x768, .i32⟩
  | 103 => ⟨S64x768, .i32⟩
  | 104 => ⟨S64x768, .i32⟩
  | 105 => ⟨S_, .i32⟩
  | 106 => ⟨S64x768, .i32⟩
  | 107 => ⟨S64x768, .i1⟩
  | 108 => ⟨S_, .i32⟩
  | 109 => ⟨S64x768, .i32⟩
  | 110 => ⟨S64x768, .i32⟩
  | 111 => ⟨S_, .i32⟩
  | 112 => ⟨S64x768, .i32⟩
  | 113 => ⟨S64x768, .i1⟩
  | 114 => ⟨S_, .i32⟩
  | 115 => ⟨S64x768, .i32⟩
  | 116 => ⟨S64x768, .i32⟩
  | 117 => ⟨S64x768, .i32⟩
  | 118 => ⟨S_, .i32⟩
  | 119 => ⟨S64x768, .i32⟩
  | 120 => ⟨S_, .i32⟩
  | 121 => ⟨S64x768, .i32⟩
  | 122 => ⟨S64x768, .i32⟩
  | 123 => ⟨S_, .i32⟩
  | 124 => ⟨S64x768, .i32⟩
  | 125 => ⟨S64x768, .i32⟩
  | 126 => ⟨S_, .i32⟩
  | 127 => ⟨S64x768, .i32⟩
  | _ => ⟨S8x2048x1024, .f32⟩

abbrev hbmTy0_2 (i : Nat) : BufTy := match i % 128 with
  | 0 => ⟨S64x768, .i1⟩
  | 1 => ⟨S64x768, .i32⟩
  | 2 => ⟨S64x768, .i1⟩
  | 3 => ⟨S_, .i32⟩
  | 4 => ⟨S64x768, .i32⟩
  | 5 => ⟨S64x768, .i32⟩
  | 6 => ⟨S64x768, .bf16⟩
  | 7 => ⟨S_, .bf16⟩
  | 8 => ⟨S64x768, .bf16⟩
  | 9 => ⟨S256x768, .bf16⟩
  | 10 => ⟨S1024x2520, .f32⟩
  | 11 => ⟨S1024x384, .f32⟩
  | 12 => ⟨S_, .f32⟩
  | 13 => ⟨S1024x384, .f32⟩
  | 14 => ⟨S1024x384, .f32⟩
  | 15 => ⟨S_, .f32⟩
  | 16 => ⟨S1024x64, .f32⟩
  | 17 => ⟨S1024x32, .f32⟩
  | 18 => ⟨S_, .f32⟩
  | 19 => ⟨S1024x32, .f32⟩
  | 20 => ⟨S1024x32, .f32⟩
  | 21 => ⟨S_, .f32⟩
  | 22 => ⟨S1024x32, .f32⟩
  | 23 => ⟨S1024x256, .f32⟩
  | 24 => ⟨S_, .f32⟩
  | 25 => ⟨S1024x256, .f32⟩
  | 26 => ⟨S1024x256, .f32⟩
  | 27 => ⟨S1024x256, .f32⟩
  | 28 => ⟨S_, .f32⟩
  | 29 => ⟨S1024x256, .f32⟩
  | 30 => ⟨S1024x256, .f32⟩
  | 31 => ⟨S1024x384, .f32⟩
  | 32 => ⟨S_, .f32⟩
  | 33 => ⟨S1024x384, .f32⟩
  | 34 => ⟨S1024x384, .f32⟩
  | 35 => ⟨S1024x128, .f32⟩
  | 36 => ⟨S_, .f32⟩
  | 37 => ⟨S1024x128, .f32⟩
  | 38 => ⟨S1024x128, .f32⟩
  | 39 => ⟨S1024x256, .f32⟩
  | 40 => ⟨S_, .f32⟩
  | 41 => ⟨S1024x256, .f32⟩
  | 42 => ⟨S1024x256, .f32⟩
  | 43 => ⟨S1024x32, .f32⟩
  | 44 => ⟨S_, .f32⟩
  | 45 => ⟨S1024x32, .f32⟩
  | 46 => ⟨S1024x32, .f32⟩
  | 47 => ⟨S1024x32, .f32⟩
  | 48 => ⟨S_, .f32⟩
  | 49 => ⟨S1024x32, .f32⟩
  | 50 => ⟨S1024x32, .f32⟩
  | 51 => ⟨S1024x32, .f32⟩
  | 52 => ⟨S_, .f32⟩
  | 53 => ⟨S1024x32, .f32⟩
  | 54 => ⟨S1024x32, .f32⟩
  | 55 => ⟨S1024x32, .f32⟩
  | 56 => ⟨S_, .f32⟩
  | 57 => ⟨S1024x32, .f32⟩
  | 58 => ⟨S1024x32, .f32⟩
  | 59 => ⟨S1024x32, .f32⟩
  | 60 => ⟨S_, .f32⟩
  | 61 => ⟨S1024x32, .f32⟩
  | 62 => ⟨S1024x32, .f32⟩
  | 63 => ⟨S1024x32, .f32⟩
  | 64 => ⟨S_, .f32⟩
  | 65 => ⟨S1024x32, .f32⟩
  | 66 => ⟨S1024x32, .f32⟩
  | 67 => ⟨S1024x32, .f32⟩
  | 68 => ⟨S_, .f32⟩
  | 69 => ⟨S1024x32, .f32⟩
  | 70 => ⟨S1024x32, .f32⟩
  | 71 => ⟨S1024x32, .f32⟩
  | 72 => ⟨S_, .f32⟩
  | 73 => ⟨S1024x32, .f32⟩
  | 74 => ⟨S1024x32, .f32⟩
  | 75 => ⟨S1024x12, .f32⟩
  | 76 => ⟨S_, .f32⟩
  | 77 => ⟨S1024x12, .f32⟩
  | 78 => ⟨S1024x12, .f32⟩
  | 79 => ⟨S_, .f32⟩
  | 80 => ⟨S1024x116, .f32⟩
  | 81 => ⟨S1024x8, .f32⟩
  | 82 => ⟨S_, .f32⟩
  | 83 => ⟨S1024x8, .f32⟩
  | 84 => ⟨S1024x8, .f32⟩
  | 85 => ⟨S_, .f32⟩
  | 86 => ⟨S1024x120, .f32⟩
  | 87 => ⟨S1024x256, .f32⟩
  | 88 => ⟨S_, .f32⟩
  | 89 => ⟨S1024x256, .f32⟩
  | 90 => ⟨S1024x256, .f32⟩
  | 91 => ⟨S1024x516, .f32⟩
  | 92 => ⟨S_, .f32⟩
  | 93 => ⟨S1024x516, .f32⟩
  | 94 => ⟨S1024x516, .f32⟩
  | 95 => ⟨S_, .f32⟩
  | 96 => ⟨S1024x124, .f32⟩
  | 97 => ⟨S1024x2016, .f32⟩
  | 98 => ⟨S1024x1184, .f32⟩
  | 99 => ⟨S1024x3200, .f32⟩
  | 100 => ⟨S1024x3200, .bf16⟩
  | 101 => ⟨S256x96, .f32⟩
  | 102 => ⟨S_, .f32⟩
  | 103 => ⟨S256x96, .f32⟩
  | 104 => ⟨S256x96, .f32⟩
  | 105 => ⟨S_, .f32⟩
  | 106 => ⟨S256x32, .f32⟩
  | 107 => ⟨S256x96, .f32⟩
  | 108 => ⟨S_, .f32⟩
  | 109 => ⟨S256x96, .f32⟩
  | 110 => ⟨S256x96, .f32⟩
  | 111 => ⟨S_, .f32⟩
  | 112 => ⟨S256x32, .f32⟩
  | 113 => ⟨S256x96, .f32⟩
  | 114 => ⟨S_, .f32⟩
  | 115 => ⟨S256x96, .f32⟩
  | 116 => ⟨S256x96, .f32⟩
  | 117 => ⟨S_, .f32⟩
  | 118 => ⟨S256x32, .f32⟩
  | 119 => ⟨S256x96, .f32⟩
  | 120 => ⟨S_, .f32⟩
  | 121 => ⟨S256x96, .f32⟩
  | 122 => ⟨S256x96, .f32⟩
  | 123 => ⟨S_, .f32⟩
  | 124 => ⟨S256x32, .f32⟩
  | 125 => ⟨S256x512, .f32⟩
  | 126 => ⟨S256x512, .bf16⟩
  | 127 => ⟨S128x64, .f32⟩
  | _ => ⟨S8x2048x1024, .f32⟩

abbrev hbmTy0_3 (i : Nat) : BufTy := match i % 128 with
  | 0 => ⟨S_, .f32⟩
  | 1 => ⟨S128x64, .f32⟩
  | 2 => ⟨S128x64, .f32⟩
  | 3 => ⟨S_, .f32⟩
  | 4 => ⟨S128x64, .f32⟩
  | 5 => ⟨S128x64, .f32⟩
  | 6 => ⟨S_, .f32⟩
  | 7 => ⟨S128x64, .f32⟩
  | 8 => ⟨S128x64, .f32⟩
  | 9 => ⟨S_, .f32⟩
  | 10 => ⟨S128x64, .f32⟩
  | 11 => ⟨S128x64, .f32⟩
  | 12 => ⟨S_, .f32⟩
  | 13 => ⟨S128x64, .f32⟩
  | 14 => ⟨S128x64, .f32⟩
  | 15 => ⟨S_, .f32⟩
  | 16 => ⟨S128x64, .f32⟩
  | 17 => ⟨S128x64, .f32⟩
  | 18 => ⟨S_, .f32⟩
  | 19 => ⟨S128x64, .f32⟩
  | 20 => ⟨S128x64, .f32⟩
  | 21 => ⟨S_, .f32⟩
  | 22 => ⟨S128x64, .f32⟩
  | 23 => ⟨S128x512, .f32⟩
  | 24 => ⟨S128x512, .bf16⟩
  | 25 => ⟨S128x64, .f32⟩
  | 26 => ⟨S_, .f32⟩
  | 27 => ⟨S128x64, .f32⟩
  | 28 => ⟨S128x64, .f32⟩
  | 29 => ⟨S128x64, .f32⟩
  | 30 => ⟨S_, .f32⟩
  | 31 => ⟨S128x64, .f32⟩
  | 32 => ⟨S128x64, .f32⟩
  | 33 => ⟨S128x64, .f32⟩
  | 34 => ⟨S_, .f32⟩
  | 35 => ⟨S128x64, .f32⟩
  | 36 => ⟨S128x64, .f32⟩
  | 37 => ⟨S128x64, .f32⟩
  | 38 => ⟨S_, .f32⟩
  | 39 => ⟨S128x64, .f32⟩
  | 40 => ⟨S128x64, .f32⟩
  | 41 => ⟨S128x256, .f32⟩
  | 42 => ⟨S128x256, .bf16⟩
  | 43 => ⟨S1x4, .f32⟩
  | 44 => ⟨S_, .f32⟩
  | 45 => ⟨S1x124, .f32⟩
  | 46 => ⟨S1x128, .f32⟩
  | 47 => ⟨S16384x1024, .f32⟩
  | 48 => ⟨S1x1024, .f32⟩
  | 49 => ⟨S1x256, .f32⟩
  | 50 => ⟨S1x128, .f32⟩
  | 51 => ⟨S16384x1280, .bf16⟩
  | 52 => ⟨S16384x896, .bf16⟩
  | 53 => ⟨S16384x128, .bf16⟩
  | 54 => ⟨S16384x512, .bf16⟩
  | 55 => ⟨S16384x384, .f32⟩
  | 56 => ⟨S16384x768, .bf16⟩
  | _ => ⟨S8x2048x1024, .f32⟩

abbrev hbmTy (i : Nat) : BufTy := match i / 128 with
  | 0 => hbmTy0_0 i
  | 1 => hbmTy0_1 i
  | 2 => hbmTy0_2 i
  | 3 => hbmTy0_3 i
  | _ => ⟨S8x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x256, .bf16⟩
  | .local _ .vmem, ⟨5, _⟩ => ⟨S256x256, .bf16⟩
  | .local _ .vmem, ⟨6, _⟩ => ⟨S256x768, .bf16⟩
  | .local _ .vmem, ⟨7, _⟩ => ⟨S1x256, .f32⟩
  | .local _ .vmem, ⟨8, _⟩ => ⟨S256x512, .bf16⟩
  | .local _ .vmem, ⟨9, _⟩ => ⟨S1x128, .f32⟩
  | .local _ .vmem, ⟨10, _⟩ => ⟨S128x512, .bf16⟩
  | .local _ .vmem, ⟨11, _⟩ => ⟨S128x256, .bf16⟩
  | .local _ .vmem, ⟨12, _⟩ => ⟨S1x128, .f32⟩
  | .local _ .vmem, ⟨13, _⟩ => ⟨S256x1280, .bf16⟩
  | .local _ .vmem, ⟨14, _⟩ => ⟨S256x1280, .bf16⟩
  | .local _ .vmem, ⟨15, _⟩ => ⟨S256x896, .bf16⟩
  | .local _ .vmem, ⟨16, _⟩ => ⟨S256x896, .bf16⟩
  | .local _ .vmem, ⟨17, _⟩ => ⟨S256x128, .bf16⟩
  | .local _ .vmem, ⟨18, _⟩ => ⟨S256x128, .bf16⟩
  | .local _ .vmem, ⟨19, _⟩ => ⟨S256x512, .bf16⟩
  | .local _ .vmem, ⟨20, _⟩ => ⟨S256x512, .bf16⟩
  | .local _ .vmem, ⟨21, _⟩ => ⟨S256x384, .f32⟩
  | .local _ .vmem, ⟨22, _⟩ => ⟨S256x384, .f32⟩
  | .local _ .vmem, ⟨23, _⟩ => ⟨S256x768, .bf16⟩
  | .local _ .vmem, ⟨24, _⟩ => ⟨S256x768, .bf16⟩
  | .local _ .vmem, ⟨25, _⟩ => ⟨S8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_c_17 : Ref sig .tc := ⟨.hbm, 96, rfl⟩
abbrev main_v68 : Ref sig .tc := ⟨.hbm, 97, rfl⟩
abbrev main_v69 : Ref sig .tc := ⟨.hbm, 98, rfl⟩
abbrev main_c_18 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_20 : Ref sig .tc := ⟨.hbm, 106, rfl⟩
abbrev main_v75 : Ref sig .tc := ⟨.hbm, 107, rfl⟩
abbrev main_v76 : Ref sig .tc := ⟨.hbm, 108, rfl⟩
abbrev main_c_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_22 : Ref sig .tc := ⟨.hbm, 113, rfl⟩
abbrev main_v80 : Ref sig .tc := ⟨.hbm, 114, rfl⟩
abbrev main_v81 : Ref sig .tc := ⟨.hbm, 115, rfl⟩
abbrev main_c_23 : Ref sig .tc := ⟨.hbm, 116, rfl⟩
abbrev main_v82 : Ref sig .tc := ⟨.hbm, 117, rfl⟩
abbrev main_v83 : Ref sig .tc := ⟨.hbm, 118, rfl⟩
abbrev main_c_24 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_25 : Ref sig .tc := ⟨.hbm, 123, rfl⟩
abbrev main_v87 : Ref sig .tc := ⟨.hbm, 124, rfl⟩
abbrev main_v88 : Ref sig .tc := ⟨.hbm, 125, rfl⟩
abbrev main_c_26 : Ref sig .tc := ⟨.hbm, 126, rfl⟩
abbrev main_v89 : Ref sig .tc := ⟨.hbm, 127, rfl⟩
abbrev main_v90 : Ref sig .tc := ⟨.hbm, 128, rfl⟩
abbrev main_c_27 : Ref sig .tc := ⟨.hbm, 129, rfl⟩
abbrev main_v91 : Ref sig .tc := ⟨.hbm, 130, rfl⟩
abbrev main_v92 : Ref sig .tc := ⟨.hbm, 131, rfl⟩
abbrev main_c_28 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_29 : Ref sig .tc := ⟨.hbm, 136, rfl⟩
abbrev main_v96 : Ref sig .tc := ⟨.hbm, 137, rfl⟩
abbrev main_c_30 : Ref sig .tc := ⟨.hbm, 138, rfl⟩
abbrev main_v97 : Ref sig .tc := ⟨.hbm, 139, rfl⟩
abbrev main_v98 : Ref sig .tc := ⟨.hbm, 140, rfl⟩
abbrev main_c_31 : Ref sig .tc := ⟨.hbm, 141, rfl⟩
abbrev main_v99 : Ref sig .tc := ⟨.hbm, 142, rfl⟩
abbrev main_v100 : Ref sig .tc := ⟨.hbm, 143, rfl⟩
abbrev main_c_32 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_33 : Ref sig .tc := ⟨.hbm, 148, rfl⟩
abbrev main_v104 : Ref sig .tc := ⟨.hbm, 149, rfl⟩
abbrev main_v105 : Ref sig .tc := ⟨.hbm, 150, rfl⟩
abbrev main_c_34 : Ref sig .tc := ⟨.hbm, 151, rfl⟩
abbrev main_v106 : Ref sig .tc := ⟨.hbm, 152, rfl⟩
abbrev main_v107 : Ref sig .tc := ⟨.hbm, 153, rfl⟩
abbrev main_c_35 : Ref sig .tc := ⟨.hbm, 154, rfl⟩
abbrev main_v108 : Ref sig .tc := ⟨.hbm, 155, rfl⟩
abbrev main_v109 : Ref sig .tc := ⟨.hbm, 156, rfl⟩
abbrev main_c_36 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_37 : Ref sig .tc := ⟨.hbm, 161, rfl⟩
abbrev main_v113 : Ref sig .tc := ⟨.hbm, 162, rfl⟩
abbrev main_v114 : Ref sig .tc := ⟨.hbm, 163, rfl⟩
abbrev main_c_38 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_39 : Ref sig .tc := ⟨.hbm, 168, rfl⟩
abbrev main_v118 : Ref sig .tc := ⟨.hbm, 169, rfl⟩
abbrev main_v119 : Ref sig .tc := ⟨.hbm, 170, rfl⟩
abbrev main_c_40 : Ref sig .tc := ⟨.hbm, 171, rfl⟩
abbrev main_v120 : Ref sig .tc := ⟨.hbm, 172, rfl⟩
abbrev main_v121 : Ref sig .tc := ⟨.hbm, 173, rfl⟩
abbrev main_c_41 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_42 : Ref sig .tc := ⟨.hbm, 178, rfl⟩
abbrev main_v125 : Ref sig .tc := ⟨.hbm, 179, rfl⟩
abbrev main_v126 : Ref sig .tc := ⟨.hbm, 180, rfl⟩
abbrev main_c_43 : Ref sig .tc := ⟨.hbm, 181, rfl⟩
abbrev main_v127 : Ref sig .tc := ⟨.hbm, 182, rfl⟩
abbrev main_v128 : Ref sig .tc := ⟨.hbm, 183, rfl⟩
abbrev main_c_44 : Ref sig .tc := ⟨.hbm, 184, rfl⟩
abbrev main_v129 : Ref sig .tc := ⟨.hbm, 185, rfl⟩
abbrev main_v130 : Ref sig .tc := ⟨.hbm, 186, rfl⟩
abbrev main_c_45 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_c_46 : Ref sig .tc := ⟨.hbm, 191, rfl⟩
abbrev main_v134 : Ref sig .tc := ⟨.hbm, 192, rfl⟩
abbrev main_c_47 : Ref sig .tc := ⟨.hbm, 193, rfl⟩
abbrev main_v135 : Ref sig .tc := ⟨.hbm, 194, rfl⟩
abbrev main_v136 : Ref sig .tc := ⟨.hbm, 195, rfl⟩
abbrev main_c_48 : Ref sig .tc := ⟨.hbm, 196, rfl⟩
abbrev main_v137 : Ref sig .tc := ⟨.hbm, 197, rfl⟩
abbrev main_v138 : Ref sig .tc := ⟨.hbm, 198, rfl⟩
abbrev main_c_49 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_c_50 : Ref sig .tc := ⟨.hbm, 203, rfl⟩
abbrev main_v142 : Ref sig .tc := ⟨.hbm, 204, rfl⟩
abbrev main_v143 : Ref sig .tc := ⟨.hbm, 205, rfl⟩
abbrev main_c_51 : Ref sig .tc := ⟨.hbm, 206, rfl⟩
abbrev main_v144 : Ref sig .tc := ⟨.hbm, 207, rfl⟩
abbrev main_v145 : Ref sig .tc := ⟨.hbm, 208, rfl⟩
abbrev main_c_52 : Ref sig .tc := ⟨.hbm, 209, rfl⟩
abbrev main_v146 : Ref sig .tc := ⟨.hbm, 210, rfl⟩
abbrev main_v147 : Ref sig .tc := ⟨.hbm, 211, rfl⟩
abbrev main_c_53 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_c_54 : Ref sig .tc := ⟨.hbm, 216, rfl⟩
abbrev main_v151 : Ref sig .tc := ⟨.hbm, 217, rfl⟩
abbrev main_v152 : Ref sig .tc := ⟨.hbm, 218, rfl⟩
abbrev main_c_55 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_56 : Ref sig .tc := ⟨.hbm, 223, rfl⟩
abbrev main_v156 : Ref sig .tc := ⟨.hbm, 224, rfl⟩
abbrev main_v157 : Ref sig .tc := ⟨.hbm, 225, rfl⟩
abbrev main_c_57 : Ref sig .tc := ⟨.hbm, 226, rfl⟩
abbrev main_v158 : Ref sig .tc := ⟨.hbm, 227, rfl⟩
abbrev main_v159 : Ref sig .tc := ⟨.hbm, 228, rfl⟩
abbrev main_c_58 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_c_59 : Ref sig .tc := ⟨.hbm, 233, rfl⟩
abbrev main_v163 : Ref sig .tc := ⟨.hbm, 234, rfl⟩
abbrev main_v164 : Ref sig .tc := ⟨.hbm, 235, rfl⟩
abbrev main_c_60 : Ref sig .tc := ⟨.hbm, 236, rfl⟩
abbrev main_v165 : Ref sig .tc := ⟨.hbm, 237, rfl⟩
abbrev main_v166 : Ref sig .tc := ⟨.hbm, 238, rfl⟩
abbrev main_c_61 : Ref sig .tc := ⟨.hbm, 239, rfl⟩
abbrev main_v167 : Ref sig .tc := ⟨.hbm, 240, rfl⟩
abbrev main_v168 : Ref sig .tc := ⟨.hbm, 241, rfl⟩
abbrev main_c_62 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_c_63 : Ref sig .tc := ⟨.hbm, 246, rfl⟩
abbrev main_v172 : Ref sig .tc := ⟨.hbm, 247, rfl⟩
abbrev main_c_64 : Ref sig .tc := ⟨.hbm, 248, rfl⟩
abbrev main_v173 : Ref sig .tc := ⟨.hbm, 249, rfl⟩
abbrev main_v174 : Ref sig .tc := ⟨.hbm, 250, rfl⟩
abbrev main_c_65 : Ref sig .tc := ⟨.hbm, 251, rfl⟩
abbrev main_v175 : Ref sig .tc := ⟨.hbm, 252, rfl⟩
abbrev main_v176 : Ref sig .tc := ⟨.hbm, 253, rfl⟩
abbrev main_c_66 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_c_67 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_68 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_cst_69 : Ref sig .tc := ⟨.hbm, 268, rfl⟩
abbrev main_v188 : Ref sig .tc := ⟨.hbm, 269, rfl⟩
abbrev main_v189 : Ref sig .tc := ⟨.hbm, 270, rfl⟩
abbrev main_cst_70 : Ref sig .tc := ⟨.hbm, 271, rfl⟩
abbrev main_v190 : Ref sig .tc := ⟨.hbm, 272, rfl⟩
abbrev main_v191 : Ref sig .tc := ⟨.hbm, 273, rfl⟩
abbrev main_cst_71 : Ref sig .tc := ⟨.hbm, 274, rfl⟩
abbrev main_v192 : Ref sig .tc := ⟨.hbm, 275, rfl⟩
abbrev main_v193 : Ref sig .tc := ⟨.hbm, 276, rfl⟩
abbrev main_cst_72 : Ref sig .tc := ⟨.hbm, 277, rfl⟩
abbrev main_v194 : Ref sig .tc := ⟨.hbm, 278, rfl⟩
abbrev main_v195 : Ref sig .tc := ⟨.hbm, 279, rfl⟩
abbrev main_cst_73 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_cst_74 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_cst_75 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_cst_76 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_cst_77 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_cst_78 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_cst_79 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_cst_80 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_cst_81 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_cst_82 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_cst_83 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_cst_84 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_cst_85 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_cst_86 : Ref sig .tc := ⟨.hbm, 332, rfl⟩
abbrev main_v235 : Ref sig .tc := ⟨.hbm, 333, rfl⟩
abbrev main_v236 : Ref sig .tc := ⟨.hbm, 334, rfl⟩
abbrev main_cst_87 : Ref sig .tc := ⟨.hbm, 335, rfl⟩
abbrev main_v237 : Ref sig .tc := ⟨.hbm, 336, rfl⟩
abbrev main_v238 : Ref sig .tc := ⟨.hbm, 337, rfl⟩
abbrev main_cst_88 : Ref sig .tc := ⟨.hbm, 338, rfl⟩
abbrev main_v239 : Ref sig .tc := ⟨.hbm, 339, rfl⟩
abbrev main_v240 : Ref sig .tc := ⟨.hbm, 340, rfl⟩
abbrev main_cst_89 : Ref sig .tc := ⟨.hbm, 341, rfl⟩
abbrev main_v241 : Ref sig .tc := ⟨.hbm, 342, rfl⟩
abbrev main_v242 : Ref sig .tc := ⟨.hbm, 343, rfl⟩
abbrev main_cst_90 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_cst_91 : Ref sig .tc := ⟨.hbm, 348, rfl⟩
abbrev main_v246 : Ref sig .tc := ⟨.hbm, 349, rfl⟩
abbrev main_v247 : Ref sig .tc := ⟨.hbm, 350, rfl⟩
abbrev main_cst_92 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_cst_93 : Ref sig .tc := ⟨.hbm, 358, rfl⟩
abbrev main_v254 : Ref sig .tc := ⟨.hbm, 359, rfl⟩
abbrev main_v255 : Ref sig .tc := ⟨.hbm, 360, rfl⟩
abbrev main_cst_94 : Ref sig .tc := ⟨.hbm, 361, rfl⟩
abbrev main_v256 : Ref sig .tc := ⟨.hbm, 362, rfl⟩
abbrev main_v257 : Ref sig .tc := ⟨.hbm, 363, rfl⟩
abbrev main_cst_95 : Ref sig .tc := ⟨.hbm, 364, rfl⟩
abbrev main_v258 : Ref sig .tc := ⟨.hbm, 365, rfl⟩
abbrev main_v259 : Ref sig .tc := ⟨.hbm, 366, rfl⟩
abbrev main_cst_96 : Ref sig .tc := ⟨.hbm, 367, rfl⟩
abbrev main_v260 : Ref sig .tc := ⟨.hbm, 368, rfl⟩
abbrev main_v261 : Ref sig .tc := ⟨.hbm, 369, rfl⟩
abbrev main_cst_97 : Ref sig .tc := ⟨.hbm, 370, rfl⟩
abbrev main_v262 : Ref sig .tc := ⟨.hbm, 371, rfl⟩
abbrev main_v263 : Ref sig .tc := ⟨.hbm, 372, rfl⟩
abbrev main_cst_98 : Ref sig .tc := ⟨.hbm, 373, rfl⟩
abbrev main_v264 : Ref sig .tc := ⟨.hbm, 374, rfl⟩
abbrev main_v265 : Ref sig .tc := ⟨.hbm, 375, rfl⟩
abbrev main_cst_99 : Ref sig .tc := ⟨.hbm, 376, rfl⟩
abbrev main_v266 : Ref sig .tc := ⟨.hbm, 377, rfl⟩
abbrev main_v267 : Ref sig .tc := ⟨.hbm, 378, rfl⟩
abbrev main_cst_100 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_cst_101 : Ref sig .tc := ⟨.hbm, 384, rfl⟩
abbrev main_v272 : Ref sig .tc := ⟨.hbm, 385, rfl⟩
abbrev main_v273 : Ref sig .tc := ⟨.hbm, 386, rfl⟩
abbrev main_cst_102 : Ref sig .tc := ⟨.hbm, 387, rfl⟩
abbrev main_v274 : Ref sig .tc := ⟨.hbm, 388, rfl⟩
abbrev main_v275 : Ref sig .tc := ⟨.hbm, 389, rfl⟩
abbrev main_cst_103 : Ref sig .tc := ⟨.hbm, 390, rfl⟩
abbrev main_v276 : Ref sig .tc := ⟨.hbm, 391, rfl⟩
abbrev main_v277 : Ref sig .tc := ⟨.hbm, 392, rfl⟩
abbrev main_cst_104 : Ref sig .tc := ⟨.hbm, 393, rfl⟩
abbrev main_v278 : Ref sig .tc := ⟨.hbm, 394, rfl⟩
abbrev main_v279 : Ref sig .tc := ⟨.hbm, 395, rfl⟩
abbrev main_cst_105 : Ref sig .tc := ⟨.hbm, 396, rfl⟩
abbrev main_v280 : Ref sig .tc := ⟨.hbm, 397, rfl⟩
abbrev main_v281 : Ref sig .tc := ⟨.hbm, 398, rfl⟩
abbrev main_cst_106 : Ref sig .tc := ⟨.hbm, 399, rfl⟩
abbrev main_v282 : Ref sig .tc := ⟨.hbm, 400, rfl⟩
abbrev main_v283 : Ref sig .tc := ⟨.hbm, 401, rfl⟩
abbrev main_cst_107 : Ref sig .tc := ⟨.hbm, 402, rfl⟩
abbrev main_v284 : Ref sig .tc := ⟨.hbm, 403, rfl⟩
abbrev main_v285 : Ref sig .tc := ⟨.hbm, 404, rfl⟩
abbrev main_cst_108 : Ref sig .tc := ⟨.hbm, 405, rfl⟩
abbrev main_v286 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩
abbrev main_cst_109 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_cst_110 : Ref sig .tc := ⟨.hbm, 414, rfl⟩
abbrev main_v293 : Ref sig .tc := ⟨.hbm, 415, rfl⟩
abbrev main_v294 : Ref sig .tc := ⟨.hbm, 416, rfl⟩
abbrev main_v295 : Ref sig .tc := ⟨.hbm, 417, rfl⟩
abbrev main_cst_111 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_cst_112 : Ref sig .tc := ⟨.hbm, 422, rfl⟩
abbrev main_v299 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_v303 : Ref sig .tc := ⟨.hbm, 427, rfl⟩
abbrev main_cst_113 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_v308 : Ref sig .tc := ⟨.hbm, 433, rfl⟩
abbrev main_v309 : Ref sig .tc := ⟨.hbm, 434, rfl⟩
abbrev main_v310_0 : Ref sig .tc := ⟨.hbm, 435, rfl⟩
abbrev main_v310_1 : Ref sig .tc := ⟨.hbm, 436, rfl⟩
abbrev main_v310_2 : Ref sig .tc := ⟨.hbm, 437, rfl⟩
abbrev main_v310_3 : Ref sig .tc := ⟨.hbm, 438, rfl⟩
abbrev main_v310_4 : Ref sig .tc := ⟨.hbm, 439, rfl⟩
abbrev main_v310_5 : Ref sig .tc := ⟨.hbm, 440, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1280 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x896 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8x2048x1024 : Shape := ⟨3, ![8, 2048, 1024]⟩
abbrev S8x2048 : Shape := ⟨2, ![8, 2048]⟩
abbrev S1024 : Shape := ⟨1, ![1024]⟩
abbrev S1024x6616 : Shape := ⟨2, ![1024, 6616]⟩
abbrev S256 : Shape := ⟨1, ![256]⟩
abbrev S256x384 : Shape := ⟨2, ![256, 384]⟩
abbrev S128 : Shape := ⟨1, ![128]⟩
abbrev S128x512 : Shape := ⟨2, ![128, 512]⟩
abbrev S4 : Shape := ⟨1, ![4]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S1x1x1024 : Shape := ⟨3, ![1, 1, 1024]⟩
abbrev S8x2048x6616 : Shape := ⟨3, ![8, 2048, 6616]⟩
abbrev S8x2048x416 : Shape := ⟨3, ![8, 2048, 416]⟩
abbrev S8x2048x652 : Shape := ⟨3, ![8, 2048, 652]⟩
abbrev S8x2048x772 : Shape := ⟨3, ![8, 2048, 772]⟩
abbrev S8x2048x680 : Shape := ⟨3, ![8, 2048, 680]⟩
abbrev S8x2048x4096 : Shape := ⟨3, ![8, 2048, 4096]⟩
abbrev S8x2048x256 : Shape := ⟨3, ![8, 2048, 256]⟩
abbrev S8x2048x64 : Shape := ⟨3, ![8, 2048, 64]⟩
abbrev S8x2048x12 : Shape := ⟨3, ![8, 2048, 12]⟩
abbrev S8x2048x4x64 : Shape := ⟨4, ![8, 2048, 4, 64]⟩
abbrev S8x2048x1x8 : Shape := ⟨4, ![8, 2048, 1, 8]⟩
abbrev S8x2048x4x8 : Shape := ⟨4, ![8, 2048, 4, 8]⟩
abbrev S8x2048x4x48 : Shape := ⟨4, ![8, 2048, 4, 48]⟩
abbrev S8x2048x48 : Shape := ⟨3, ![8, 2048, 48]⟩
abbrev S8x2048x296 : Shape := ⟨3, ![8, 2048, 296]⟩
abbrev S8x2048x4 : Shape := ⟨3, ![8, 2048, 4]⟩
abbrev S8x2048x896 : Shape := ⟨3, ![8, 2048, 896]⟩
abbrev S8x2048x128 : Shape := ⟨3, ![8, 2048, 128]⟩
abbrev S8x2048x768 : Shape := ⟨3, ![8, 2048, 768]⟩
abbrev S16384x896 : Shape := ⟨2, ![16384, 896]⟩
abbrev S16384x128 : Shape := ⟨2, ![16384, 128]⟩
abbrev S16384x768 : Shape := ⟨2, ![16384, 768]⟩
abbrev S1x1x4 : Shape := ⟨3, ![1, 1, 4]⟩
abbrev S8x2048x32 : Shape := ⟨3, ![8, 2048, 32]⟩
abbrev S8x2048x8x32 : Shape := ⟨4, ![8, 2048, 8, 32]⟩
abbrev S8x2048x1x4 : Shape := ⟨4, ![8, 2048, 1, 4]⟩
abbrev S8x2048x8x4 : Shape := ⟨4, ![8, 2048, 8, 4]⟩
abbrev S8x2048x8x24 : Shape := ⟨4, ![8, 2048, 8, 24]⟩
abbrev S8x2048x24 : Shape := ⟨3, ![8, 2048, 24]⟩
abbrev S8x2048x512 : Shape := ⟨3, ![8, 2048, 512]⟩
abbrev S16384x512 : Shape := ⟨2, ![16384, 512]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x6616, .f32⟩
  | 4 => ⟨S256, .f32⟩
  | 5 => ⟨S256x384, .f32⟩
  | 6 => ⟨S128, .f32⟩
  | 7 => ⟨S128x512, .f32⟩
  | 8 => ⟨S4, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8x2048, .f32⟩
  | 24 => ⟨S8x2048x1, .f32⟩
  | 25 => ⟨S1x1x8, .f32⟩
  | 26 => ⟨S8x2048x8, .f32⟩
  | 27 => ⟨S8x2048x8, .f32⟩
  | 28 => ⟨S8x2048x8, .f32⟩
  | 29 => ⟨S8x2048x8, .f32⟩
  | 30 => ⟨S8x2048x8, .f32⟩
  | 31 => ⟨S8x2048x1024, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S_, .f32⟩
  | 39 => ⟨S8x2048x1, .f32⟩
  | 40 => ⟨S8x2048x1, .f32⟩
  | 41 => ⟨S8x2048x1, .f32⟩
  | 42 => ⟨S8x2048x1024, .f32⟩
  | 43 => ⟨S8x2048x1024, .f32⟩
  | 44 => ⟨S1x1x1024, .f32⟩
  | 45 => ⟨S8x2048x1024, .f32⟩
  | 46 => ⟨S8x2048x1024, .f32⟩
  | 47 => ⟨S8x2048x6616, .f32⟩
  | 48 => ⟨S8x2048x416, .f32⟩
  | 49 => ⟨S8x2048x652, .f32⟩
  | 50 => ⟨S8x2048x772, .f32⟩
  | 51 => ⟨S8x2048x680, .f32⟩
  | 52 => ⟨S8x2048x4096, .f32⟩
  | 53 => ⟨S8x2048x256, .f32⟩
  | 54 => ⟨S8x2048x64, .f32⟩
  | 55 => ⟨S8x2048x64, .f32⟩
  | 56 => ⟨S8x2048x64, .f32⟩
  | 57 => ⟨S8x2048x64, .f32⟩
  | 58 => ⟨S8x2048x64, .f32⟩
  | 59 => ⟨S8x2048x64, .f32⟩
  | 60 => ⟨S8x2048x12, .f32⟩
  | 61 => ⟨S8x2048x4x64, .f32⟩
  | 62 => ⟨S8x2048x1x8, .f32⟩
  | 63 => ⟨S8x2048x1x8, .f32⟩
  | 64 => ⟨S8x2048x4x8, .f32⟩
  | 65 => ⟨S8x2048x4x8, .f32⟩
  | 66 => ⟨S8x2048x4x8, .f32⟩
  | 67 => ⟨S8x2048x4x8, .f32⟩
  | 68 => ⟨S8x2048x4x8, .f32⟩
  | 69 => ⟨S8x2048x4x8, .f32⟩
  | 70 => ⟨S8x2048x4x8, .f32⟩
  | 71 => ⟨S8x2048x4x8, .f32⟩
  | 72 => ⟨S8x2048x4x8, .f32⟩
  | 73 => ⟨S8x2048x4x8, .f32⟩
  | 74 => ⟨S8x2048x4x8, .f32⟩
  | 75 => ⟨S8x2048x4x8, .f32⟩
  | 76 => ⟨S8x2048x4x48, .f32⟩
  | 77 => ⟨S8x2048x4x64, .f32⟩
  | 78 => ⟨S8x2048x256, .f32⟩
  | 79 => ⟨S8x2048x8, .f32⟩
  | 80 => ⟨S8x2048x8, .f32⟩
  | 81 => ⟨S8x2048x8, .f32⟩
  | 82 => ⟨S8x2048x8, .f32⟩
  | 83 => ⟨S8x2048x8, .f32⟩
  | 84 => ⟨S8x2048x8, .f32⟩
  | 85 => ⟨S8x2048x8, .f32⟩
  | 86 => ⟨S8x2048x8, .f32⟩
  | 87 => ⟨S8x2048x48, .f32⟩
  | 88 => ⟨S8x2048x64, .f32⟩
  | 89 => ⟨S8x2048x8, .f32⟩
  | 90 => ⟨S8x2048x8, .f32⟩
  | 91 => ⟨S8x2048x8, .f32⟩
  | 92 => ⟨S8x2048x8, .f32⟩
  | 93 => ⟨S8x2048x8, .f32⟩
  | 94 => ⟨S8x2048x8, .f32⟩
  | 95 => ⟨S8x2048x8, .f32⟩
  | 96 => ⟨S8x2048x8, .f32⟩
  | 97 => ⟨S8x2048x48, .f32⟩
  | 98 => ⟨S8x2048x64, .f32⟩
  | 99 => ⟨S8x2048x8, .f32⟩
  | 100 => ⟨S8x2048x8, .f32⟩
  | 101 => ⟨S8x2048x8, .f32⟩
  | 102 => ⟨S8x2048x8, .f32⟩
  | 103 => ⟨S8x2048x8, .f32⟩
  | 104 => ⟨S8x2048x8, .f32⟩
  | 105 => ⟨S8x2048x8, .f32⟩
  | 106 => ⟨S8x2048x8, .f32⟩
  | 107 => ⟨S8x2048x48, .f32⟩
  | 108 => ⟨S8x2048x64, .f32⟩
  | 109 => ⟨S8x2048x256, .f32⟩
  | 110 => ⟨S8x2048x64, .f32⟩
  | 111 => ⟨S8x2048x64, .f32⟩
  | 112 => ⟨S8x2048x296, .f32⟩
  | 113 => ⟨S8x2048x4x64, .f32⟩
  | 114 => ⟨S8x2048x1x8, .f32⟩
  | 115 => ⟨S8x2048x1x8, .f32⟩
  | 116 => ⟨S8x2048x4x8, .f32⟩
  | 117 => ⟨S8x2048x4x8, .f32⟩
  | 118 => ⟨S8x2048x4x8, .f32⟩
  | 119 => ⟨S8x2048x4x8, .f32⟩
  | 120 => ⟨S8x2048x4x8, .f32⟩
  | 121 => ⟨S8x2048x4x8, .f32⟩
  | 122 => ⟨S8x2048x4x8, .f32⟩
  | 123 => ⟨S8x2048x4x8, .f32⟩
  | 124 => ⟨S8x2048x4x8, .f32⟩
  | 125 => ⟨S8x2048x4x8, .f32⟩
  | 126 => ⟨S8x2048x4x8, .f32⟩
  | 127 => ⟨S8x2048x4x8, .f32⟩
  | _ => ⟨S8x2048x1024, .f32⟩

abbrev hbmTy0_1 (i : Nat) : BufTy := match i % 128 with
  | 0 => ⟨S8x2048x4x48, .f32⟩
  | 1 => ⟨S8x2048x4x64, .f32⟩
  | 2 => ⟨S8x2048x256, .f32⟩
  | 3 => ⟨S8x2048x8, .f32⟩
  | 4 => ⟨S8x2048x8, .f32⟩
  | 5 => ⟨S8x2048x8, .f32⟩
  | 6 => ⟨S8x2048x8, .f32⟩
  | 7 => ⟨S8x2048x8, .f32⟩
  | 8 => ⟨S8x2048x8, .f32⟩
  | 9 => ⟨S8x2048x8, .f32⟩
  | 10 => ⟨S8x2048x8, .f32⟩
  | 11 => ⟨S8x2048x48, .f32⟩
  | 12 => ⟨S8x2048x64, .f32⟩
  | 13 => ⟨S8x2048x256, .f32⟩
  | 14 => ⟨S8x2048x256, .f32⟩
  | 15 => ⟨S8x2048x256, .f32⟩
  | 16 => ⟨S8x2048x4, .f32⟩
  | 17 => ⟨S_, .f32⟩
  | 18 => ⟨S8x2048x256, .f32⟩
  | 19 => ⟨S8x2048x256, .f32⟩
  | 20 => ⟨S_, .f32⟩
  | 21 => ⟨S8x2048x256, .f32⟩
  | 22 => ⟨S8x2048x256, .f32⟩
  | 23 => ⟨S8x2048x896, .f32⟩
  | 24 => ⟨S8x2048x128, .f32⟩
  | 25 => ⟨S_, .f32⟩
  | 26 => ⟨S8x2048x256, .f32⟩
  | 27 => ⟨S8x2048x256, .f32⟩
  | 28 => ⟨S8x2048x768, .f32⟩
  | 29 => ⟨S16384x896, .f32⟩
  | 30 => ⟨S16384x896, .bf16⟩
  | 31 => ⟨S16384x128, .f32⟩
  | 32 => ⟨S16384x128, .bf16⟩
  | 33 => ⟨S16384x768, .f32⟩
  | 34 => ⟨S16384x768, .bf16⟩
  | 35 => ⟨S4, .f32⟩
  | 36 => ⟨S_, .f32⟩
  | 37 => ⟨S4, .f32⟩
  | 38 => ⟨S4, .f32⟩
  | 39 => ⟨S_, .f32⟩
  | 40 => ⟨S4, .f32⟩
  | 41 => ⟨S4, .f32⟩
  | 42 => ⟨S4, .f32⟩
  | 43 => ⟨S_, .f32⟩
  | 44 => ⟨S4, .f32⟩
  | 45 => ⟨S4, .f32⟩
  | 46 => ⟨S_, .f32⟩
  | 47 => ⟨S4, .f32⟩
  | 48 => ⟨S4, .f32⟩
  | 49 => ⟨S8x2048, .f32⟩
  | 50 => ⟨S8x2048x1, .f32⟩
  | 51 => ⟨S1x1x4, .f32⟩
  | 52 => ⟨S8x2048x4, .f32⟩
  | 53 => ⟨S8x2048x4, .f32⟩
  | 54 => ⟨S8x2048x4, .f32⟩
  | 55 => ⟨S8x2048x4, .f32⟩
  | 56 => ⟨S8x2048x4, .f32⟩
  | 57 => ⟨S8x2048x256, .f32⟩
  | 58 => ⟨S8x2048x32, .f32⟩
  | 59 => ⟨S8x2048x8, .f32⟩
  | 60 => ⟨S8x2048x8x32, .f32⟩
  | 61 => ⟨S8x2048x1x4, .f32⟩
  | 62 => ⟨S8x2048x1x4, .f32⟩
  | 63 => ⟨S8x2048x8x4, .f32⟩
  | 64 => ⟨S8x2048x8x4, .f32⟩
  | 65 => ⟨S8x2048x8x4, .f32⟩
  | 66 => ⟨S8x2048x8x4, .f32⟩
  | 67 => ⟨S8x2048x8x4, .f32⟩
  | 68 => ⟨S8x2048x8x4, .f32⟩
  | 69 => ⟨S8x2048x8x4, .f32⟩
  | 70 => ⟨S8x2048x8x4, .f32⟩
  | 71 => ⟨S8x2048x8x4, .f32⟩
  | 72 => ⟨S8x2048x8x4, .f32⟩
  | 73 => ⟨S8x2048x8x4, .f32⟩
  | 74 => ⟨S8x2048x8x4, .f32⟩
  | 75 => ⟨S8x2048x8x24, .f32⟩
  | 76 => ⟨S8x2048x8x32, .f32⟩
  | 77 => ⟨S8x2048x256, .f32⟩
  | 78 => ⟨S8x2048x4, .f32⟩
  | 79 => ⟨S8x2048x4, .f32⟩
  | 80 => ⟨S8x2048x4, .f32⟩
  | 81 => ⟨S8x2048x4, .f32⟩
  | 82 => ⟨S8x2048x4, .f32⟩
  | 83 => ⟨S8x2048x4, .f32⟩
  | 84 => ⟨S8x2048x4, .f32⟩
  | 85 => ⟨S8x2048x4, .f32⟩
  | 86 => ⟨S8x2048x24, .f32⟩
  | 87 => ⟨S8x2048x32, .f32⟩
  | 88 => ⟨S_, .f32⟩
  | 89 => ⟨S8x2048x256, .f32⟩
  | 90 => ⟨S8x2048x256, .f32⟩
  | 91 => ⟨S8x2048x512, .f32⟩
  | 92 => ⟨S16384x512, .f32⟩
  | 93 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_cst_6 : Ref sig .tc := ⟨.hbm, 145, rfl⟩
abbrev main_v129 : Ref sig .tc := ⟨.hbm, 146, rfl⟩
abbrev main_v130 : Ref sig .tc := ⟨.hbm, 147, rfl⟩
abbrev main_cst_7 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_cst_8 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_cst_9 : Ref sig .tc := ⟨.hbm, 164, rfl⟩
abbrev main_v145 : Ref sig .tc := ⟨.hbm, 165, rfl⟩
abbrev main_v146 : Ref sig .tc := ⟨.hbm, 166, rfl⟩
abbrev main_cst_10 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_11 : Ref sig .tc := ⟨.hbm, 171, rfl⟩
abbrev main_v150 : Ref sig .tc := ⟨.hbm, 172, rfl⟩
abbrev main_v151 : Ref sig .tc := ⟨.hbm, 173, rfl⟩
abbrev main_cst_12 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_cst_13 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x2048x1024 : Shape := ⟨3, ![8, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x1024, .f32⟩
  | .hbm, ⟨27, _⟩ => ⟨S8x2048x1024, .f32⟩
  | .hbm, ⟨28, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel6.lean ====
abbrev S16384x128 : Shape := ⟨2, ![16384, 128]⟩
abbrev S2x2048x64 : Shape := ⟨3, ![2, 2048, 64]⟩
abbrev S2x32x64 : Shape := ⟨3, ![2, 32, 64]⟩
abbrev S1x2048x64 : Shape := ⟨3, ![1, 2048, 64]⟩
abbrev S2048x64 : Shape := ⟨2, ![2048, 64]⟩
abbrev S32x64x64 : Shape := ⟨3, ![32, 64, 64]⟩
abbrev S_ : Shape := ⟨0, ![]⟩
abbrev S32x64x128 : Shape := ⟨3, ![32, 64, 128]⟩
abbrev S32x128x128 : Shape := ⟨3, ![32, 128, 128]⟩
abbrev S16x128x128 : Shape := ⟨3, ![16, 128, 128]⟩
abbrev S2048x128 : Shape := ⟨2, ![2048, 128]⟩
abbrev S1x32x64 : Shape := ⟨3, ![1, 32, 64]⟩
abbrev S32x64 : Shape := ⟨2, ![32, 64]⟩
abbrev S32x128 : Shape := ⟨2, ![32, 128]⟩
abbrev S2x2048 : Shape := ⟨2, ![2, 2048]⟩
abbrev S8x128x2048 : Shape := ⟨3, ![8, 128, 2048]⟩
abbrev S8x128x128 : Shape := ⟨3, ![8, 128, 128]⟩
abbrev S1x128x2048 : Shape := ⟨3, ![1, 128, 2048]⟩
abbrev S1x128x128 : Shape := ⟨3, ![1, 128, 128]⟩
abbrev S128x2048 : Shape := ⟨2, ![128, 2048]⟩
abbrev S1x2048 : Shape := ⟨2, ![1, 2048]⟩
abbrev S128x128 : Shape := ⟨2, ![128, 128]⟩

abbrev nBuf : Space → Nat
  | .hbm => 28
  | .vmem => 7
  | .smem => 0
  | _ => 0

abbrev bufTy : (tb : Table) → Fin (tcTables nBuf tb) → BufTy
  | .hbm, ⟨0, _⟩ => ⟨S16384x128, .bf16⟩
  | .hbm, ⟨1, _⟩ => ⟨S2x2048x64, .f32⟩
  | .hbm, ⟨2, _⟩ => ⟨S2x32x64, .f32⟩
  | .hbm, ⟨3, _⟩ => ⟨S1x2048x64, .f32⟩
  | .hbm, ⟨4, _⟩ => ⟨S2048x64, .f32⟩
  | .hbm, ⟨5, _⟩ => ⟨S32x64x64, .f32⟩
  | .hbm, ⟨6, _⟩ => ⟨S1x2048x64, .f32⟩
  | .hbm, ⟨7, _⟩ => ⟨S2048x64, .f32⟩
  | .hbm, ⟨8, _⟩ => ⟨S32x64x64, .f32⟩
  | .hbm, ⟨9, _⟩ => ⟨S_, .f32⟩
  | .hbm, ⟨10, _⟩ => ⟨S32x64x64, .f32⟩
  | .hbm, ⟨11, _⟩ => ⟨S32x64x128, .f32⟩
  | .hbm, ⟨12, _⟩ => ⟨S32x64x128, .f32⟩
  | .hbm, ⟨13, _⟩ => ⟨S32x128x128, .f32⟩
  | .hbm, ⟨14, _⟩ => ⟨S16x128x128, .f32⟩
  | .hbm, ⟨15, _⟩ => ⟨S2048x128, .f32⟩
  | .hbm, ⟨16, _⟩ => ⟨S2048x128, .bf16⟩
  | .hbm, ⟨17, _⟩ => ⟨S16x128x128, .f32⟩
  | .hbm, ⟨18, _⟩ => ⟨S2048x128, .f32⟩
  | .hbm, ⟨19, _⟩ => ⟨S2048x128, .bf16⟩
  | .hbm, ⟨20, _⟩ => ⟨S1x32x64, .f32⟩
  | .hbm, ⟨21, _⟩ => ⟨S32x64, .f32⟩
  | .hbm, ⟨22, _⟩ => ⟨S1x32x64, .f32⟩
  | .hbm, ⟨23, _⟩ => ⟨S32x64, .f32⟩
  | .hbm, ⟨24, _⟩ => ⟨S32x128, .f32⟩
  | .hbm, ⟨25, _⟩ => ⟨S2x2048, .f32⟩
  | .hbm, ⟨26, _⟩ => ⟨S8x128x2048, .bf16⟩
  | .hbm, ⟨27, _⟩ => ⟨S8x128x128, .bf16⟩
  | .local _ .vmem, ⟨0, _⟩ => ⟨S1x128x2048, .bf16⟩
  | .local _ .vmem, ⟨1, _⟩ => ⟨S1x128x2048, .bf16⟩
  | .local _ .vmem, ⟨2, _⟩ => ⟨S2x2048, .f32⟩
  | .local _ .vmem, ⟨3, _⟩ => ⟨S2048x128, .bf16⟩
  | .local _ .vmem, ⟨4, _⟩ => ⟨S2048x128, .bf16⟩
  | .local _ .vmem, ⟨5, _⟩ => ⟨S1x128x128, .bf16⟩
  | .local _ .vmem, ⟨6, _⟩ => ⟨S1x128x128, .bf16⟩
  | _, _ => ⟨S16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x128 : Shape := ⟨2, ![16384, 128]⟩
abbrev S2x2048x64 : Shape := ⟨3, ![2, 2048, 64]⟩
abbrev S2x32x64 : Shape := ⟨3, ![2, 32, 64]⟩
abbrev S8x2048x128 : Shape := ⟨3, ![8, 2048, 128]⟩
abbrev S8x2048x64 : Shape := ⟨3, ![8, 2048, 64]⟩
abbrev S128 : Shape := ⟨1, ![128]⟩
abbrev S_ : Shape := ⟨0, ![]⟩
abbrev S128x1 : Shape := ⟨2, ![128, 1]⟩
abbrev S32 : Shape := ⟨1, ![32]⟩
abbrev S1x32 : Shape := ⟨2, ![1, 32]⟩
abbrev S128x32 : Shape := ⟨2, ![128, 32]⟩
abbrev S1x2048x64 : Shape := ⟨3, ![1, 2048, 64]⟩
abbrev S2048x64 : Shape := ⟨2, ![2048, 64]⟩
abbrev S1x32x64 : Shape := ⟨3, ![1, 32, 64]⟩
abbrev S32x64 : Shape := ⟨2, ![32, 64]⟩
abbrev S8x16x64 : Shape := ⟨3, ![8, 16, 64]⟩
abbrev S8x2064x64 : Shape := ⟨3, ![8, 2064, 64]⟩
abbrev S128x32x1 : Shape := ⟨3, ![128, 32, 1]⟩
abbrev S8x128x32x64 : Shape := ⟨4, ![8, 128, 32, 64]⟩
abbrev S1x1x32x64 : Shape := ⟨4, ![1, 1, 32, 64]⟩
abbrev S8x128x2048 : Shape := ⟨3, ![8, 128, 2048]⟩
abbrev S8x128x64 : Shape := ⟨3, ![8, 128, 64]⟩
abbrev S8x128x128 : Shape := ⟨3, ![8, 128, 128]⟩

abbrev nBuf : Space → Nat
  | .hbm => 59
  | .vmem => 0
  | .smem => 0
  | _ => 0

abbrev bufTy : (tb : Table) → Fin (tcTables nBuf tb) → BufTy
  | .hbm, ⟨0, _⟩ => ⟨S16384x128, .bf16⟩
  | .hbm, ⟨1, _⟩ => ⟨S2x2048x64, .f32⟩
  | .hbm, ⟨2, _⟩ => ⟨S2x32x64, .f32⟩
  | .hbm, ⟨3, _⟩ => ⟨S16384x128, .f32⟩
  | .hbm, ⟨4, _⟩ => ⟨S8x2048x128, .f32⟩
  | .hbm, ⟨5, _⟩ => ⟨S8x2048x64, .f32⟩
  | .hbm, ⟨6, _⟩ => ⟨S8x2048x64, .f32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S32, .i32⟩
  | .hbm, ⟨13, _⟩ => ⟨S1x32, .i32⟩
  | .hbm, ⟨14, _⟩ => ⟨S128x32, .i32⟩
  | .hbm, ⟨15, _⟩ => ⟨S128x32, .i32⟩
  | .hbm, ⟨16, _⟩ => ⟨S128x32, .i32⟩
  | .hbm, ⟨17, _⟩ => ⟨S1x2048x64, .f32⟩
  | .hbm, ⟨18, _⟩ => ⟨S2048x64, .f32⟩
  | .hbm, ⟨19, _⟩ => ⟨S1x32x64, .f32⟩
  | .hbm, ⟨20, _⟩ => ⟨S32x64, .f32⟩
  | .hbm, ⟨21, _⟩ => ⟨S8x16x64, .f32⟩
  | .hbm, ⟨22, _⟩ => ⟨S8x2064x64, .f32⟩
  | .hbm, ⟨23, _⟩ => ⟨S_, .i32⟩
  | .hbm, ⟨24, _⟩ => ⟨S128x32, .i32⟩
  | .hbm, ⟨25, _⟩ => ⟨S128x32, .i1⟩
  | .hbm, ⟨26, _⟩ => ⟨S_, .i32⟩
  | .hbm, ⟨27, _⟩ => ⟨S128x32, .i32⟩
  | .hbm, ⟨28, _⟩ => ⟨S128x32, .i32⟩
  | .hbm, ⟨29, _⟩ => ⟨S128x32, .i32⟩
  | .hbm, ⟨30, _⟩ => ⟨S128x32x1, .i32⟩
  | .hbm, ⟨31, _⟩ => ⟨S8x128x32x64, .f32⟩
  | .hbm, ⟨32, _⟩ => ⟨S1x1x32x64, .f32⟩
  | .hbm, ⟨33, _⟩ => ⟨S8x128x32x64, .f32⟩
  | .hbm, ⟨34, _⟩ => ⟨S8x128x32x64, .f32⟩
  | .hbm, ⟨35, _⟩ => ⟨S8x128x2048, .f32⟩
  | .hbm, ⟨36, _⟩ => ⟨S8x128x64, .f32⟩
  | .hbm, ⟨37, _⟩ => ⟨S1x2048x64, .f32⟩
  | .hbm, ⟨38, _⟩ => ⟨S2048x64, .f32⟩
  | .hbm, ⟨39, _⟩ => ⟨S1x32x64, .f32⟩
  | .hbm, ⟨40, _⟩ => ⟨S32x64, .f32⟩
  | .hbm, ⟨41, _⟩ => ⟨S8x16x64, .f32⟩
  | .hbm, ⟨42, _⟩ => ⟨S8x2064x64, .f32⟩
  | .hbm, ⟨43, _⟩ => ⟨S_, .i32⟩
  | .hbm, ⟨44, _⟩ => ⟨S128x32, .i32⟩
  | .hbm, ⟨45, _⟩ => ⟨S128x32, .i1⟩
  | .hbm, ⟨46, _⟩ => ⟨S_, .i32⟩
  | .hbm, ⟨47, _⟩ => ⟨S128x32, .i32⟩
  | .hbm, ⟨48, _⟩ => ⟨S128x32, .i32⟩
  | .hbm, ⟨49, _⟩ => ⟨S128x32, .i32⟩
  | .hbm, ⟨50, _⟩ => ⟨S128x32x1, .i32⟩
  | .hbm, ⟨51, _⟩ => ⟨S8x128x32x64, .f32⟩
  | .hbm, ⟨52, _⟩ => ⟨S1x1x32x64, .f32⟩
  | .hbm, ⟨53, _⟩ => ⟨S8x128x32x64, .f32⟩
  | .hbm, ⟨54, _⟩ => ⟨S8x128x32x64, .f32⟩
  | .hbm, ⟨55, _⟩ => ⟨S8x128x2048, .f32⟩
  | .hbm, ⟨56, _⟩ => ⟨S8x128x64, .f32⟩
  | .hbm, ⟨57, _⟩ => ⟨S8x128x128, .f32⟩
  | .hbm, ⟨58, _⟩ => ⟨S8x128x128, .bf16⟩
  | _, _ => ⟨S16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c_2 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Proof.SearchIdeal.lean ====
/- The two search loops of the selection: the 31 steps that find the threshold key and the 11 steps that find the tie cut.
   Each step runs two counting loops over the score chunks; these have invariants of their own, and the step's
   carried value is what the run finds. -/
module

public import proofs.«01_k».proof.Proof.Gen.KernelIdeal.Loops

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the buffers hold either side of one trip: the score scratch, only read, at its contents. -/
abbrev Trip_k0_t5 (c : Dev nD) (arg20 : Memref sig .tc .vmem S8x256x256 .f32) (X : BufTy.Contents (Elt F) arg20.view.ty) : sProp 𝕄G :=
  iprop((arg20.view.loc (c : Thread nD τ) ↦[arg20.view.set]{fullShare} X))

/-- One step of the threshold search: the two counting loops inside it are gone through by their own invariants, and what the step yields is the function of the carried pair the run finds. -/
@[irreducible] def trip_k0_t5 (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v100 : FVec F S1x256 .f32) (v101 : FVec F S1x256 .f32) (v110 : FVec F S256x256 .f32) (v117 : FVec F S256x2048 .f32) (v152 : FVec F S256x256 .f32) (v153 : FVec F S256x256 .f32) (v154 : FVec F S256x256 .f32) (X : BufTy.Contents (Elt F) arg20.view.ty) (k : Fin k0_t5_loop.trips) :
    { R : IVec S1x256 32 → FVec F S1x256 .f32 → IVec S1x256 32 × FVec F S1x256 .f32 // ∀ (E : Set ℕ) (a : IVec S1x256 32) (b : FVec F S1x256 .f32),
      Trip_k0_t5 (F := F) c arg20 X
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 k (a, b))
          (fun yld => iprop(⌜yld = R a b⌝ ∗ Trip_k0_t5 (F := F) c arg20 X)) } := by
  refine ⟨?_, fun E a b => ?run⟩
  case run =>
    unfold k0_t5_body
    iintro HR
    sl_exec
    sl_step
    sl_close

/-- The carried value before trip `k`, from the value the loop starts with. -/
def st_k0_t5 (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v100 : FVec F S1x256 .f32) (v101 : FVec F S1x256 .f32) (v110 : FVec F S256x256 .f32) (v117 : FVec F S256x2048 .f32) (v152 : FVec F S256x256 .f32) (v153 : FVec F S256x256 .f32) (v154 : FVec F S256x256 .f32) (X : BufTy.Contents (Elt F) arg20.view.ty) (init : IVec S1x256 32 × FVec F S1x256 .f32) : ℕ → IVec S1x256 32 × FVec F S1x256 .f32
  | 0 => init
  | k + 1 => if h : k < k0_t5_loop.trips then (trip_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X ⟨k, h⟩).1 (st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k).1 (st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k).2
      else st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k

theorem st_k0_t5_succ (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v100 : FVec F S1x256 .f32) (v101 : FVec F S1x256 .f32) (v110 : FVec F S256x256 .f32) (v117 : FVec F S256x2048 .f32) (v152 : FVec F S256x256 .f32) (v153 : FVec F S256x256 .f32) (v154 : FVec F S256x256 .f32) (X : BufTy.Contents (Elt F) arg20.view.ty) (init : IVec S1x256 32 × FVec F S1x256 .f32) (k : Fin k0_t5_loop.trips) :
    st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init (k.val + 1)
      = (trip_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X k).1 (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k.val).1 (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k.val).2 := by
  rw [st_k0_t5.eq_2]; exact dif_pos k.isLt

set_option warn.classDefReducibility false in
/-- The loop by its invariant: before trip `k` the score scratch is as it was and the carried value is `st_k0_t5 … k`. -/
@[sl_loop] def loopInv_k0_t5 (𝒱 : Variants) (c : Dev nD) (bd : Option 𝒱.V) (E : Set ℕ) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v100 : FVec F S1x256 .f32) (v101 : FVec F S1x256 .f32) (v110 : FVec F S256x256 .f32) (v117 : FVec F S256x2048 .f32) (v152 : FVec F S256x256 .f32) (v153 : FVec F S256x256 .f32) (v154 : FVec F S256x256 .f32) (X : BufTy.Contents (Elt F) arg20.view.ty) (init : IVec S1x256 32 × FVec F S1x256 .f32) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 init where
  inv k acc := iprop((arg20.view.loc (c : Thread nD τ) ↦[arg20.view.set]{fullShare} X) ∗ ⌜acc = (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k)⌝)
  step k acc := by
    iintro ⟨HR, %h_acc⟩
    subst h_acc
    iapply (wp_wand_r Idealize.ShloMosaic.frame (wpE (defs₀ (F := F)) 𝒱 (c : Thread nD τ) bd) E)
    isplitl [HR]
    · iapply ((trip_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X k).2 E (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k.val).1 (st_k0_t5 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v100 v101 v110 v117 v152 v153 v154 X init k.val).2)
      iexact HR
    · iintro %yld ⟨%h_res, HR⟩
      isplitl [HR]; · iexact HR
      simp only [st_k0_t5_succ]
      ipureintro; rw [h_res]

/-- What the buffers hold either side of one trip: the score scratch, only read, at its contents. -/
abbrev Trip_k0_t10 (c : Dev nD) (arg20 : Memref sig .tc .vmem S8x256x256 .f32) (X : BufTy.Contents (Elt F) arg20.view.ty) : sProp 𝕄G :=
  iprop((arg20.view.loc (c : Thread nD τ) ↦[arg20.view.set]{fullShare} X))

/-- One step of the search for the tie cut, likewise. -/
@[irreducible] def trip_k0_t10 (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v194_0 : IVec S1x256 32) (v194_1 : FVec F S1x256 .f32) (v357 : FVec F S8x256 .f32) (X : BufTy.Contents (Elt F) arg20.view.ty) (k : Fin k0_t10_loop.trips) :
    { R : IVec S1x256 32 → IVec S1x256 32 // ∀ (E : Set ℕ) (acc : IVec S1x256 32),
      Trip_k0_t10 (F := F) c arg20 X
      ⊢ wp frame (wpE (defs₀ (F := F)) 𝒱 (c : Thread nD τ) bd) E (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 k acc)
          (fun yld => iprop(⌜yld = R acc⌝ ∗ Trip_k0_t10 (F := F) c arg20 X)) } := by
  refine ⟨?_, fun E acc => ?run⟩
  case run =>
    unfold k0_t10_body
    iintro HR
    sl_exec
    sl_step
    sl_close

/-- The carried value before trip `k`, from the value the loop starts with. -/
def st_k0_t10 (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v194_0 : IVec S1x256 32) (v194_1 : FVec F S1x256 .f32) (v357 : FVec F S8x256 .f32) (X : BufTy.Contents (Elt F) arg20.view.ty) (init : IVec S1x256 32) : ℕ → IVec S1x256 32
  | 0 => init
  | k + 1 => if h : k < k0_t10_loop.trips then (trip_k0_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X ⟨k, h⟩).1 (st_k0_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init k)
      else st_k0_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init k

theorem st_k0_t10_succ (𝒱 : Variants) (c : Dev nD) (bd : Option 𝒱.V) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v194_0 : IVec S1x256 32) (v194_1 : FVec F S1x256 .f32) (v357 : FVec F S8x256 .f32) (X : BufTy.Contents (Elt F) arg20.view.ty) (init : IVec S1x256 32) (k : Fin k0_t10_loop.trips) :
    st_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init (k.val + 1)
      = (trip_k0_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X k).1 (st_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init k.val) := by
  rw [st_k0_t10.eq_2]; exact dif_pos k.isLt

set_option warn.classDefReducibility false in
/-- The loop by its invariant: before trip `k` the score scratch is as it was and the carried value is `st_k0_t10 … k`. -/
@[sl_loop] def loopInv_k0_t10 (𝒱 : Variants) (c : Dev nD) (bd : Option 𝒱.V) (E : Set ℕ) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v194_0 : IVec S1x256 32) (v194_1 : FVec F S1x256 .f32) (v357 : FVec F S8x256 .f32) (X : BufTy.Contents (Elt F) arg20.view.ty) (init : IVec S1x256 32) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 init where
  inv k acc := iprop((arg20.view.loc (c : Thread nD τ) ↦[arg20.view.set]{fullShare} X) ∗ ⌜acc = (st_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init k)⌝)
  step k acc := by
    iintro ⟨HR, %h_acc⟩
    subst h_acc
    iapply (wp_wand_r Idealize.ShloMosaic.frame (wpE (defs₀ (F := F)) 𝒱 (c : Thread nD τ) bd) E)
    isplitl [HR]
    · iapply ((trip_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X k).2 E (st_k0_t10 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v194_0 v194_1 v357 X init k.val))
      iexact HR
    · iintro %yld ⟨%h_res, HR⟩
      isplitl [HR]; · iexact HR
      simp only [st_k0_t10_succ]
      ipureintro; rw [h_res]

end Cert.KernelIdeal.Gen

end
-- ==== Proof.BodyIdeal.lean ====
/- The part of the kernel body with the conditional search for the tie cut (a `lax.cond`), specified apart: taken or not, the part returns
   the cut and leaves the buffers it reads as they were. -/
module

public import proofs.«01_k».proof.Proof.SearchIdeal
public import proofs.«01_k».proof.Proof.Gen.KernelIdeal.Frame

@[expose] public section

set_option maxRecDepth 65536
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body expands the keys and values of a batch: the first query tile. -/
abbrev cond0_0 (i : grid0.Coords) : Prop := (Scalar.cmpi .ne (Scalar.extui (Scalar.cmpi .eq (BitVec.ofNat 32 (i 1).val) 0#32)) 0#32) = 1#1

/-- Whether some row of the block has more keys at or above its threshold than are to be taken. -/
abbrev tieCond (v1 : FVec F S1x256 .f32) : Prop :=
  Scalar.cmpi .ne (Scalar.extui (Scalar.cmpf .ogt (k0_pay66 v1) (Scalar.ofBits .f32 0x00000000#32))) 0#32 = 1#1

/-- The keys strictly above the threshold, counted over the score chunks. -/
def gtCount (c : Dev nD) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v0 : IVec S1x256 32) (v1 : FVec F S1x256 .f32) (X : BufTy.Contents (Elt F) arg20.view.ty) : FVec F S8x256 .f32 :=
  st_k0_t9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1 X
    (st_k0_t8 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1 X (k0_pay67 (F := F)) (Scf.trips (k0_t8_loop i).lb (k0_t8_loop i).ub (k0_t8_loop i).st)) (Scf.trips (k0_t9_loop i).lb (k0_t9_loop i).ub (k0_t9_loop i).st)

open Classical in
/-- The tie cut of every row: found by the second search when some row has ties to break, else past every key. -/
def tieCut (c : Dev nD) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v0 : IVec S1x256 32) (v1 : FVec F S1x256 .f32) (X : BufTy.Contents (Elt F) arg20.view.ty) : IVec S1x256 32 :=
  if tieCond v1 then
    st_k0_t10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1 (gtCount c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1 X) X k0_pay70 (Scf.trips k0_t10_loop.lb k0_t10_loop.ub k0_t10_loop.st)
  else k0_pay76

/-- The part of the body with the conditional search: what it returns, the buffers it reads left as they were. -/
theorem part18_spec (c : Dev nD) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (arg1 : BitVec 32) (v0 : IVec S1x256 32) (v1 : FVec F S1x256 .f32)
    (Y2 : BufTy.Contents (Elt F) arg2.view.ty) (Y7 : BufTy.Contents (Elt F) arg7.view.ty) (X : BufTy.Contents (Elt F) arg20.view.ty) (E : Set ℕ) :
    (iprop((arg2.view.loc (c : Thread nD τ) ↦[arg2.view.set]{fullShare} Y2) ∗ (arg7.view.loc (c : Thread nD τ) ↦[arg7.view.set]{fullShare} Y7) ∗ (arg20.view.loc (c : Thread nD τ) ↦[arg20.view.set]{fullShare} X)) : sProp 𝕄)
    ⊢ wp frame (wpE (defs₀ (F := F)) Variants.none c none) E (k0_part18_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1)
      (fun r => iprop(⌜r = ⟨k0_pay65 (F := F) v0, tieCut c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v0 v1 X,
          k0_pay77 (arg2.view.readAt (Elt F) (Rect.unit (s := S256x256) ![0, 0] S256x256.size inb_S256x256_S256x256_0_0).toLoadRect Y2)
            (arg7.view.readAt (Elt F) (Rect.unit (s := S4x256) ![0, 0] S1x256.size inb_S4x256_S1x256_0_0).toLoadRect Y7)
            (arg7.view.readAt (Elt F) (Rect.unit (s := S4x256) ![1, 0] S1x256.size inb_S4x256_S1x256_1_0).toLoadRect Y7)
            (arg7.view.readAt (Elt F) (Rect.unit (s := S4x256) ![2, 0] S1x256.size inb_S4x256_S1x256_2_0).toLoadRect Y7)
            (arg7.view.readAt (Elt F) (Rect.unit (s := S4x256) ![3, 0] S1x256.size inb_S4x256_S1x256_3_0).toLoadRect Y7)⟩⌝ ∗
        (arg2.view.loc (c : Thread nD τ) ↦[arg2.view.set]{fullShare} Y2) ∗ (arg7.view.loc (c : Thread nD τ) ↦[arg7.view.set]{fullShare} Y7) ∗ (arg20.view.loc (c : Thread nD τ) ↦[arg20.view.set]{fullShare} X))) := by
  unfold k0_part18_skel
  iintro ⟨H2, H7, H20⟩
  by_cases h : tieCond v1
  · sl_exec (disch := first | sl_exact h)
    sl_step
    isplitr
    · ipureintro; simp only [tieCut, if_pos h]; try rfl
    isplitl [H2]; · iexact H2
    isplitl [H7]; · iexact H7
    iexact H20
  · sl_exec (disch := first | sl_exact h)
    sl_step
    isplitr
    · ipureintro; simp only [tieCut, if_neg h]; try rfl
    isplitl [H2]; · iexact H2
    isplitl [H7]; · iexact H7
    iexact H20

end Cert.KernelIdeal.Gen

end
-- ==== Proof.RunAIdeal.lean ====
/- One run of the kernel body, at the first query tile of a batch. -/
module

public import proofs.«01_k».proof.Proof.BodyIdeal

@[expose] public section

set_option maxRecDepth 65536
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at the first query tile of a batch, which also expands the keys and the values into their scratch: the same, with the pieces
    written into the two scratch buffers found too. -/
def kernelRun0_A (c : Dev nD) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (hc0 : cond0_0 i) (x0 : Vec F S256x256 .bf16) (x1 : Vec F S2048x128 .bf16) (x2 : Vec F S256x256 .bf16) (x3 : Vec F S2048x256 .bf16) (x4 : Vec F S256x128 .f32) (x5 : Vec F S4x256 .bf16) (x6 : Vec F S128x256 .bf16) (x7 : Vec F S128x128 .bf16) (x8 : Vec F S1x128 .f32) (x9 : Vec F S4x128x256 .bf16) (x10 : Vec F S256x256 .f32) (x11 : Vec F S256x256 .f32) (x12 : Vec F S256x256 .bf16) (x13 : Vec F S128x128 .f32) (x14 : Vec F S256x256 .bf16) (X20 : Vec F S8x256x256 .f32) :
    (L : List (View.Piece (Elt F) S256x256 .bf16)) ×' (L18 : List (View.Piece (Elt F) S2048x256 .bf16)) ×' { L19 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare X20 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ d, owns (c : Thread nD τ) arg20 fullShare d) ∗ (∃ d, owns (c : Thread nD τ) arg21 fullShare d)) -∗ K ⟨⟩))
          ⊢ wp frame (wpE (defs₀ (F := F)) Variants.none c none) E (cc0_dsa_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    simp only [cc0_dsa_attn_eq_skeleton]; unfold cc0_dsa_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d18, %f18, -, HS18⟩, ⟨%d19, %f19, -, HS19⟩, ⟨%f20, %hf20, HS20⟩, ⟨%d21, %f21, -, HS21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg20.eq_unread hf20
    simp only [k0_part21_eq_skeleton]; unfold k0_part21_skel; simp -proj -iota -beta -zeta only [k0_part13_eq_skeleton, k0_part14_eq_skeleton, k0_part15_eq_skeleton, k0_part16_eq_skeleton, k0_part17_eq_skeleton, k0_part18_eq_skeleton, k0_part19_eq_skeleton, k0_part20_eq_skeleton]
    have hcut := fun v0 v1 Y2 Y7 X => part18_spec (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) v0 v1 Y2 Y7 X E
    sl_exec (disch := first | sl_exact hc0)
    rw [Idealize.SL.Sem.Prog.bind_assoc]
    cases hk0_part18_skel_0
    sl_exec
    rw [Idealize.SL.Sem.Prog.bind_assoc]
    sl_exec
    sl_step
    iapply Hk
    isplitl [Hk0_part18_skel_1]
    · iexists _; isplitr; · ipureintro; exact harg2.read_unread _
      iexact Hk0_part18_skel_1
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [Hk0_part18_skel_2]
    · iexists _; isplitr; · ipureintro; exact harg7.read_unread _
      iexact Hk0_part18_skel_2
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [HS18]; · iexists _; iexact HS18
    isplitl [HS19]; · iexists _; iexact HS19
    isplitl [Hk0_part18_skel_3]
    · iexists _, _; isplitr; swap; · iexact Hk0_part18_skel_3
      ipureintro; rfl
    iexists _, _; isplitr; swap; · iexact HS21
    ipureintro; rfl

end Cert.KernelIdeal.Gen

end
-- ==== Proof.RunBIdeal.lean ====
/- One run of the kernel body, at a later query tile of a batch. -/
module

public import proofs.«01_k».proof.Proof.BodyIdeal

@[expose] public section

set_option maxRecDepth 65536
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at a point whose query tile is not the first of its batch: on whole staging memrefs at the given contents, the expanded keys and
    values at what the batch's first point left, it runs to the end with every input as it was and the result's buffer with the found pieces
    written. -/
def kernelRun0_B (c : Dev nD) (i : grid0.Coords) (arg2 : Memref sig .tc .vmem S256x256 .bf16) (harg2 : arg2.IsWhole) (arg3 : Memref sig .tc .vmem S2048x128 .bf16) (harg3 : arg3.IsWhole) (arg4 : Memref sig .tc .vmem S256x256 .bf16) (harg4 : arg4.IsWhole) (arg5 : Memref sig .tc .vmem S2048x256 .bf16) (harg5 : arg5.IsWhole) (arg6 : Memref sig .tc .vmem S256x128 .f32) (harg6 : arg6.IsWhole) (arg7 : Memref sig .tc .vmem S4x256 .bf16) (harg7 : arg7.IsWhole) (arg8 : Memref sig .tc .vmem S128x256 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S4x128x256 .bf16) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .bf16) (harg14 : arg14.IsWhole) (arg15 : Memref sig .tc .vmem S128x128 .f32) (harg15 : arg15.IsWhole) (arg16 : Memref sig .tc .vmem S256x256 .bf16) (harg16 : arg16.IsWhole) (arg17 : Memref sig .tc .vmem S256x256 .bf16) (harg17 : arg17.IsWhole) (arg18 : Memref sig .tc .vmem S2048x256 .bf16) (harg18 : arg18.IsWhole) (arg19 : Memref sig .tc .vmem S2048x128 .bf16) (harg19 : arg19.IsWhole) (arg20 : Memref sig .tc .vmem S8x256x256 .f32) (harg20 : arg20.IsWhole) (arg21 : Memref sig .tc .vmem S256x2048 .bf16) (harg21 : arg21.IsWhole) (hc0 : ¬ cond0_0 i) (x0 : Vec F S256x256 .bf16) (x1 : Vec F S2048x128 .bf16) (x2 : Vec F S256x256 .bf16) (x3 : Vec F S2048x256 .bf16) (x4 : Vec F S256x128 .f32) (x5 : Vec F S4x256 .bf16) (x6 : Vec F S128x256 .bf16) (x7 : Vec F S128x128 .bf16) (x8 : Vec F S1x128 .f32) (x9 : Vec F S4x128x256 .bf16) (x10 : Vec F S256x256 .f32) (x11 : Vec F S256x256 .f32) (x12 : Vec F S256x256 .bf16) (x13 : Vec F S128x128 .f32) (x14 : Vec F S256x256 .bf16) (y18 : Vec F S2048x256 .bf16) (y19 : Vec F S2048x128 .bf16) (X20 : Vec F S8x256x256 .f32) :
    { L : List (View.Piece (Elt F) S256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare y18 ∗ owns (c : Thread nD τ) arg19 fullShare y19 ∗ owns (c : Thread nD τ) arg20 fullShare X20 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L) ∗ owns (c : Thread nD τ) arg18 fullShare y18 ∗ owns (c : Thread nD τ) arg19 fullShare y19 ∗ (∃ d, owns (c : Thread nD τ) arg20 fullShare d) ∗ (∃ d, owns (c : Thread nD τ) arg21 fullShare d)) -∗ K ⟨⟩))
          ⊢ wp frame (wpE (defs₀ (F := F)) Variants.none c none) E (cc0_dsa_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0_dsa_attn_eq_skeleton]; unfold cc0_dsa_attn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f18, %hf18, HS18⟩, ⟨%f19, %hf19, HS19⟩, ⟨%f20, %hf20, HS20⟩, ⟨%d21, %f21, -, HS21⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hf18; obtain rfl := harg19.eq_unread hf19; obtain rfl := harg20.eq_unread hf20
    simp only [k0_part21_eq_skeleton]; unfold k0_part21_skel; simp -proj -iota -beta -zeta only [k0_part13_eq_skeleton, k0_part14_eq_skeleton, k0_part15_eq_skeleton, k0_part16_eq_skeleton, k0_part17_eq_skeleton, k0_part18_eq_skeleton, k0_part19_eq_skeleton, k0_part20_eq_skeleton]
    have hcut := fun v0 v1 Y2 Y7 X => part18_spec (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) v0 v1 Y2 Y7 X E
    sl_exec (disch := first | sl_exact hc0)
    rw [Idealize.SL.Sem.Prog.bind_assoc]
    cases hk0_part18_skel_0
    sl_exec
    rw [Idealize.SL.Sem.Prog.bind_assoc]
    sl_exec
    sl_step
    iapply Hk
    isplitl [Hk0_part18_skel_1]
    · iexists _; isplitr; · ipureintro; exact harg2.read_unread _
      iexact Hk0_part18_skel_1
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [Hk0_part18_skel_2]
    · iexists _; isplitr; · ipureintro; exact harg7.read_unread _
      iexact Hk0_part18_skel_2
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [HS18]
    · iexists _; isplitr; · ipureintro; exact harg18.read_unread _
      iexact HS18
    isplitl [HS19]
    · iexists _; isplitr; · ipureintro; exact harg19.read_unread _
      iexact HS19
    isplitl [Hk0_part18_skel_3]
    · iexists _, _; isplitr; swap; · iexact Hk0_part18_skel_3
      ipureintro; rfl
    iexists _, _; isplitr; swap; · iexact HS21
    ipureintro; rfl

end Cert.KernelIdeal.Gen

end
-- ==== Proof.FrameIdeal.lean ====
/- The frame of the kernel: every run ends, no argument array changes, every semaphore is back at zero.

   The pipeline stages fifteen inputs and one output, and the body takes four scratch buffers besides. Nothing is said here
   of what the output or the scratch buffers hold: the body is run at whatever they hold (`kernelRun0_A` at the first query
   tile of a batch, `kernelRun0_B` at the others). -/
module

public import proofs.«01_k».proof.Proof.RunAIdeal
public import proofs.«01_k».proof.Proof.RunBIdeal
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's first conditional holds at the first query tile of each batch. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The windows' staging buffers and the scratch buffers -/

abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .bf16 := win0_15.stage (cfg0.slots t 15)
abbrev hs0_15 (t : Fin cfg0.N) : (ms0_15 t).IsWhole := hstage0_15 ((cfg0.slots t 15).cast nbuf0_15)
abbrev scM0_0 : Memref sig .tc .vmem S2048x256 .bf16 := Memref.whole cc0_scratch0
abbrev scM0_1 : Memref sig .tc .vmem S2048x128 .bf16 := Memref.whole cc0_scratch1
abbrev scM0_2 : Memref sig .tc .vmem S8x256x256 .f32 := Memref.whole cc0_scratch2
abbrev scM0_3 : Memref sig .tc .vmem S256x2048 .bf16 := Memref.whole cc0_scratch3

/-- What the region is entered with: the four scratch buffers at anything, and the generator register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- The output window, of which nothing is named. -/
def forgets0 : Fin 16 → Bool := fun w => w.val == 15

/-- The proof data: each input's buffer keeps its block, the output is not named, the scratch holds anything. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨n + 16, h⟩ => absurd h (Nat.not_lt.mpr (Nat.le_add_left 16 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Pipeline.ΦA spec0 c := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body at one point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d))

set_option maxHeartbeats 6400000 in
/-- The body at any point, at whatever the output and the scratch buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [Phi_eq, Phi_eq, PhiA0_eq]
  by_cases h0 : t.val % 8 = 0
  · iintro ⟨⟨⟨S0, S1, ⟨%d20, S2⟩, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ _ _ _ _ ((hcond0_0 t).mpr h0) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) d20).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, ⟨%f15, H15⟩, ⟨%f18, S0⟩, ⟨%f19, S1⟩, S2, S3⟩
    isplitl [S0 S1 S2 S3 Hg]
    · isplitl [S0 S1 S2 S3]
      · isplitl [S0]
        · unfold owns; iexists _, _; isplitr; swap; · iexact S0
          ipureintro; rfl
        isplitl [S1]
        · unfold owns; iexists _, _; isplitr; swap; · iexact S1
          ipureintro; rfl
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    unfold owns; iexists _, _; isplitr; swap; · iexact H15
    ipureintro; rfl
  · iintro ⟨⟨⟨⟨%y18, S0⟩, ⟨%y19, S1⟩, ⟨%d20, S2⟩, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y18 y19 d20).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [S0]; · iexact S0
    isplitl [S1]; · iexact S1
    isplitl [S2]; · iexact S2
    isplitl [S3]; · iexact S3
    iintro ⟨H0, H1, H2, H3, H4, H5, H6, H7, H8, H9, H10, H11, H12, H13, H14, ⟨%f15, H15⟩, S0, S1, S2, S3⟩
    isplitl [S0 S1 S2 S3 Hg]
    · isplitl [S0 S1 S2 S3]
      · isplitl [S0]; · iexists _; iexact S0
        isplitl [S1]; · iexists _; iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    unfold owns; iexists _, _; isplitr; swap; · iexact H15
    ipureintro; rfl

theorem defs₀_row (t : Fin cfg0.N) :
    defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_eq]

theorem hout (c : Dev nD) : (dats m 0 c).Φ (Fin.last cfg0.N) ⊢ Pipeline.ΦA spec0 c := by
  rw [Phi_eq]

/-! ## The run and the frame -/

set_option backward.isDefEq.respectTransparency.types false in
/-- The whole program runs to its end, the unstaged arrays as the region found them and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The six argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main_quiescent m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Rows.lean ====
/-
  The row functions the feed-forward and the mixing call compute: plain functions of rows of
  extended reals, which both the kernels' blocks and the references' arrays are read as.
-/
module

public import Idealize.ShloMosaic.PureOps.Ideal
public import Idealize.ShloMosaic.Lib.Pipeline.ValueKit
public import Idealize.ShloMosaic.Lib.Pointwise

@[expose] public section

noncomputable section

namespace Cert.Rows

open Idealize.ShloMosaic

/-- A row of 1024 over the root of its mean square (the small constant added), times the gain. -/
def rms (x g : Fin 1024 → EReal) (j : Fin 1024) : EReal :=
  x j * Ideal.rsqrt (Ideal.div (∑ k : Fin 1024, x k * x k) (Ideal.ofBits .f32 0x44800000#32)
      + Ideal.ofBits .f32 0x358637BD#32) * g j

/-- One hidden unit of the feed-forward: the squared positive part of the row against a column. -/
def hiddenUnit (h : Fin 1024 → EReal) (w : Fin 1024 → EReal) : EReal :=
  max (∑ k : Fin 1024, h k * w k) 0 * max (∑ k : Fin 1024, h k * w k) 0

/-- The row with its feed-forward added. -/
def ffn (x g : Fin 1024 → EReal) (up : Fin 1024 → Fin 4096 → EReal) (down : Fin 4096 → Fin 1024 → EReal)
    (j : Fin 1024) : EReal :=
  x j + ∑ f : Fin 4096, hiddenUnit (rms x g) (fun k => up k f) * down f j

/-- The chunk `c` of a sum over 4096: its 1024 consecutive terms from `1024 * c`. -/
abbrev chunk (c : Fin 4) (k : Fin 1024) : Fin 4096 := ⟨1024 * c.1 + k.1, by omega⟩

/-- A sum over 4096 is the sum of its four chunks. -/
theorem sum_chunks (f : Fin 4096 → EReal) :
    ∑ i, f i = ∑ k, f (chunk 0 k) + ∑ k, f (chunk 1 k) + ∑ k, f (chunk 2 k) + ∑ k, f (chunk 3 k) := by
  have e : ∑ i : Fin 4096, f i = ∑ p : Fin 4 × Fin 1024, f (chunk p.1 p.2) :=
    (Fintype.sum_bijective (fun p : Fin 4 × Fin 1024 => chunk p.1 p.2)
      ⟨fun p q h => by
          have h' : 1024 * p.1.1 + p.2.1 = 1024 * q.1.1 + q.2.1 := congrArg Fin.val h
          exact Prod.ext (Fin.ext (by omega)) (Fin.ext (by omega)),
        fun i => ⟨(⟨i.1 / 1024, by omega⟩, ⟨i.1 % 1024, by omega⟩), Fin.ext (by
          show 1024 * (i.1 / 1024) + i.1 % 1024 = i.1
          omega)⟩⟩ _ _ fun _ => rfl).symm
  rw [e, Fintype.sum_prod_type, Fin.sum_univ_four]

/-- One branch of the mixing: the gate of the row against a column, times the branch's row against its own. -/
def branch (h w : Fin 1024 → EReal) (o u : Fin 256 → EReal) : EReal :=
  Ideal.div 1 (1 + Ideal.exp (-(∑ k : Fin 1024, h k * w k))) * ∑ k : Fin 256, o k * u k

/-- The row with its mixed branches, projected, added. -/
def mix (x g : Fin 1024 → EReal) (w : Fin 4 → Fin 1024 → Fin 1024 → EReal) (o0 o1 o2 o3 : Fin 256 → EReal)
    (u : Fin 4 → Fin 256 → Fin 1024 → EReal) (out : Fin 1024 → Fin 1024 → EReal) (j : Fin 1024) : EReal :=
  x j + ∑ d : Fin 1024, (branch (rms x g) (fun k => w 0 k d) o0 (fun k => u 0 k d)
      + branch (rms x g) (fun k => w 1 k d) o1 (fun k => u 1 k d)
      + branch (rms x g) (fun k => w 2 k d) o2 (fun k => u 2 k d)
      + branch (rms x g) (fun k => w 3 k d) o3 (fun k => u 3 k d)) * out d j

end Cert.Rows
-- ==== Proof.FfnPay.lean ====
/-
  The feed-forward's kernel payload and its reference, each read at an index as the row functions.
-/
module

public import proofs.«01_k».proof.Proof.Rows
public import proofs.«01_k».proof.Proof.Gen.Kernel2Ideal.Value
public import proofs.«01_k».proof.Proof.Gen.Reference2Ideal.Read

@[expose] public section

set_option maxRecDepth 16384

noncomputable section

namespace Cert.Kernel2Ideal.FfnPay

open Idealize.ShloMosaic Idealize.SL.Sem
open Cert.Kernel2Ideal Cert.Kernel2Ideal.Gen Cert.Rows

/-- The normalized rows. -/
theorem pay2_apply (x : Vec Ideal S256x1024 .f32) (g : Vec Ideal S1x1024 .f32) (r : Fin 256) (j : Fin 1024) :
    k0_pay2 (F := Ideal) x g (ix2 r j) = rms (fun k => x (ix2 r k)) (fun k => g (ix2 0 k)) j := by
  pointwise [k0_pay2, k0_pay1, rms]

/-- The first chunk of the hidden units, through the down projection. -/
theorem pay3_apply (x : Vec Ideal S256x1024 .f32) (g : Vec Ideal S1x1024 .f32) (a b : Vec Ideal S1024x1024 .bf16)
    (r : Fin 256) (j : Fin 1024) :
    k0_pay3 (F := Ideal) x g a b (ix2 r j)
      = ∑ f : Fin 1024, hiddenUnit (rms (fun k => x (ix2 r k)) (fun k => g (ix2 0 k))) (fun k => a (ix2 k f)) * b (ix2 f j) := by
  pointwise [k0_pay3, pay2_apply, hiddenUnit]

/-- The second chunk's hidden units. -/
theorem pay4_apply (x : Vec Ideal S256x1024 .f32) (g : Vec Ideal S1x1024 .f32) (a : Vec Ideal S1024x1024 .bf16)
    (r : Fin 256) (f : Fin 1024) :
    k0_pay4 (F := Ideal) x g a (ix2 r f)
      = hiddenUnit (rms (fun k => x (ix2 r k)) (fun k => g (ix2 0 k))) (fun k => a (ix2 k f)) := by
  pointwise [k0_pay4, pay2_apply, hiddenUnit]

/-- The block the kernel stores. -/
theorem pay6_apply (x : Vec Ideal S256x1024 .f32) (g : Vec Ideal S1x1024 .f32)
    (a0 b0 a1 b1 a2 b2 a3 b3 : Vec Ideal S1024x1024 .bf16) (fg : Vec Ideal S1x1024 .f32) (y : S256x1024.Idx) :
    k0_pay6 (F := Ideal) (k0_pay1 x) (k0_pay2 x g) (k0_pay3 x g a0 b0) (k0_pay4 x g a1) (k0_pay5 b1) a2 b2 a3 b3 fg y
      = rms (fun j => x (ix2 (y 0) j)
          + (∑ f : Fin 1024, hiddenUnit (rms (fun k => x (ix2 (y 0) k)) (fun k => g (ix2 0 k))) (fun k => a0 (ix2 k f)) * b0 (ix2 f j)
            + ∑ f : Fin 1024, hiddenUnit (rms (fun k => x (ix2 (y 0) k)) (fun k => g (ix2 0 k))) (fun k => a1 (ix2 k f)) * b1 (ix2 f j)
            + ∑ f : Fin 1024, hiddenUnit (rms (fun k => x (ix2 (y 0) k)) (fun k => g (ix2 0 k))) (fun k => a2 (ix2 k f)) * b2 (ix2 f j)
            + ∑ f : Fin 1024, hiddenUnit (rms (fun k => x (ix2 (y 0) k)) (fun k => g (ix2 0 k))) (fun k => a3 (ix2 k f)) * b3 (ix2 f j)))
          (fun k => fg (ix2 0 k)) (y 1) := by
  obtain ⟨r, j, rfl⟩ : ∃ r j, y = ix2 r j := ⟨y 0, y 1, by funext a; fin_cases a <;> rfl⟩
  pointwise [k0_pay6, k0_pay1, k0_pay5, pay3_apply, pay4_apply, pay2_apply]
  rfl

end Cert.Kernel2Ideal.FfnPay

namespace Cert.Reference2Ideal.FfnRef

open Idealize.ShloMosaic Idealize.SL.Sem
open Cert.Reference2Ideal Cert.Reference2Ideal.Read Cert.Rows

theorem v12_apply (x : FVec Ideal S8x2048x1024 .f32) (g : FVec Ideal S1024 .f32) (b : Fin 8) (s : Fin 2048) (j : Fin 1024) :
    val_main_v12 (F := Ideal) x g (ix3 b s j) = rms (fun k => x (ix3 b s k)) (fun k => g (ix1 k)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rms]

/-- The reference's row with its feed-forward added. -/
theorem v17_apply (x : FVec Ideal S8x2048x1024 .f32) (g : FVec Ideal S1024 .f32) (wu : FVec Ideal S1024x4096 .f32)
    (wd : FVec Ideal S4096x1024 .f32) (b : Fin 8) (s : Fin 2048) (j : Fin 1024) :
    val_main_v17 (F := Ideal) x g wu wd (ix3 b s j)
      = ffn (fun k => x (ix3 b s k)) (fun k => g (ix1 k)) (fun k f => wu (ix2 k f)) (fun f j => wd (ix2 f j)) j := by
  pointwise [val_main_v17, val_main_v16, val_main_v15, val_main_v14, val_main_v13, val_main_call0_v0, val_main_call0_cst,
    v12_apply]
  rfl

/-- The reference's result. -/
theorem v31_apply (x : FVec Ideal S8x2048x1024 .f32) (g : FVec Ideal S1024 .f32) (wu : FVec Ideal S1024x4096 .f32)
    (wd : FVec Ideal S4096x1024 .f32) (fg : FVec Ideal S1024 .f32) (i : S16384x1024.Idx) :
    val_main_v31 (F := Ideal) x g wu wd fg i
      = rms (fun j => ffn (fun k => x (ix3 ⟨(i 0).val / 2048, by have : (i 0).val < 16384 := (i 0).isLt; omega⟩ ⟨(i 0).val % 2048, by omega⟩ k))
          (fun k => g (ix1 k)) (fun k f => wu (ix2 k f)) (fun f j => wd (ix2 f j)) j) (fun k => fg (ix1 k)) (i 1) := by
  pointwise [val_main_v31, val_main_v30, val_main_v29, val_main_v28, val_main_v27, val_main_v26, val_main_v25, val_main_v24,
    val_main_v23, val_main_v22, val_main_v21, val_main_v20, val_main_v19, val_main_v18, val_main_cst_2, val_main_cst_3,
    val_main_cst_4, v17_apply]
  rfl

end Cert.Reference2Ideal.FfnRef
-- ==== Proof.FfnValue.lean ====
/-
  The feed-forward's result array after the run: the reference's composed term.
-/
module

public import proofs.«01_k».proof.Proof.FfnPay
public import Idealize.ShloMosaic.Lib.Claim

@[expose] public section

set_option maxRecDepth 16384

noncomputable section

namespace Cert.Kernel2Ideal.FfnValue

open Idealize.ShloMosaic Idealize.SL.Sem
open Cert.Kernel2Ideal Cert.Kernel2Ideal.Gen Cert.Rows

variable (m : (ℓ : Loc nD τ sig) → Buf (Elt Ideal) ℓ)

/-- The index maps of the six windows over the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reshaped rows, read at the batch and the position. -/
theorem flat_apply (x : FVec Ideal S8x2048x1024 .f32) (a : Fin 16384) (k : Fin 1024) (i : Fin 8) (s : Fin 2048)
    (h : i.val * 2048 + s.val = a.val) :
    shapeCast S16384x1024 x shapeCasts_S8x2048x1024_S16384x1024 (ix2 a k) = x (ix3 i s k) := by
  have hs := s.isLt
  have hi : (⟨a.val / 2048, by omega⟩ : Fin 8) = i := Fin.ext (by show a.val / 2048 = i.val; omega)
  have hr : (⟨a.val % 2048, by omega⟩ : Fin 2048) = s := Fin.ext (by show a.val % 2048 = s.val; omega)
  rw [← hi, ← hr]
  pointwise

/-- The gains' row. -/
theorem row_apply (x : FVec Ideal S1024 .f32) (k : Fin 1024) :
    broadcastInDim S1x1024 ![1] bcast_S1024_S1x1024_1 x (ix2 0 k) = x (ix1 k) := by
  pointwise

theorem x_read (c : Dev nD) (t : Fin cfg0.N) (r : Fin 256) (k : Fin 1024) (i : Fin 8) (s : Fin 2048)
    (h : i.val * 2048 + s.val = t.val * 256 + r.val) :
    iblk m c 0 t (ix2 r k) = m ((c.tc : Thread nD τ).loc main_arg0) (ix3 i s k) := by
  have ht : t.val < 64 := t.isLt
  have e : (win0_0.blk t).view.emb (ix2 r k) = ix2 ⟨t.val * 256 + r.val, by omega⟩ k := by blk_ext [idx t]
  refine Eq.trans ?_ (flat_apply _ ⟨t.val * 256 + r.val, by omega⟩ k i s h)
  rw [← e]
  unfold iblk
  entry_read
  rfl

theorem g_read (c : Dev nD) (t : Fin cfg0.N) (k : Fin 1024) :
    iblk m c 1 t (ix2 0 k) = m ((c.tc : Thread nD τ).loc main_arg1) (ix1 k) := by
  have e : (win0_1.blk t).view.emb (ix2 0 k) = ix2 0 k := by blk_ext [idx t]
  refine Eq.trans ?_ ((congrArg _ e).trans (row_apply _ k))
  unfold iblk
  entry_read
  rfl

theorem fg_read (c : Dev nD) (t : Fin cfg0.N) (k : Fin 1024) :
    iblk m c 4 t (ix2 0 k) = m ((c.tc : Thread nD τ).loc main_arg4) (ix1 k) := by
  have e : (win0_4.blk t).view.emb (ix2 0 k) = ix2 0 k := by blk_ext [idx t]
  refine Eq.trans ?_ ((congrArg _ e).trans (row_apply _ k))
  unfold iblk
  entry_read
  rfl

theorem up_read (c : Dev nD) (t : Fin cfg0.N) (k : Fin 1024) (f : Fin 4096) :
    iblk m c 2 t (ix2 k f) = m ((c.tc : Thread nD τ).loc main_arg2) (ix2 k f) := by
  have e : (win0_2.blk t).view.emb (ix2 k f) = ix2 k f := by blk_ext [idx t]
  refine Eq.trans ?_ (congrArg _ e)
  unfold iblk
  entry_read
  rfl

theorem down_read (c : Dev nD) (t : Fin cfg0.N) (f : Fin 4096) (k : Fin 1024) :
    iblk m c 3 t (ix2 f k) = m ((c.tc : Thread nD τ).loc main_arg3) (ix2 f k) := by
  have e : (win0_3.blk t).view.emb (ix2 f k) = ix2 f k := by blk_ext [idx t]
  refine Eq.trans ?_ (congrArg _ e)
  unfold iblk
  entry_read
  rfl

theorem up0 (c : Dev nD) (t : Fin cfg0.N) (k f : Fin 1024) :
    View.ld (iblk m c 2 t) r0_2 (ix2 k f) = m ((c.tc : Thread nD τ).loc main_arg2) (ix2 k (chunk 0 f)) := by
  refine Eq.trans ?_ (up_read m c t k (chunk 0 f))
  pointwise
  exact congrArg (iblk m c 2 t) (congrArg (ix2 k) (Fin.ext (by show f.val = 1024 * 0 + f.val; omega)))

theorem down0 (c : Dev nD) (t : Fin cfg0.N) (f k : Fin 1024) :
    View.ld (iblk m c 3 t) r0_3 (ix2 f k) = m ((c.tc : Thread nD τ).loc main_arg3) (ix2 (chunk 0 f) k) := by
  refine Eq.trans ?_ (down_read m c t (chunk 0 f) k)
  pointwise
  exact congrArg (iblk m c 3 t) (congrArg (fun f => ix2 f k) (Fin.ext (by show f.val = 1024 * 0 + f.val; omega)))

theorem up1 (c : Dev nD) (t : Fin cfg0.N) (k f : Fin 1024) :
    View.ld (iblk m c 2 t) r0_4 (ix2 k f) = m ((c.tc : Thread nD τ).loc main_arg2) (ix2 k (chunk 1 f)) := by
  refine Eq.trans ?_ (up_read m c t k (chunk 1 f))
  pointwise
  rfl

theorem down1 (c : Dev nD) (t : Fin cfg0.N) (f k : Fin 1024) :
    View.ld (iblk m c 3 t) r0_5 (ix2 f k) = m ((c.tc : Thread nD τ).loc main_arg3) (ix2 (chunk 1 f) k) := by
  refine Eq.trans ?_ (down_read m c t (chunk 1 f) k)
  pointwise
  rfl

theorem up2 (c : Dev nD) (t : Fin cfg0.N) (k f : Fin 1024) :
    View.ld (iblk m c 2 t) r0_6 (ix2 k f) = m ((c.tc : Thread nD τ).loc main_arg2) (ix2 k (chunk 2 f)) := by
  refine Eq.trans ?_ (up_read m c t k (chunk 2 f))
  pointwise
  rfl

theorem down2 (c : Dev nD) (t : Fin cfg0.N) (f k : Fin 1024) :
    View.ld (iblk m c 3 t) r0_7 (ix2 f k) = m ((c.tc : Thread nD τ).loc main_arg3) (ix2 (chunk 2 f) k) := by
  refine Eq.trans ?_ (down_read m c t (chunk 2 f) k)
  pointwise
  rfl

theorem up3 (c : Dev nD) (t : Fin cfg0.N) (k f : Fin 1024) :
    View.ld (iblk m c 2 t) r0_8 (ix2 k f) = m ((c.tc : Thread nD τ).loc main_arg2) (ix2 k (chunk 3 f)) := by
  refine Eq.trans ?_ (up_read m c t k (chunk 3 f))
  pointwise
  rfl

theorem down3 (c : Dev nD) (t : Fin cfg0.N) (f k : Fin 1024) :
    View.ld (iblk m c 3 t) r0_9 (ix2 f k) = m ((c.tc : Thread nD τ).loc main_arg3) (ix2 (chunk 3 f) k) := by
  refine Eq.trans ?_ (down_read m c t (chunk 3 f) k)
  pointwise
  rfl

/-- What one block stores, read at an index: the reference's term where the block lies. -/
theorem point (c : Dev nD) (t : Fin cfg0.N) (y : S256x1024.Idx) :
    out0_5 (iblk m c 0 t) (iblk m c 1 t) (iblk m c 2 t) (iblk m c 3 t) (iblk m c 4 t) y
      = Cert.Reference2Ideal.Read.val_main_v31 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (((cfg0.win 5).blk t).view.emb y) := by
  have ht : t.val < 64 := t.isLt
  have hy : (y 0).val < 256 := (y 0).isLt
  have e : ((cfg0.win 5).blk t).view.emb y = ix2 ⟨t.val * 256 + (y 0).val, by omega⟩ (y 1) := by blk_ext [idx t]
  refine Eq.trans ?_ (congrArg _ e).symm
  frame_out
  have hx := fun k => x_read m c t (y 0) k ⟨(t.val * 256 + (y 0).val) / 2048, by omega⟩
    ⟨(t.val * 256 + (y 0).val) % 2048, by omega⟩ (by show _ / 2048 * 2048 + _ % 2048 = _; omega)
  rw [FfnPay.pay6_apply]
  simp only [g_read, fg_read, up0, up1, up2, up3, down0, down1, down2, down3]
  refine Eq.trans ?_ (Cert.Reference2Ideal.FfnRef.v31_apply _ _ _ _ _ _).symm
  simp only [ffn, sum_chunks, hx]
  rfl

/-- The result array after the run. -/
theorem final (c : Dev nD) : (dats m 0 c).arrAt 5 cfg0.N
    = Cert.Reference2Ideal.Read.val_main_v31 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t _ y => ?_
  blk_simp
  rw [after0_5]
  exact point m c t y

end Cert.Kernel2Ideal.FfnValue
-- ==== Proof.FirstFfnPay.lean ====
/-
  The first layer's feed-forward, without the final norm: the kernel's payload and the reference, each read at an index as the row functions.
-/
module

public import proofs.«01_k».proof.Proof.Rows
public import proofs.«01_k».proof.Proof.Gen.Kernel5Ideal.Value
public import proofs.«01_k».proof.Proof.Gen.Reference5Ideal.Read

@[expose] public section

set_option maxRecDepth 16384

noncomputable section

namespace Cert.Kernel5Ideal.FirstFfnPay

open Idealize.ShloMosaic Idealize.SL.Sem
open Cert.Kernel5Ideal Cert.Kernel5Ideal.Gen Cert.Rows

/-- The normalized rows. -/
theorem pay3_apply (x : Vec Ideal S256x1024 .f32) (g : Vec Ideal S1x1024 .f32) (r : Fin 256) (j : Fin 1024) :
    k0_pay3 (F := Ideal) x g (ix2 r j) = rms (fun k => x (ix2 r k)) (fun k => g (ix2 0 k)) j := by
  pointwise [k0_pay3, k0_pay2, rms]

/-- The first chunk of the hidden units, through the down projection. -/
theorem pay4_apply (x : Vec Ideal S256x1024 .f32) (g : Vec Ideal S1x1024 .f32) (a b : Vec Ideal S1024x1024 .bf16)
    (r : Fin 256) (j : Fin 1024) :
    k0_pay4 (F := Ideal) x g a b (ix2 r j)
      = ∑ f : Fin 1024, hiddenUnit (rms (fun k => x (ix2 r k)) (fun k => g (ix2 0 k))) (fun k => a (ix2 k f)) * b (ix2 f j) := by
  pointwise [k0_pay4, pay3_apply, hiddenUnit]

/-- The second chunk's hidden units. -/
theorem pay5_apply (x : Vec Ideal S256x1024 .f32) (g : Vec Ideal S1x1024 .f32) (a : Vec Ideal S1024x1024 .bf16)
    (r : Fin 256) (f : Fin 1024) :
    k0_pay5 (F := Ideal) x g a (ix2 r f)
      = hiddenUnit (rms (fun k => x (ix2 r k)) (fun k => g (ix2 0 k))) (fun k => a (ix2 k f)) := by
  pointwise [k0_pay5, pay3_apply, hiddenUnit]

/-- The block the kernel stores. -/
theorem pay1_apply (x : Vec Ideal S256x1024 .f32) (g : Vec Ideal S1x1024 .f32)
    (a0 b0 a1 b1 a2 b2 a3 b3 : Vec Ideal S1024x1024 .bf16) (r : Fin 256) (j : Fin 1024) :
    k0_pay1 (F := Ideal) (k0_pay2 x) (k0_pay3 x g) (k0_pay4 x g a0 b0) (k0_pay5 x g a1) (k0_pay6 b1) a2 b2 a3 b3 (ix2 r j)
      = x (ix2 r j)
          + (∑ f : Fin 1024, hiddenUnit (rms (fun k => x (ix2 r k)) (fun k => g (ix2 0 k))) (fun k => a0 (ix2 k f)) * b0 (ix2 f j)
            + ∑ f : Fin 1024, hiddenUnit (rms (fun k => x (ix2 r k)) (fun k => g (ix2 0 k))) (fun k => a1 (ix2 k f)) * b1 (ix2 f j)
            + ∑ f : Fin 1024, hiddenUnit (rms (fun k => x (ix2 r k)) (fun k => g (ix2 0 k))) (fun k => a2 (ix2 k f)) * b2 (ix2 f j)
            + ∑ f : Fin 1024, hiddenUnit (rms (fun k => x (ix2 r k)) (fun k => g (ix2 0 k))) (fun k => a3 (ix2 k f)) * b3 (ix2 f j)) := by
  pointwise [k0_pay1, k0_pay2, k0_pay6, pay4_apply, pay5_apply, pay3_apply]
  rfl

end Cert.Kernel5Ideal.FirstFfnPay

namespace Cert.Reference5Ideal.FirstFfnRef

open Idealize.ShloMosaic Idealize.SL.Sem
open Cert.Reference5Ideal Cert.Reference5Ideal.Read Cert.Rows

theorem v12_apply (x : FVec Ideal S8x2048x1024 .f32) (g : FVec Ideal S1024 .f32) (b : Fin 8) (s : Fin 2048) (j : Fin 1024) :
    val_main_v12 (F := Ideal) x g (ix3 b s j) = rms (fun k => x (ix3 b s k)) (fun k => g (ix1 k)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rms]

/-- The reference's row with its feed-forward added. -/
theorem v17_apply (x : FVec Ideal S8x2048x1024 .f32) (g : FVec Ideal S1024 .f32) (wu : FVec Ideal S1024x4096 .f32)
    (wd : FVec Ideal S4096x1024 .f32) (b : Fin 8) (s : Fin 2048) (j : Fin 1024) :
    val_main_v17 (F := Ideal) x g wu wd (ix3 b s j)
      = ffn (fun k => x (ix3 b s k)) (fun k => g (ix1 k)) (fun k f => wu (ix2 k f)) (fun f j => wd (ix2 f j)) j := by
  pointwise [val_main_v17, val_main_v16, val_main_v15, val_main_v14, val_main_v13, val_main_call0_v0, val_main_call0_cst,
    v12_apply]
  rfl

/-- The reference's result. -/
theorem v18_apply (x : FVec Ideal S8x2048x1024 .f32) (g : FVec Ideal S1024 .f32) (wu : FVec Ideal S1024x4096 .f32)
    (wd : FVec Ideal S4096x1024 .f32) (i : S16384x1024.Idx) :
    val_main_v18 (F := Ideal) x g wu wd i
      = ffn (fun k => x (ix3 ⟨(i 0).val / 2048, by have : (i 0).val < 16384 := (i 0).isLt; omega⟩ ⟨(i 0).val % 2048, by omega⟩ k))
          (fun k => g (ix1 k)) (fun k f => wu (ix2 k f)) (fun f j => wd (ix2 f j)) (i 1) := by
  pointwise [val_main_v18, v17_apply]

end Cert.Reference5Ideal.FirstFfnRef
-- ==== Proof.FirstFfnValue.lean ====
/-
  The first layer's feed-forward: the result array after the run: the reference's composed term.
-/
module

public import proofs.«01_k».proof.Proof.FirstFfnPay
public import Idealize.ShloMosaic.Lib.Claim

@[expose] public section

set_option maxRecDepth 16384

noncomputable section

namespace Cert.Kernel5Ideal.FirstFfnValue

open Idealize.ShloMosaic Idealize.SL.Sem
open Cert.Kernel5Ideal Cert.Kernel5Ideal.Gen Cert.Rows

variable (m : (ℓ : Loc nD τ sig) → Buf (Elt Ideal) ℓ)

/-- The index maps of the six windows over the grid. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reshaped rows, read at the batch and the position. -/
theorem flat_apply (x : FVec Ideal S8x2048x1024 .f32) (a : Fin 16384) (k : Fin 1024) (i : Fin 8) (s : Fin 2048)
    (h : i.val * 2048 + s.val = a.val) :
    shapeCast S16384x1024 x shapeCasts_S8x2048x1024_S16384x1024 (ix2 a k) = x (ix3 i s k) := by
  have hs := s.isLt
  have hi : (⟨a.val / 2048, by omega⟩ : Fin 8) = i := Fin.ext (by show a.val / 2048 = i.val; omega)
  have hr : (⟨a.val % 2048, by omega⟩ : Fin 2048) = s := Fin.ext (by show a.val % 2048 = s.val; omega)
  rw [← hi, ← hr]
  pointwise

/-- The gains' row. -/
theorem row_apply (x : FVec Ideal S1024 .f32) (k : Fin 1024) :
    broadcastInDim S1x1024 ![1] bcast_S1024_S1x1024_1 x (ix2 0 k) = x (ix1 k) := by
  pointwise

theorem x_read (c : Dev nD) (t : Fin cfg0.N) (r : Fin 256) (k : Fin 1024) (i : Fin 8) (s : Fin 2048)
    (h : i.val * 2048 + s.val = t.val * 256 + r.val) :
    iblk m c 0 t (ix2 r k) = m ((c.tc : Thread nD τ).loc main_arg0) (ix3 i s k) := by
  have ht : t.val < 64 := t.isLt
  have e : (win0_0.blk t).view.emb (ix2 r k) = ix2 ⟨t.val * 256 + r.val, by omega⟩ k := by blk_ext [idx t]
  refine Eq.trans ?_ (flat_apply _ ⟨t.val * 256 + r.val, by omega⟩ k i s h)
  rw [← e]
  unfold iblk
  entry_read
  rfl

theorem g_read (c : Dev nD) (t : Fin cfg0.N) (k : Fin 1024) :
    iblk m c 1 t (ix2 0 k) = m ((c.tc : Thread nD τ).loc main_arg1) (ix1 k) := by
  have e : (win0_1.blk t).view.emb (ix2 0 k) = ix2 0 k := by blk_ext [idx t]
  refine Eq.trans ?_ ((congrArg _ e).trans (row_apply _ k))
  unfold iblk
  entry_read
  rfl

theorem up_read (c : Dev nD) (t : Fin cfg0.N) (k : Fin 1024) (f : Fin 4096) :
    iblk m c 2 t (ix2 k f) = m ((c.tc : Thread nD τ).loc main_arg2) (ix2 k f) := by
  have e : (win0_2.blk t).view.emb (ix2 k f) = ix2 k f := by blk_ext [idx t]
  refine Eq.trans ?_ (congrArg _ e)
  unfold iblk
  entry_read
  rfl

theorem down_read (c : Dev nD) (t : Fin cfg0.N) (f : Fin 4096) (k : Fin 1024) :
    iblk m c 3 t (ix2 f k) = m ((c.tc : Thread nD τ).loc main_arg3) (ix2 f k) := by
  have e : (win0_3.blk t).view.emb (ix2 f k) = ix2 f k := by blk_ext [idx t]
  refine Eq.trans ?_ (congrArg _ e)
  unfold iblk
  entry_read
  rfl

theorem up0 (c : Dev nD) (t : Fin cfg0.N) (k f : Fin 1024) :
    View.ld (iblk m c 2 t) r0_2 (ix2 k f) = m ((c.tc : Thread nD τ).loc main_arg2) (ix2 k (chunk 0 f)) := by
  refine Eq.trans ?_ (up_read m c t k (chunk 0 f))
  pointwise
  exact congrArg (iblk m c 2 t) (congrArg (ix2 k) (Fin.ext (by show f.val = 1024 * 0 + f.val; omega)))

theorem down0 (c : Dev nD) (t : Fin cfg0.N) (f k : Fin 1024) :
    View.ld (iblk m c 3 t) r0_3 (ix2 f k) = m ((c.tc : Thread nD τ).loc main_arg3) (ix2 (chunk 0 f) k) := by
  refine Eq.trans ?_ (down_read m c t (chunk 0 f) k)
  pointwise
  exact congrArg (iblk m c 3 t) (congrArg (fun f => ix2 f k) (Fin.ext (by show f.val = 1024 * 0 + f.val; omega)))

theorem up1 (c : Dev nD) (t : Fin cfg0.N) (k f : Fin 1024) :
    View.ld (iblk m c 2 t) r0_4 (ix2 k f) = m ((c.tc : Thread nD τ).loc main_arg2) (ix2 k (chunk 1 f)) := by
  refine Eq.trans ?_ (up_read m c t k (chunk 1 f))
  pointwise
  rfl

theorem down1 (c : Dev nD) (t : Fin cfg0.N) (f k : Fin 1024) :
    View.ld (iblk m c 3 t) r0_5 (ix2 f k) = m ((c.tc : Thread nD τ).loc main_arg3) (ix2 (chunk 1 f) k) := by
  refine Eq.trans ?_ (down_read m c t (chunk 1 f) k)
  pointwise
  rfl

theorem up2 (c : Dev nD) (t : Fin cfg0.N) (k f : Fin 1024) :
    View.ld (iblk m c 2 t) r0_6 (ix2 k f) = m ((c.tc : Thread nD τ).loc main_arg2) (ix2 k (chunk 2 f)) := by
  refine Eq.trans ?_ (up_read m c t k (chunk 2 f))
  pointwise
  rfl

theorem down2 (c : Dev nD) (t : Fin cfg0.N) (f k : Fin 1024) :
    View.ld (iblk m c 3 t) r0_7 (ix2 f k) = m ((c.tc : Thread nD τ).loc main_arg3) (ix2 (chunk 2 f) k) := by
  refine Eq.trans ?_ (down_read m c t (chunk 2 f) k)
  pointwise
  rfl

theorem up3 (c : Dev nD) (t : Fin cfg0.N) (k f : Fin 1024) :
    View.ld (iblk m c 2 t) r0_8 (ix2 k f) = m ((c.tc : Thread nD τ).loc main_arg2) (ix2 k (chunk 3 f)) := by
  refine Eq.trans ?_ (up_read m c t k (chunk 3 f))
  pointwise
  rfl

theorem down3 (c : Dev nD) (t : Fin cfg0.N) (f k : Fin 1024) :
    View.ld (iblk m c 3 t) r0_9 (ix2 f k) = m ((c.tc : Thread nD τ).loc main_arg3) (ix2 (chunk 3 f) k) := by
  refine Eq.trans ?_ (down_read m c t (chunk 3 f) k)
  pointwise
  rfl

/-- What one block stores, read at an index: the reference's term where the block lies. -/
theorem point (c : Dev nD) (t : Fin cfg0.N) (y : S256x1024.Idx) :
    out0_5 (iblk m c 0 t) (iblk m c 1 t) (iblk m c 2 t) (iblk m c 3 t) (iblk m c 4 t) y
      = Cert.Reference5Ideal.Read.val_main_v18 (F := Ideal) (m ((c.tc : Thread nD τ).loc main_arg0))
          (m ((c.tc : Thread nD τ).loc main_arg1)) (m ((c.tc : Thread nD τ).loc main_arg2))
          (m ((c.tc : Thread nD τ).loc main_arg3))
          (((cfg0.win 5).blk t).view.emb y) := by
  obtain ⟨r, j, rfl⟩ : ∃ r j, y = ix2 r j := ⟨y 0, y 1, by funext a; fin_cases a <;> rfl⟩
  have ht : t.val < 64 := t.isLt
  have e : ((cfg0.win 5).blk t).view.emb (ix2 r j) = ix2 ⟨t.val * 256 + r.val, by omega⟩ j := by blk_ext [idx t]
  refine Eq.trans ?_ (congrArg _ e).symm
  frame_out
  have hx := fun k => x_read m c t r k ⟨(t.val * 256 + r.val) / 2048, by omega⟩
    ⟨(t.val * 256 + r.val) % 2048, by omega⟩ (by show _ / 2048 * 2048 + _ % 2048 = _; omega)
  rw [FirstFfnPay.pay1_apply]
  simp only [g_read, up0, up1, up2, up3, down0, down1, down2, down3]
  refine Eq.trans ?_ (Cert.Reference5Ideal.FirstFfnRef.v18_apply _ _ _ _ _).symm
  simp only [ffn, sum_chunks, hx]
  rfl

/-- The result array after the run. -/
theorem final (c : Dev nD) : (dats m 0 c).arrAt 5 cfg0.N
    = Cert.Reference5Ideal.Read.val_main_v18 (F := Ideal) (m ((c.tc : Thread nD τ).loc main_arg0))
          (m ((c.tc : Thread nD τ).loc main_arg1)) (m ((c.tc : Thread nD τ).loc main_arg2))
          (m ((c.tc : Thread nD τ).loc main_arg3)) := by
  refine (dats m 0 c).arrAt_eq_of_covers 5 _ (by decide +kernel) fun t _ y => ?_
  blk_simp
  rw [after0_5]
  exact point m c t y

end Cert.Kernel5Ideal.FirstFfnValue
-- ==== Proof.CmpSums.lean ====
/-
  Sums over 2048 terms, split into the 32 positions of a compressed block's 64 features and into the
  16 positions of a half block's 128 lanes.
-/
module

public import Idealize.ShloMosaic.PureOps.Ideal
public import Idealize.ShloMosaic.Lib.Pointwise

@[expose] public section

noncomputable section

namespace Cert.CmpSums

/-- A sum over consecutive groups of `n`. -/
theorem sum_groups (m n : ℕ) (f : ℕ → EReal) : ∑ i : Fin (m * n), f i.val = ∑ i : Fin m, ∑ j : Fin n, f (n * i.val + j.val) := by
  rw [← finProdFinEquiv.sum_comp, Fintype.sum_prod_type]
  exact Finset.sum_congr rfl fun i _ => Finset.sum_congr rfl fun j _ => congrArg f (Nat.add_comm _ _)

/-- 2048 terms as two halves of 16 positions with 64 features. -/
theorem sum_block (f : ℕ → EReal) : ∑ q : Fin 2048, f q.val
    = ∑ l : Fin 16, ∑ d : Fin 64, f (64 * l.val + d.val) + ∑ l : Fin 16, ∑ d : Fin 64, f (64 * (16 + l.val) + d.val) := by
  refine (sum_groups 32 64 f).trans ?_
  exact Fin.sum_univ_add (a := 16) (b := 16) fun l => ∑ d : Fin 64, f (64 * l.val + d.val)

/-- 2048 terms as 16 positions with two rows of 64 features. -/
theorem sum_lanes (f : ℕ → EReal) : ∑ k : Fin 2048, f k.val
    = ∑ l : Fin 16, ∑ d : Fin 64, (f (128 * l.val + d.val) + f (128 * l.val + (64 + d.val))) := by
  refine (sum_groups 16 128 f).trans (Finset.sum_congr rfl fun l _ => ?_)
  refine (Fin.sum_univ_add (a := 64) (b := 64) fun p => f (128 * l.val + p.val)).trans ?_
  exact Finset.sum_add_distrib.symm

/-- The two half blocks' products, whose other row of features has no weight, add to the block's. -/
theorem halves (h : ℕ) (hh : h < 2) (t u g : ℕ → EReal)
    (ht : ∀ l d : ℕ, l < 16 → d < 64 → t (128 * l + (64 * h + d)) = g (64 * l + d))
    (ht0 : ∀ l d : ℕ, l < 16 → d < 64 → t (128 * l + (64 * (1 - h) + d)) = 0)
    (hu : ∀ l d : ℕ, l < 16 → d < 64 → u (128 * l + (64 * h + d)) = g (64 * (16 + l) + d))
    (hu0 : ∀ l d : ℕ, l < 16 → d < 64 → u (128 * l + (64 * (1 - h) + d)) = 0) :
    ∑ k : Fin 2048, t k.val + ∑ k : Fin 2048, u k.val = ∑ q : Fin 2048, g q.val := by
  rw [sum_lanes t, sum_lanes u, sum_block g]
  obtain rfl | rfl : h = 0 ∨ h = 1 := by omega
  · refine congrArg₂ (· + ·) ?_ ?_ <;>
      refine Finset.sum_congr rfl fun l _ => Finset.sum_congr rfl fun d _ => ?_
    · have a := ht l d l.isLt d.isLt
      have b := ht0 l d l.isLt d.isLt
      simp only [Nat.mul_zero, Nat.zero_add, Nat.sub_zero, Nat.mul_one] at a b
      rw [a, b, add_zero]
    · have a := hu l d l.isLt d.isLt
      have b := hu0 l d l.isLt d.isLt
      simp only [Nat.mul_zero, Nat.zero_add, Nat.sub_zero, Nat.mul_one] at a b
      rw [a, b, add_zero]
  · refine congrArg₂ (· + ·) ?_ ?_ <;>
      refine Finset.sum_congr rfl fun l _ => Finset.sum_congr rfl fun d _ => ?_
    · have a := ht l d l.isLt d.isLt
      have b := ht0 l d l.isLt d.isLt
      simp only [Nat.mul_zero, Nat.zero_add, Nat.sub_self, Nat.mul_one] at a b
      rw [a, b, zero_add]
    · have a := hu l d l.isLt d.isLt
      have b := hu0 l d l.isLt d.isLt
      simp only [Nat.mul_zero, Nat.zero_add, Nat.sub_self, Nat.mul_one] at a b
      rw [a, b, zero_add]

open Idealize.ShloMosaic

section

variable (x : FVec Ideal ⟨2, ![16384, 128]⟩ .bf16) (w : FVec Ideal ⟨3, ![2, 2048, 64]⟩ .f32) (e : FVec Ideal ⟨3, ![2, 32, 64]⟩ .f32)

/-- The joined row at a position of a batch, positions past the end read from the start. -/
def xat (b : Fin 8) (s p : ℕ) : EReal := x (ix2 ⟨b.val * 2048 + s % 2048, by omega⟩ ⟨p % 128, by omega⟩)

/-- The position term. -/
def eat (h l d : ℕ) : EReal := e (ix3 ⟨h % 2, by omega⟩ ⟨l % 32, by omega⟩ ⟨d % 64, by omega⟩)

/-- The weight. -/
def wat (h q o : ℕ) : EReal := w (ix3 ⟨h % 2, by omega⟩ ⟨q % 2048, by omega⟩ ⟨o % 64, by omega⟩)

/-- A block's term at one of its positions' features. -/
def blockTerm (b : Fin 8) (c h o q : ℕ) : EReal :=
  (xat x b (16 * c + q / 64) (64 * h + q % 64) + eat e h (q / 64) (q % 64)) * wat w h q o

/-- The weight a half block's lane has: a lane of the other row of features has none. -/
def laneWeight (j h o k : ℕ) : EReal := if k % 128 / 64 = h then wat w h (64 * (16 * j + k / 128) + k % 64) o else 0

/-- A half block's term at one of its positions' lanes. -/
def laneTerm (b : Fin 8) (c j h o k : ℕ) : EReal :=
  (xat x b (16 * c + k / 128) (k % 128) + eat e (k % 128 / 64) (16 * j + k / 128) (k % 64)) * laneWeight w j h o k

theorem xat_wrap (b : Fin 8) (c c' l p : ℕ) (hc : c' = (c + 1) % 128) : xat x b (16 * c' + l) p = xat x b (16 * c + (16 + l)) p := by
  unfold xat
  refine congrArg x (congrArg (fun s => ix2 s _) (Fin.ext ?_))
  show b.val * 2048 + (16 * c' + l) % 2048 = b.val * 2048 + (16 * c + (16 + l)) % 2048
  omega

/-- A block's product is its first half block's and the following half block's. -/
theorem block_eq (b : Fin 8) (c c' h o : ℕ) (hc : c' = (c + 1) % 128) (hh : h < 2) :
    ∑ k : Fin 2048, laneTerm x w e b c 0 h o k.val + ∑ k : Fin 2048, laneTerm x w e b c' 1 h o k.val
      = ∑ q : Fin 2048, blockTerm x w e b c h o q.val := by
  refine halves h hh (laneTerm x w e b c 0 h o) (laneTerm x w e b c' 1 h o) (blockTerm x w e b c h o) ?_ ?_ ?_ ?_ <;> intro l d hl hd
  · have a1 : (128 * l + (64 * h + d)) / 128 = l := by omega
    have a2 : (128 * l + (64 * h + d)) % 128 = 64 * h + d := by omega
    have a3 : (64 * h + d) / 64 = h := by omega
    have a4 : (128 * l + (64 * h + d)) % 64 = d := by omega
    have a5 : (64 * l + d) / 64 = l := by omega
    have a6 : (64 * l + d) % 64 = d := by omega
    unfold laneTerm laneWeight blockTerm
    rw [a1, a2, a3, a4, a5, a6, if_pos rfl, Nat.mul_zero, Nat.zero_add]
  · unfold laneTerm laneWeight
    rw [if_neg (by omega), mul_zero]
  · have a1 : (128 * l + (64 * h + d)) / 128 = l := by omega
    have a2 : (128 * l + (64 * h + d)) % 128 = 64 * h + d := by omega
    have a3 : (64 * h + d) / 64 = h := by omega
    have a4 : (128 * l + (64 * h + d)) % 64 = d := by omega
    have a5 : (64 * (16 + l) + d) / 64 = 16 + l := by omega
    have a6 : (64 * (16 + l) + d) % 64 = d := by omega
    unfold laneTerm laneWeight blockTerm
    rw [a1, a2, a3, a4, a5, a6, if_pos rfl, Nat.mul_one, xat_wrap x b c c' l _ hc]
  · unfold laneTerm laneWeight
    rw [if_neg (by omega), mul_zero]

end

end Cert.CmpSums

end
-- ==== Proof.CmpHost.lean ====
/-
  The compressed blocks' operands, as the host operations' values, and the block's stored rows.
-/
module

public import proofs.«01_k».proof.Proof.CmpSums
public import proofs.«01_k».proof.Proof.Gen.Kernel6Ideal.Value
public import Idealize.ShloMosaic.Lib.StableHlo.ReadAt

@[expose] public section

set_option maxRecDepth 16384

noncomputable section

namespace Cert.Kernel6Ideal.CmpHost

open Idealize.ShloMosaic Idealize.SL.Sem
open Cert.Kernel6Ideal Cert.Kernel6Ideal.Gen Cert.CmpSums

variable {F : FTy → Type} [FloatOps F]

def h_v0 (w : (⟨S2x2048x64, .f32⟩ : BufTy).Contents (Elt F)) : (⟨S1x2048x64, .f32⟩ : BufTy).Contents (Elt F) :=
  extractStridedSlice S1x2048x64 ![0, 0, 0] w slices_S2x2048x64_S1x2048x64_0_0_0

def h_v1 (w : (⟨S2x2048x64, .f32⟩ : BufTy).Contents (Elt F)) : (⟨S2048x64, .f32⟩ : BufTy).Contents (Elt F) :=
  shapeCast S2048x64 (h_v0 w) shapeCasts_S1x2048x64_S2048x64

def h_v2 (w : (⟨S2x2048x64, .f32⟩ : BufTy).Contents (Elt F)) : (⟨S32x64x64, .f32⟩ : BufTy).Contents (Elt F) :=
  shapeCast S32x64x64 (h_v1 w) shapeCasts_S2048x64_S32x64x64

def h_v3 (w : (⟨S2x2048x64, .f32⟩ : BufTy).Contents (Elt F)) : (⟨S1x2048x64, .f32⟩ : BufTy).Contents (Elt F) :=
  extractStridedSlice S1x2048x64 ![1, 0, 0] w slices_S2x2048x64_S1x2048x64_1_0_0

def h_v4 (w : (⟨S2x2048x64, .f32⟩ : BufTy).Contents (Elt F)) : (⟨S2048x64, .f32⟩ : BufTy).Contents (Elt F) :=
  shapeCast S2048x64 (h_v3 w) shapeCasts_S1x2048x64_S2048x64

def h_v5 (w : (⟨S2x2048x64, .f32⟩ : BufTy).Contents (Elt F)) : (⟨S32x64x64, .f32⟩ : BufTy).Contents (Elt F) :=
  shapeCast S32x64x64 (h_v4 w) shapeCasts_S2048x64_S32x64x64

def h_v6 : (⟨S32x64x64, .f32⟩ : BufTy).Contents (Elt F) :=
  broadcastInDim S32x64x64 ![] bcast_S_S32x64x64 (constant S_ .f32 0x00000000#32)

def h_v7 (w : (⟨S2x2048x64, .f32⟩ : BufTy).Contents (Elt F)) : (⟨S32x64x128, .f32⟩ : BufTy).Contents (Elt F) :=
  concatenate S32x64x128 2 [⟨S32x64x64, h_v2 w⟩, ⟨S32x64x64, h_v6 (F := F)⟩] concatenates_S32x64x64_S32x64x64_S32x64x128_d2

def h_v8 (w : (⟨S2x2048x64, .f32⟩ : BufTy).Contents (Elt F)) : (⟨S32x64x128, .f32⟩ : BufTy).Contents (Elt F) :=
  concatenate S32x64x128 2 [⟨S32x64x64, h_v6 (F := F)⟩, ⟨S32x64x64, h_v5 w⟩] concatenates_S32x64x64_S32x64x64_S32x64x128_d2

def h_v9 (w : (⟨S2x2048x64, .f32⟩ : BufTy).Contents (Elt F)) : (⟨S32x128x128, .f32⟩ : BufTy).Contents (Elt F) :=
  concatenate S32x128x128 1 [⟨S32x64x128, h_v7 w⟩, ⟨S32x64x128, h_v8 w⟩] concatenates_S32x64x128_S32x64x128_S32x128x128_d1

def h_v10 (w : (⟨S2x2048x64, .f32⟩ : BufTy).Contents (Elt F)) : (⟨S16x128x128, .f32⟩ : BufTy).Contents (Elt F) :=
  extractStridedSlice S16x128x128 ![0, 0, 0] (h_v9 w) slices_S32x128x128_S16x128x128_0_0_0

def h_v11 (w : (⟨S2x2048x64, .f32⟩ : BufTy).Contents (Elt F)) : (⟨S2048x128, .f32⟩ : BufTy).Contents (Elt F) :=
  shapeCast S2048x128 (h_v10 w) shapeCasts_S16x128x128_S2048x128

def h_v12 (w : (⟨S2x2048x64, .f32⟩ : BufTy).Contents (Elt F)) : (⟨S2048x128, .bf16⟩ : BufTy).Contents (Elt F) :=
  truncf .bf16 (h_v11 w) bitsLt_bf16_f32

def h_v13 (w : (⟨S2x2048x64, .f32⟩ : BufTy).Contents (Elt F)) : (⟨S16x128x128, .f32⟩ : BufTy).Contents (Elt F) :=
  extractStridedSlice S16x128x128 ![16, 0, 0] (h_v9 w) slices_S32x128x128_S16x128x128_16_0_0

def h_v14 (w : (⟨S2x2048x64, .f32⟩ : BufTy).Contents (Elt F)) : (⟨S2048x128, .f32⟩ : BufTy).Contents (Elt F) :=
  shapeCast S2048x128 (h_v13 w) shapeCasts_S16x128x128_S2048x128

def h_v15 (w : (⟨S2x2048x64, .f32⟩ : BufTy).Contents (Elt F)) : (⟨S2048x128, .bf16⟩ : BufTy).Contents (Elt F) :=
  truncf .bf16 (h_v14 w) bitsLt_bf16_f32

def h_v16 (e : (⟨S2x32x64, .f32⟩ : BufTy).Contents (Elt F)) : (⟨S1x32x64, .f32⟩ : BufTy).Contents (Elt F) :=
  extractStridedSlice S1x32x64 ![0, 0, 0] e slices_S2x32x64_S1x32x64_0_0_0

def h_v17 (e : (⟨S2x32x64, .f32⟩ : BufTy).Contents (Elt F)) : (⟨S32x64, .f32⟩ : BufTy).Contents (Elt F) :=
  shapeCast S32x64 (h_v16 e) shapeCasts_S1x32x64_S32x64

def h_v18 (e : (⟨S2x32x64, .f32⟩ : BufTy).Contents (Elt F)) : (⟨S1x32x64, .f32⟩ : BufTy).Contents (Elt F) :=
  extractStridedSlice S1x32x64 ![1, 0, 0] e slices_S2x32x64_S1x32x64_1_0_0

def h_v19 (e : (⟨S2x32x64, .f32⟩ : BufTy).Contents (Elt F)) : (⟨S32x64, .f32⟩ : BufTy).Contents (Elt F) :=
  shapeCast S32x64 (h_v18 e) shapeCasts_S1x32x64_S32x64

def h_v20 (e : (⟨S2x32x64, .f32⟩ : BufTy).Contents (Elt F)) : (⟨S32x128, .f32⟩ : BufTy).Contents (Elt F) :=
  concatenate S32x128 1 [⟨S32x64, h_v17 e⟩, ⟨S32x64, h_v19 e⟩] concatenates_S32x64_S32x64_S32x128_d1

def h_v21 (e : (⟨S2x32x64, .f32⟩ : BufTy).Contents (Elt F)) : (⟨S2x2048, .f32⟩ : BufTy).Contents (Elt F) :=
  shapeCast S2x2048 (h_v20 e) shapeCasts_S32x128_S2x2048

def h_v22 (x : (⟨S16384x128, .bf16⟩ : BufTy).Contents (Elt F)) : (⟨S8x128x2048, .bf16⟩ : BufTy).Contents (Elt F) :=
  shapeCast S8x128x2048 x shapeCasts_S16384x128_S8x128x2048

section

variable (x : FVec Ideal S16384x128 .bf16) (w : FVec Ideal S2x2048x64 .f32) (e : FVec Ideal S2x32x64 .f32)

/-- The joined rows, sixteen positions to a row. -/
theorem v22_apply (b : Fin 8) (c : Fin 128) (k : Fin 2048) :
    h_v22 (F := Ideal) x (ix3 b c k) = xat x b (16 * c.val + k.val / 128) (k.val % 128) := by
  unfold h_v22
  refine shapeCast_apply x _ (ix3 b c k) _ ?_
  rw [Shape.rowMajor_val_two, Shape.rowMajor_val_three]
  show (b.val * 2048 + (16 * c.val + k.val / 128) % 2048) * 128 + k.val % 128 % 128 = (b.val * 128 + c.val) * 2048 + k.val
  omega

theorem v2_apply (l : Fin 32) (d o : Fin 64) : h_v2 (F := Ideal) w (ix3 l d o) = wat w 0 (64 * l.val + d.val) o.val := by
  pointwise [h_v2, h_v1, h_v0]
  refine congrArg w ?_
  funext a
  refine Fin.ext ?_
  fin_cases a
  · rfl
  · show l.val * 64 + d.val = (64 * l.val + d.val) % 2048
    omega
  · show o.val = o.val % 64
    omega

theorem v5_apply (l : Fin 32) (d o : Fin 64) : h_v5 (F := Ideal) w (ix3 l d o) = wat w 1 (64 * l.val + d.val) o.val := by
  pointwise [h_v5, h_v4, h_v3]
  refine congrArg w ?_
  funext a
  refine Fin.ext ?_
  fin_cases a
  · rfl
  · show l.val * 64 + d.val = (64 * l.val + d.val) % 2048
    omega
  · show o.val = o.val % 64
    omega

theorem v6_apply (i : S32x64x64.Idx) : h_v6 (F := Ideal) i = 0 := by
  pointwise [h_v6]

theorem v7_apply (l : Fin 32) (d : Fin 64) (o : Fin 128) :
    h_v7 (F := Ideal) w (ix3 l d o) = if 0 = o.val / 64 then wat w (o.val / 64) (64 * l.val + d.val) (o.val % 64) else 0 := by
  unfold h_v7
  by_cases ho : o.val < 64
  · rw [if_pos (by omega), show o.val / 64 = 0 by omega, show o.val % 64 = o.val by omega]
    refine Eq.trans (b := h_v2 (F := Ideal) w (ix3 l d ⟨o.val, ho⟩)) ?_ (v2_apply w l d ⟨o.val, ho⟩)
    exact concatenate_apply_piece (t := S32x64x128) 2 _ _ _ 0 (by simp) S32x64x64 _ rfl rfl 0 rfl _
      (fun b hb => by fin_cases b <;> [rfl; rfl; exact absurd rfl hb]) (Nat.zero_add _)
  · rw [if_neg (by omega)]
    refine Eq.trans (b := h_v6 (F := Ideal) (ix3 l d ⟨o.val - 64, by omega⟩)) ?_ (v6_apply _)
    exact concatenate_apply_piece (t := S32x64x128) 2 _ _ _ 1 (by simp) S32x64x64 _ rfl rfl 64 rfl _
      (fun b hb => by fin_cases b <;> [rfl; rfl; exact absurd rfl hb]) (show 64 + (o.val - 64) = o.val by omega)

theorem v8_apply (l : Fin 32) (d : Fin 64) (o : Fin 128) :
    h_v8 (F := Ideal) w (ix3 l d o) = if 1 = o.val / 64 then wat w (o.val / 64) (64 * l.val + d.val) (o.val % 64) else 0 := by
  unfold h_v8
  by_cases ho : o.val < 64
  · rw [if_neg (by omega)]
    refine Eq.trans (b := h_v6 (F := Ideal) (ix3 l d ⟨o.val, ho⟩)) ?_ (v6_apply _)
    exact concatenate_apply_piece (t := S32x64x128) 2 _ _ _ 0 (by simp) S32x64x64 _ rfl rfl 0 rfl _
      (fun b hb => by fin_cases b <;> [rfl; rfl; exact absurd rfl hb]) (Nat.zero_add _)
  · rw [if_pos (by omega), show o.val / 64 = 1 by omega, show o.val % 64 = o.val - 64 by omega]
    refine Eq.trans (b := h_v5 (F := Ideal) w (ix3 l d ⟨o.val - 64, by omega⟩)) ?_ (v5_apply w l d ⟨o.val - 64, by omega⟩)
    exact concatenate_apply_piece (t := S32x64x128) 2 _ _ _ 1 (by simp) S32x64x64 _ rfl rfl 64 rfl _
      (fun b hb => by fin_cases b <;> [rfl; rfl; exact absurd rfl hb]) (show 64 + (o.val - 64) = o.val by omega)

theorem v9_apply (l : Fin 32) (p o : Fin 128) :
    h_v9 (F := Ideal) w (ix3 l p o)
      = if p.val / 64 = o.val / 64 then wat w (o.val / 64) (64 * l.val + p.val % 64) (o.val % 64) else 0 := by
  unfold h_v9
  by_cases hp : p.val < 64
  · rw [show p.val / 64 = 0 by omega, show p.val % 64 = p.val by omega]
    refine Eq.trans (b := h_v7 (F := Ideal) w (ix3 l ⟨p.val, hp⟩ o)) ?_ (v7_apply w l ⟨p.val, hp⟩ o)
    exact concatenate_apply_piece (t := S32x128x128) 1 _ _ _ 0 (by simp) S32x64x128 _ rfl rfl 0 rfl _
      (fun b hb => by fin_cases b <;> [rfl; exact absurd rfl hb; rfl]) (Nat.zero_add _)
  · rw [show p.val / 64 = 1 by omega, show p.val % 64 = p.val - 64 by omega]
    refine Eq.trans (b := h_v8 (F := Ideal) w (ix3 l ⟨p.val - 64, by omega⟩ o)) ?_ (v8_apply w l ⟨p.val - 64, by omega⟩ o)
    exact concatenate_apply_piece (t := S32x128x128) 1 _ _ _ 1 (by simp) S32x64x128 _ rfl rfl 64 rfl _
      (fun b hb => by fin_cases b <;> [rfl; exact absurd rfl hb; rfl]) (show 64 + (p.val - 64) = p.val by omega)

/-- The first half block's weights. -/
theorem v12_apply (k : Fin 2048) (o : Fin 128) :
    h_v12 (F := Ideal) w (ix2 k o) = laneWeight w 0 (o.val / 64) (o.val % 64) k.val := by
  refine Eq.trans (b := h_v9 (F := Ideal) w (ix3 ⟨k.val / 128, by omega⟩ ⟨k.val % 128, by omega⟩ o)) ?_ ?_
  · pointwise [h_v12, h_v11, h_v10]
  · rw [v9_apply]
    unfold laneWeight
    show (if k.val % 128 / 64 = o.val / 64 then wat w (o.val / 64) (64 * (k.val / 128) + k.val % 128 % 64) (o.val % 64) else 0) = _
    rw [show k.val % 128 % 64 = k.val % 64 by omega, Nat.mul_zero, Nat.zero_add]

/-- The second half block's weights. -/
theorem v15_apply (k : Fin 2048) (o : Fin 128) :
    h_v15 (F := Ideal) w (ix2 k o) = laneWeight w 1 (o.val / 64) (o.val % 64) k.val := by
  refine Eq.trans (b := h_v9 (F := Ideal) w (ix3 ⟨16 + k.val / 128, by omega⟩ ⟨k.val % 128, by omega⟩ o)) ?_ ?_
  · pointwise [h_v15, h_v14, h_v13]
  · rw [v9_apply]
    unfold laneWeight
    show (if k.val % 128 / 64 = o.val / 64 then wat w (o.val / 64) (64 * (16 + k.val / 128) + k.val % 128 % 64) (o.val % 64) else 0) = _
    rw [show k.val % 128 % 64 = k.val % 64 by omega, Nat.mul_one]

theorem v17_apply (l : Fin 32) (d : Fin 64) : h_v17 (F := Ideal) e (ix2 l d) = eat e 0 l.val d.val := by
  pointwise [h_v17, h_v16]
  refine congrArg e ?_
  funext a
  refine Fin.ext ?_
  fin_cases a
  · rfl
  · show l.val = l.val % 32
    omega
  · show d.val = d.val % 64
    omega

theorem v19_apply (l : Fin 32) (d : Fin 64) : h_v19 (F := Ideal) e (ix2 l d) = eat e 1 l.val d.val := by
  pointwise [h_v19, h_v18]
  refine congrArg e ?_
  funext a
  refine Fin.ext ?_
  fin_cases a
  · rfl
  · show l.val = l.val % 32
    omega
  · show d.val = d.val % 64
    omega

theorem v20_apply (l : Fin 32) (p : Fin 128) : h_v20 (F := Ideal) e (ix2 l p) = eat e (p.val / 64) l.val (p.val % 64) := by
  unfold h_v20
  by_cases hp : p.val < 64
  · rw [show p.val / 64 = 0 by omega, show p.val % 64 = p.val by omega]
    refine Eq.trans (b := h_v17 (F := Ideal) e (ix2 l ⟨p.val, hp⟩)) ?_ (v17_apply e l ⟨p.val, hp⟩)
    exact concatenate_apply_piece (t := S32x128) 1 _ _ _ 0 (by simp) S32x64 _ rfl rfl 0 rfl _
      (fun b hb => by fin_cases b <;> [rfl; exact absurd rfl hb]) (Nat.zero_add _)
  · rw [show p.val / 64 = 1 by omega, show p.val % 64 = p.val - 64 by omega]
    refine Eq.trans (b := h_v19 (F := Ideal) e (ix2 l ⟨p.val - 64, by omega⟩)) ?_ (v19_apply e l ⟨p.val - 64, by omega⟩)
    exact concatenate_apply_piece (t := S32x128) 1 _ _ _ 1 (by simp) S32x64 _ rfl rfl 64 rfl _
      (fun b hb => by fin_cases b <;> [rfl; exact absurd rfl hb]) (show 64 + (p.val - 64) = p.val by omega)

/-- The half blocks' position terms. -/
theorem v21_apply (j : Fin 2) (k : Fin 2048) :
    h_v21 (F := Ideal) e (ix2 j k) = eat e (k.val % 128 / 64) (16 * j.val + k.val / 128) (k.val % 64) := by
  refine Eq.trans (b := h_v20 (F := Ideal) e (ix2 ⟨16 * j.val + k.val / 128, by omega⟩ ⟨k.val % 128, by omega⟩)) ?_ ?_
  · unfold h_v21
    refine shapeCast_apply (h_v20 (F := Ideal) e) _ (ix2 j k) _ ?_
    rw [Shape.rowMajor_val_two, Shape.rowMajor_val_two]
    show (16 * j.val + k.val / 128) * 128 + k.val % 128 = j.val * 2048 + k.val
    omega
  · rw [v20_apply]
    show eat e (k.val % 128 / 64) (16 * j.val + k.val / 128) (k.val % 128 % 64) = _
    rw [show k.val % 128 % 64 = k.val % 64 by omega]

end

/-- A block's rows: the first half's product and the following row's second half's. -/
theorem pay1_apply (v0 : FVec Ideal S1x128x2048 .bf16) (v3 v11 : FVec Ideal S1x2048 .f32) (v8 v16 : FVec Ideal S2048x128 .bf16)
    (c c' o : Fin 128) (hc : c'.val = (c.val + 1) % 128) :
    k0_pay1 (F := Ideal) v0 v3 v8 v11 v16 (ix3 0 c o)
      = ∑ k : Fin 2048, (v0 (ix3 0 c k) + v3 (ix2 0 k)) * v8 (ix2 k o)
        + ∑ k : Fin 2048, (v0 (ix3 0 c' k) + v11 (ix2 0 k)) * v16 (ix2 k o) := by
  pointwise [k0_pay1]
  have hi : (⟨(c.val + 128 - 127) % 128, by omega⟩ : Fin 128) = c' := Fin.ext (by show (c.val + 128 - 127) % 128 = c'.val; omega)
  rw [← hi]

end Cert.Kernel6Ideal.CmpHost

end
-- ==== Proof.CmpRef.lean ====
/-
  The compressed blocks' reference, read at a block and a feature.
-/
module

public import proofs.«01_k».proof.Proof.CmpSums
public import proofs.«01_k».proof.Proof.Gen.Reference6Ideal.Read
public import Idealize.ShloMosaic.Lib.Claim

@[expose] public section

set_option maxRecDepth 16384

noncomputable section

namespace Cert.Reference6Ideal.CmpRef

open Idealize.ShloMosaic Idealize.SL.Sem
open Cert.Reference6Ideal Cert.Reference6Ideal.Read Cert.CmpSums

variable (x : FVec Ideal S16384x128 .bf16) (w : FVec Ideal S2x2048x64 .f32) (e : FVec Ideal S2x32x64 .f32)

/-- The rows of the blocks' positions, gathered. -/
theorem gather_apply (t : FVec Ideal S8x2064x64 .f32) (q : IVec S128x32x1 32) (b : Fin 8) (c : Fin 128) (l : Fin 32) (d : Fin 64)
    (s : Fin 2064) (h : (q (ix3 c l 0)).toInt.toNat = s.val) :
    Host.gather gather_S8x2064x64_S128x32x1_S8x128x32x64_03_1_n_n_1_2_8164 t q (ix4 b c l d) = t (ix3 b s d) := by
  have hs := s.isLt
  unfold Host.gather
  refine congrArg t (funext fun a => Fin.ext ?_)
  fin_cases a
  · show 0 + 0 + b.val = b.val
    omega
  · have hi : gather_S8x2064x64_S128x32x1_S8x128x32x64_03_1_n_n_1_2_8164.siIdx (ix4 b c l d) ⟨0, by decide⟩ = ix3 c l 0 := by
      funext a
      fin_cases a <;> rfl
    show min (q (gather_S8x2064x64_S128x32x1_S8x128x32x64_03_1_n_n_1_2_8164.siIdx (ix4 b c l d) ⟨0, by decide⟩)).toInt.toNat 2063 + 0 + 0 = s.val
    rw [hi, h]
    omega
  · show 0 + 0 + d.val = d.val
    omega

/-- The rows of half 0. -/
theorem row0_apply (b : Fin 8) (s : Fin 2048) (d : Fin 64) : val_main_v2 (F := Ideal) x (ix3 b s d) = xat x b s.val (0 + d.val) := by
  pointwise [val_main_v2, val_main_v1, val_main_v0]
  refine congrArg x (congrArg₂ ix2 (Fin.ext ?_) (Fin.ext ?_))
  · show b.val * 2048 + s.val = b.val * 2048 + s.val % 2048
    omega
  · show d.val = d.val % 128
    omega

/-- The rows of half 0, continued with the first ones. -/
theorem long0_apply (b : Fin 8) (s : Fin 2064) (d : Fin 64) : val_main_v18 (F := Ideal) x (ix3 b s d) = xat x b s.val (0 + d.val) := by
  unfold val_main_v18
  by_cases hs : s.val < 2048
  · refine Eq.trans (b := val_main_v2 (F := Ideal) x (ix3 b ⟨s.val, hs⟩ d)) ?_ (row0_apply x b ⟨s.val, hs⟩ d)
    exact concatenate_apply_piece (t := S8x2064x64) 1 _ _ _ 0 (by simp) S8x2048x64 _ rfl rfl 0 rfl _
      (fun b hb => by fin_cases b <;> [rfl; exact absurd rfl hb; rfl]) (Nat.zero_add _)
  · refine Eq.trans (b := val_main_v17 (F := Ideal) x (ix3 b ⟨s.val - 2048, by omega⟩ d)) ?_ ?_
    · exact concatenate_apply_piece (t := S8x2064x64) 1 _ _ _ 1 (by simp) S8x16x64 _ rfl rfl 2048 rfl _
        (fun b hb => by fin_cases b <;> [rfl; exact absurd rfl hb; rfl]) (show 2048 + (s.val - 2048) = s.val by omega)
    · refine (show _ = val_main_v2 (F := Ideal) x (ix3 b ⟨s.val - 2048, by omega⟩ d) from by pointwise [val_main_v17]).trans ?_
      rw [row0_apply]
      unfold xat
      refine congrArg x (congrArg (fun r => ix2 r _) (Fin.ext ?_))
      show b.val * 2048 + (s.val - 2048) % 2048 = b.val * 2048 + s.val % 2048
      omega

theorem win0_apply : ∀ (c : Fin 128) (l : Fin 32), (val_main_v24 (F := Ideal) (ix3 c l 0)).toInt.toNat = 16 * c.val + l.val := by
  decide +kernel

/-- A position's features with the position term. -/
theorem pos0_apply (b : Fin 8) (c : Fin 128) (l : Fin 32) (d : Fin 64) :
    val_main_v28 (F := Ideal) x e (ix4 b c l d) = xat x b (16 * c.val + l.val) (0 + d.val) + eat e 0 l.val d.val := by
  rw [val_main_v28_apply]
  refine congrArg₂ (· + ·) ?_ ?_
  · unfold val_main_v25
    exact (gather_apply _ _ b c l d ⟨16 * c.val + l.val, by omega⟩ (win0_apply c l)).trans (long0_apply x b ⟨16 * c.val + l.val, by omega⟩ d)
  · pointwise [val_main_v27, val_main_v26, val_main_v16, val_main_v15]
    refine congrArg e ?_
    funext a
    refine Fin.ext ?_
    fin_cases a
    · rfl
    · show l.val = l.val % 32
      omega
    · show d.val = d.val % 64
      omega

/-- The compressed features of half 0. -/
theorem dot0_apply (b : Fin 8) (c : Fin 128) (o : Fin 64) :
    val_main_v30 (F := Ideal) x w e (ix3 b c o) = ∑ q : Fin 2048, blockTerm x w e b c.val 0 o.val q.val := by
  rw [val_main_v30_apply]
  refine Finset.sum_congr rfl fun q _ => congrArg₂ (· * ·) ?_ ?_
  · refine Eq.trans (b := val_main_v28 (F := Ideal) x e (ix4 b c ⟨q.val / 64, by omega⟩ ⟨q.val % 64, by omega⟩)) ?_ ?_
    · rw [val_main_v29_apply]
      refine congrArg (val_main_v28 (F := Ideal) x e) (funext fun a => Fin.ext ?_)
      fin_cases a
      · show ((b.val * 128 + c.val) * 2048 + q.val) / 262144 = b.val
        omega
      · show ((b.val * 128 + c.val) * 2048 + q.val) / 2048 % 128 = c.val
        omega
      · show ((b.val * 128 + c.val) * 2048 + q.val) / 64 % 32 = q.val / 64
        omega
      · show ((b.val * 128 + c.val) * 2048 + q.val) % 64 = q.val % 64
        omega
    · exact pos0_apply x e b c ⟨q.val / 64, by omega⟩ ⟨q.val % 64, by omega⟩
  · refine Eq.trans (b := val_main_v14 (F := Ideal) w (ix2 q o)) (congrArg (val_main_v14 (F := Ideal) w) (funext fun a => by fin_cases a <;> rfl)) ?_
    pointwise [val_main_v14, val_main_v13]
    refine congrArg w ?_
    funext a
    refine Fin.ext ?_
    fin_cases a
    · rfl
    · show q.val = q.val % 2048
      omega
    · show o.val = o.val % 64
      omega

/-- The rows of half 1. -/
theorem row1_apply (b : Fin 8) (s : Fin 2048) (d : Fin 64) : val_main_v3 (F := Ideal) x (ix3 b s d) = xat x b s.val (64 + d.val) := by
  pointwise [val_main_v3, val_main_v1, val_main_v0]
  refine congrArg x (congrArg₂ ix2 (Fin.ext ?_) (Fin.ext ?_))
  · show b.val * 2048 + s.val = b.val * 2048 + s.val % 2048
    omega
  · show 64 + d.val = (64 + d.val) % 128
    omega

/-- The rows of half 1, continued with the first ones. -/
theorem long1_apply (b : Fin 8) (s : Fin 2064) (d : Fin 64) : val_main_v36 (F := Ideal) x (ix3 b s d) = xat x b s.val (64 + d.val) := by
  unfold val_main_v36
  by_cases hs : s.val < 2048
  · refine Eq.trans (b := val_main_v3 (F := Ideal) x (ix3 b ⟨s.val, hs⟩ d)) ?_ (row1_apply x b ⟨s.val, hs⟩ d)
    exact concatenate_apply_piece (t := S8x2064x64) 1 _ _ _ 0 (by simp) S8x2048x64 _ rfl rfl 0 rfl _
      (fun b hb => by fin_cases b <;> [rfl; exact absurd rfl hb; rfl]) (Nat.zero_add _)
  · refine Eq.trans (b := val_main_v35 (F := Ideal) x (ix3 b ⟨s.val - 2048, by omega⟩ d)) ?_ ?_
    · exact concatenate_apply_piece (t := S8x2064x64) 1 _ _ _ 1 (by simp) S8x16x64 _ rfl rfl 2048 rfl _
        (fun b hb => by fin_cases b <;> [rfl; exact absurd rfl hb; rfl]) (show 2048 + (s.val - 2048) = s.val by omega)
    · refine (show _ = val_main_v3 (F := Ideal) x (ix3 b ⟨s.val - 2048, by omega⟩ d) from by pointwise [val_main_v35]).trans ?_
      rw [row1_apply]
      unfold xat
      refine congrArg x (congrArg (fun r => ix2 r _) (Fin.ext ?_))
      show b.val * 2048 + (s.val - 2048) % 2048 = b.val * 2048 + s.val % 2048
      omega

theorem win1_apply : ∀ (c : Fin 128) (l : Fin 32), (val_main_v42 (F := Ideal) (ix3 c l 0)).toInt.toNat = 16 * c.val + l.val := by
  decide +kernel

/-- A position's features with the position term. -/
theorem pos1_apply (b : Fin 8) (c : Fin 128) (l : Fin 32) (d : Fin 64) :
    val_main_v46 (F := Ideal) x e (ix4 b c l d) = xat x b (16 * c.val + l.val) (64 + d.val) + eat e 1 l.val d.val := by
  rw [val_main_v46_apply]
  refine congrArg₂ (· + ·) ?_ ?_
  · unfold val_main_v43
    exact (gather_apply _ _ b c l d ⟨16 * c.val + l.val, by omega⟩ (win1_apply c l)).trans (long1_apply x b ⟨16 * c.val + l.val, by omega⟩ d)
  · pointwise [val_main_v45, val_main_v44, val_main_v34, val_main_v33]
    refine congrArg e ?_
    funext a
    refine Fin.ext ?_
    fin_cases a
    · rfl
    · show l.val = l.val % 32
      omega
    · show d.val = d.val % 64
      omega

/-- The compressed features of half 1. -/
theorem dot1_apply (b : Fin 8) (c : Fin 128) (o : Fin 64) :
    val_main_v48 (F := Ideal) x w e (ix3 b c o) = ∑ q : Fin 2048, blockTerm x w e b c.val 1 o.val q.val := by
  rw [val_main_v48_apply]
  refine Finset.sum_congr rfl fun q _ => congrArg₂ (· * ·) ?_ ?_
  · refine Eq.trans (b := val_main_v46 (F := Ideal) x e (ix4 b c ⟨q.val / 64, by omega⟩ ⟨q.val % 64, by omega⟩)) ?_ ?_
    · rw [val_main_v47_apply]
      refine congrArg (val_main_v46 (F := Ideal) x e) (funext fun a => Fin.ext ?_)
      fin_cases a
      · show ((b.val * 128 + c.val) * 2048 + q.val) / 262144 = b.val
        omega
      · show ((b.val * 128 + c.val) * 2048 + q.val) / 2048 % 128 = c.val
        omega
      · show ((b.val * 128 + c.val) * 2048 + q.val) / 64 % 32 = q.val / 64
        omega
      · show ((b.val * 128 + c.val) * 2048 + q.val) % 64 = q.val % 64
        omega
    · exact pos1_apply x e b c ⟨q.val / 64, by omega⟩ ⟨q.val % 64, by omega⟩
  · refine Eq.trans (b := val_main_v32 (F := Ideal) w (ix2 q o)) (congrArg (val_main_v32 (F := Ideal) w) (funext fun a => by fin_cases a <;> rfl)) ?_
    pointwise [val_main_v32, val_main_v31]
    refine congrArg w ?_
    funext a
    refine Fin.ext ?_
    fin_cases a
    · rfl
    · show q.val = q.val % 2048
      omega
    · show o.val = o.val % 64
      omega

/-- The compressed block. -/
theorem result_apply (b : Fin 8) (c : Fin 128) (o : Fin 128) :
    val_main_v50 (F := Ideal) x w e (ix3 b c o) = ∑ q : Fin 2048, blockTerm x w e b c.val (o.val / 64) (o.val % 64) q.val := by
  refine Eq.trans (b := val_main_v49 (F := Ideal) x w e (ix3 b c o)) rfl ?_
  unfold val_main_v49
  by_cases ho : o.val < 64
  · rw [show o.val / 64 = 0 by omega, show o.val % 64 = o.val by omega]
    refine Eq.trans (b := val_main_v30 (F := Ideal) x w e (ix3 b c ⟨o.val, ho⟩)) ?_ (dot0_apply x w e b c ⟨o.val, ho⟩)
    exact concatenate_apply_piece (t := S8x128x128) 2 _ _ _ 0 (by simp) S8x128x64 _ rfl rfl 0 rfl _
      (fun b hb => by fin_cases b <;> [rfl; rfl; exact absurd rfl hb]) (Nat.zero_add _)
  · rw [show o.val / 64 = 1 by omega, show o.val % 64 = o.val - 64 by omega]
    refine Eq.trans (b := val_main_v48 (F := Ideal) x w e (ix3 b c ⟨o.val - 64, by omega⟩)) ?_ (dot1_apply x w e b c ⟨o.val - 64, by omega⟩)
    exact concatenate_apply_piece (t := S8x128x128) 2 _ _ _ 1 (by simp) S8x128x64 _ rfl rfl 64 rfl _
      (fun b hb => by fin_cases b <;> [rfl; rfl; exact absurd rfl hb]) (show 64 + (o.val - 64) = o.val by omega)

end Cert.Reference6Ideal.CmpRef

end
-- ==== Proof.CmpValue.lean ====
/-
  The compressed blocks' result array after the run: the reference's composed term.
-/
module

public import proofs.«01_k».proof.Proof.CmpHost
public import proofs.«01_k».proof.Proof.CmpRef
public import Idealize.ShloMosaic.Lib.Claim
public import Idealize.ShloMosaic.Lib.Pipeline.ValueKit

@[expose] public section

set_option maxRecDepth 16384

noncomputable section

namespace Cert.Kernel6Ideal.CmpValue

open Idealize.ShloMosaic Idealize.SL.Sem
open Cert.Kernel6Ideal Cert.Kernel6Ideal.Gen Cert.Kernel6Ideal.CmpHost Cert.CmpSums

variable (m : (ℓ : Loc nD τ sig) → Buf (Elt Ideal) ℓ)

def xIn (c : Dev nD) : FVec Ideal S16384x128 .bf16 := m ((c.tc : Thread nD τ).loc main_arg0)
def wIn (c : Dev nD) : FVec Ideal S2x2048x64 .f32 := m ((c.tc : Thread nD τ).loc main_arg1)
def eIn (c : Dev nD) : FVec Ideal S2x32x64 .f32 := m ((c.tc : Thread nD τ).loc main_arg2)

/-- The index maps of the five windows over the grid. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] :=
  (by decide +kernel : ∀ t : Fin grid0.N, _)

theorem x_at (c : Dev nD) (t : Fin cfg0.N) (i : S1x128x2048.Idx) : iblk m c 0 t i = V m c main_v22 ((win0_0.blk t).view.emb i) := by
  sl_kernel_rfl

theorem x_entry (c : Dev nD) (i : S8x128x2048.Idx) : V m c main_v22 i = (h_v22 (F := Ideal) (xIn m c)) i := by
  sl_kernel_rfl

theorem e_at (c : Dev nD) (t : Fin cfg0.N) (i : S2x2048.Idx) : iblk m c 1 t i = V m c main_v21 ((win0_1.blk t).view.emb i) := by
  sl_kernel_rfl

theorem e_entry (c : Dev nD) (i : S2x2048.Idx) : V m c main_v21 i = (h_v21 (F := Ideal) (eIn m c)) i := by
  sl_kernel_rfl

theorem top_at (c : Dev nD) (t : Fin cfg0.N) (i : S2048x128.Idx) : iblk m c 2 t i = V m c main_v12 ((win0_2.blk t).view.emb i) := by
  sl_kernel_rfl

theorem top_entry (c : Dev nD) (i : S2048x128.Idx) : V m c main_v12 i = (h_v12 (F := Ideal) (wIn m c)) i := by
  sl_kernel_rfl

theorem bot_at (c : Dev nD) (t : Fin cfg0.N) (i : S2048x128.Idx) : iblk m c 3 t i = V m c main_v15 ((win0_3.blk t).view.emb i) := by
  sl_kernel_rfl

theorem bot_entry (c : Dev nD) (i : S2048x128.Idx) : V m c main_v15 i = (h_v15 (F := Ideal) (wIn m c)) i := by
  sl_kernel_rfl

variable (c : Dev nD) (t : Fin cfg0.N) (b : Fin 8) (hb : b.val = t.val)

include hb in
theorem x_read (r : Fin 128) (k : Fin 2048) :
    iblk m c 0 t (ix3 0 r k) = xat (xIn m c) b (16 * r.val + k.val / 128) (k.val % 128) := by
  have ht : t.val < 8 := t.isLt
  have e : (win0_0.blk t).view.emb (ix3 0 r k) = ix3 ⟨t.val, ht⟩ r k := by blk_ext [idx t]
  obtain rfl : b = ⟨t.val, ht⟩ := Fin.ext hb
  exact (x_at m c t (ix3 0 r k)).trans ((x_entry m c _).trans ((congrArg _ e).trans (v22_apply (xIn m c) ⟨t.val, ht⟩ r k)))

theorem e_read (j : Fin 2) (k : Fin 2048) :
    iblk m c 1 t (ix2 j k) = eat (eIn m c) (k.val % 128 / 64) (16 * j.val + k.val / 128) (k.val % 64) := by
  have e : (win0_1.blk t).view.emb (ix2 j k) = ix2 j k := by blk_ext [idx t]
  exact (e_at m c t (ix2 j k)).trans ((e_entry m c _).trans ((congrArg _ e).trans (v21_apply (eIn m c) j k)))

theorem top_read (k : Fin 2048) (o : Fin 128) :
    iblk m c 2 t (ix2 k o) = laneWeight (wIn m c) 0 (o.val / 64) (o.val % 64) k.val := by
  have e : (win0_2.blk t).view.emb (ix2 k o) = ix2 k o := by blk_ext [idx t]
  exact (top_at m c t (ix2 k o)).trans ((top_entry m c _).trans ((congrArg _ e).trans (v12_apply (wIn m c) k o)))

theorem bot_read (k : Fin 2048) (o : Fin 128) :
    iblk m c 3 t (ix2 k o) = laneWeight (wIn m c) 1 (o.val / 64) (o.val % 64) k.val := by
  have e : (win0_3.blk t).view.emb (ix2 k o) = ix2 k o := by blk_ext [idx t]
  exact (bot_at m c t (ix2 k o)).trans ((bot_entry m c _).trans ((congrArg _ e).trans (v15_apply (wIn m c) k o)))

theorem e0 (k : Fin 2048) : View.ld (iblk m c 1 t) r0_1 (ix2 0 k) = eat (eIn m c) (k.val % 128 / 64) (16 * 0 + k.val / 128) (k.val % 64) := by
  refine Eq.trans ?_ (e_read m c t 0 k)
  pointwise

theorem e1 (k : Fin 2048) : View.ld (iblk m c 1 t) r0_3 (ix2 0 k) = eat (eIn m c) (k.val % 128 / 64) (16 * 1 + k.val / 128) (k.val % 64) := by
  refine Eq.trans ?_ (e_read m c t 1 k)
  pointwise

/-- What one batch stores, read at an index: the reference's term where the batch lies. -/
theorem point (y : S1x128x128.Idx) :
    out0_4 (iblk m c 0 t) (iblk m c 1 t) (iblk m c 2 t) (iblk m c 3 t) y
      = Cert.Reference6Ideal.Read.val_main_v50 (F := Ideal) (xIn m c) (wIn m c) (eIn m c) (((cfg0.win 4).blk t).view.emb y) := by
  have ht : t.val < 8 := t.isLt
  obtain ⟨r, o, rfl⟩ : ∃ (r o : Fin 128), y = ix3 0 r o := ⟨y 1, y 2, funext fun a => by fin_cases a <;> [exact Subsingleton.elim (α := Fin 1) _ _; rfl; rfl]⟩
  have e : ((cfg0.win 4).blk t).view.emb (ix3 0 r o) = ix3 ⟨t.val, ht⟩ r o := by blk_ext [idx t]
  refine Eq.trans ?_ (congrArg _ e).symm
  refine Eq.trans ?_ (Cert.Reference6Ideal.CmpRef.result_apply (xIn m c) (wIn m c) (eIn m c) ⟨t.val, ht⟩ r o).symm
  refine Eq.trans ?_ (block_eq (xIn m c) (wIn m c) (eIn m c) ⟨t.val, ht⟩ r.val ((r.val + 1) % 128) (o.val / 64) (o.val % 64) rfl (by omega))
  frame_out
  rw [pay1_apply _ _ _ _ _ r ⟨(r.val + 1) % 128, by omega⟩ o rfl]
  simp only [e0, e1, top_read, bot_read, x_read m c t ⟨t.val, ht⟩ rfl]
  rfl

/-- The result array after the run. -/
theorem final : (dats m 0 c).arrAt 4 cfg0.N
    = Cert.Reference6Ideal.Read.val_main_v50 (F := Ideal) (m ((c.tc : Thread nD τ).loc main_arg0))
        (m ((c.tc : Thread nD τ).loc main_arg1)) (m ((c.tc : Thread nD τ).loc main_arg2)) := by
  refine (dats m 0 c).arrAt_eq_of_covers 4 _ (by decide +kernel) fun t _ y => ?_
  blk_simp
  rw [after0_4]
  exact point m c t y

end Cert.Kernel6Ideal.CmpValue

end
-- ==== Proof.MixPay.lean ====
/-
  The mixing call's kernel payload and its reference, each read at an index as the row functions.
-/
module

public import proofs.«01_k».proof.Proof.Rows
public import proofs.«01_k».proof.Proof.Gen.Kernel3Ideal.Value
public import proofs.«01_k».proof.Proof.Gen.Reference3Ideal.Read

@[expose] public section

set_option maxRecDepth 16384

noncomputable section

namespace Cert.Kernel3Ideal.MixPay

open Idealize.ShloMosaic Idealize.SL.Sem
open Cert.Kernel3Ideal Cert.Kernel3Ideal.Gen Cert.Rows

/-- The normalized rows. -/
theorem pay3_apply (x : Vec Ideal S256x1024 .f32) (g : Vec Ideal S1x1024 .f32) (r : Fin 256) (j : Fin 1024) :
    k0_pay3 (F := Ideal) x g (ix2 r j) = rms (fun k => x (ix2 r k)) (fun k => g (ix2 0 k)) j := by
  pointwise [k0_pay3, k0_pay2, rms]

/-- The first branch. -/
theorem pay4_apply (x : Vec Ideal S256x1024 .f32) (g : Vec Ideal S1x1024 .f32) (w : Vec Ideal S1024x1024 .bf16)
    (o : Vec Ideal S256x256 .bf16) (u : Vec Ideal S1x256x1024 .bf16) (r : Fin 256) (d : Fin 1024) :
    k0_pay4 (F := Ideal) x g w o u (ix2 r d)
      = branch (rms (fun k => x (ix2 r k)) (fun k => g (ix2 0 k))) (fun k => w (ix2 k d)) (fun k => o (ix2 r k))
          (fun k => u (ix3 0 k d)) := by
  pointwise [k0_pay4, pay3_apply]
  simp only [zero_sub]
  rfl

/-- The next two. -/
theorem pay6_apply (x : Vec Ideal S256x1024 .f32) (g : Vec Ideal S1x1024 .f32) (a : FVec Ideal S256x1024 .f32)
    (w1 : Vec Ideal S1024x1024 .bf16) (o1 : Vec Ideal S256x256 .bf16) (u1 : Vec Ideal S1x256x1024 .bf16)
    (w2 : Vec Ideal S1024x1024 .bf16) (o2 : Vec Ideal S256x256 .bf16) (u2 : Vec Ideal S1x256x1024 .bf16)
    (r : Fin 256) (d : Fin 1024) :
    k0_pay6 (F := Ideal) (k0_pay3 x g) a (k0_pay5 w1) o1 u1 w2 o2 u2 (ix2 r d)
      = a (ix2 r d) + branch (rms (fun k => x (ix2 r k)) (fun k => g (ix2 0 k))) (fun k => w1 (ix2 k d)) (fun k => o1 (ix2 r k))
          (fun k => u1 (ix3 0 k d))
        + branch (rms (fun k => x (ix2 r k)) (fun k => g (ix2 0 k))) (fun k => w2 (ix2 k d)) (fun k => o2 (ix2 r k))
          (fun k => u2 (ix3 0 k d)) := by
  pointwise [k0_pay6, k0_pay5, pay3_apply]
  simp only [zero_sub]
  rfl

/-- The block the kernel stores. -/
theorem pay1_apply (x : Vec Ideal S256x1024 .f32) (g : Vec Ideal S1x1024 .f32)
    (w0 w1 w2 w3 : Vec Ideal S1024x1024 .bf16) (o0 o1 o2 o3 : Vec Ideal S256x256 .bf16)
    (u0 u1 u2 u3 : Vec Ideal S1x256x1024 .bf16) (out : Vec Ideal S1024x1024 .bf16) (r : Fin 256) (j : Fin 1024) :
    k0_pay1 (F := Ideal) (k0_pay2 x) (k0_pay6 (k0_pay3 x g) (k0_pay4 x g w0 o0 u0) (k0_pay5 w1) o1 u1 w2 o2 u2)
        (k0_pay7 (k0_pay3 x g) w3) o3 u3 out (ix2 r j)
      = x (ix2 r j) + ∑ d : Fin 1024,
        (branch (rms (fun k => x (ix2 r k)) (fun k => g (ix2 0 k))) (fun k => w0 (ix2 k d)) (fun k => o0 (ix2 r k)) (fun k => u0 (ix3 0 k d))
        + branch (rms (fun k => x (ix2 r k)) (fun k => g (ix2 0 k))) (fun k => w1 (ix2 k d)) (fun k => o1 (ix2 r k)) (fun k => u1 (ix3 0 k d))
        + branch (rms (fun k => x (ix2 r k)) (fun k => g (ix2 0 k))) (fun k => w2 (ix2 k d)) (fun k => o2 (ix2 r k)) (fun k => u2 (ix3 0 k d))
        + branch (rms (fun k => x (ix2 r k)) (fun k => g (ix2 0 k))) (fun k => w3 (ix2 k d)) (fun k => o3 (ix2 r k)) (fun k => u3 (ix3 0 k d)))
        * out (ix2 d j) := by
  pointwise [k0_pay1, k0_pay2, k0_pay7, pay6_apply, pay4_apply, pay3_apply]
  simp only [zero_sub]
  rfl

end Cert.Kernel3Ideal.MixPay

namespace Cert.Reference3Ideal.MixRef

open Idealize.ShloMosaic Idealize.SL.Sem
open Cert.Reference3Ideal Cert.Reference3Ideal.Read Cert.Rows

/-- The column of the input projection that holds branch `n`'s gate `d`. -/
abbrev gateCol (n : Fin 4) (d : Fin 1024) : Fin 6616 := ⟨2520 + (n.val * 1024 + d.val), by omega⟩

theorem v12_apply (x : FVec Ideal S8x2048x1024 .f32) (g : FVec Ideal S1024 .f32) (b : Fin 8) (s : Fin 2048) (j : Fin 1024) :
    val_main_v12 (F := Ideal) x g (ix3 b s j) = rms (fun k => x (ix3 b s k)) (fun k => g (ix1 k)) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rms]

/-- The gate's logit. -/
theorem v22_apply (x : FVec Ideal S8x2048x1024 .f32) (g : FVec Ideal S1024 .f32) (w : FVec Ideal S1024x6616 .f32)
    (b : Fin 8) (s : Fin 2048) (n : Fin 4) (d : Fin 1024) :
    val_main_v22 (F := Ideal) x g w (ix4 b s n d)
      = ∑ k : Fin 1024, rms (fun k => x (ix3 b s k)) (fun k => g (ix1 k)) k * w (ix2 k ⟨2520 + (n.val * 1024 + d.val), by omega⟩) := by
  pointwise [val_main_v22, val_main_v14, val_main_v13, v12_apply]

/-- The lifted branches. -/
theorem v21_apply (o0 o1 o2 o3 : FVec Ideal S8x2048x256 .f32) (u : FVec Ideal S4x256x1024 .f32)
    (b : Fin 8) (s : Fin 2048) (n : Fin 4) (d : Fin 1024) :
    val_main_v21 (F := Ideal) o0 o1 o2 o3 u (ix4 b s n d)
      = ∑ k : Fin 256, (![o0, o1, o2, o3] n) (ix3 b s k) * u (ix3 n k d) := by
  pointwise [val_main_v21, val_main_v20, val_main_v19, val_main_v18, val_main_v17, val_main_v16, val_main_v15]
  exact Finset.sum_congr rfl fun k _ => (mul_comm _ _).trans (congrArg (· * _) (by fin_cases n <;> rfl))

/-- The mixed branches. -/
theorem v30_apply (x : FVec Ideal S8x2048x1024 .f32) (g : FVec Ideal S1024 .f32) (w : FVec Ideal S1024x6616 .f32)
    (o0 o1 o2 o3 : FVec Ideal S8x2048x256 .f32) (u : FVec Ideal S4x256x1024 .f32) (b : Fin 8) (s : Fin 2048) (d : Fin 1024) :
    val_main_v30 (F := Ideal) x g w o0 o1 o2 o3 u (ix3 b s d)
      = branch (rms (fun k => x (ix3 b s k)) (fun k => g (ix1 k))) (fun k => w (ix2 k (gateCol 0 d))) (fun k => o0 (ix3 b s k)) (fun k => u (ix3 0 k d))
      + branch (rms (fun k => x (ix3 b s k)) (fun k => g (ix1 k))) (fun k => w (ix2 k (gateCol 1 d))) (fun k => o1 (ix3 b s k)) (fun k => u (ix3 1 k d))
      + branch (rms (fun k => x (ix3 b s k)) (fun k => g (ix1 k))) (fun k => w (ix2 k (gateCol 2 d))) (fun k => o2 (ix3 b s k)) (fun k => u (ix3 2 k d))
      + branch (rms (fun k => x (ix3 b s k)) (fun k => g (ix1 k))) (fun k => w (ix2 k (gateCol 3 d))) (fun k => o3 (ix3 b s k)) (fun k => u (ix3 3 k d)) := by
  pointwise [val_main_v30, val_main_v29, val_main_v28, val_main_v27, val_main_v26, val_main_v25, val_main_v24, val_main_v23,
    val_main_cst_2, val_main_cst_3, val_main_cst_4, v22_apply, v21_apply]
  rw [Fin.sum_univ_four]
  rfl

/-- The reference's result. -/
theorem v33_apply (x : FVec Ideal S8x2048x1024 .f32) (g : FVec Ideal S1024 .f32) (w : FVec Ideal S1024x6616 .f32)
    (o0 o1 o2 o3 : FVec Ideal S8x2048x256 .f32) (u : FVec Ideal S4x256x1024 .f32) (out : FVec Ideal S1024x1024 .f32)
    (a : Fin 16384) (j : Fin 1024) :
    val_main_v33 (F := Ideal) x g w o0 o1 o2 o3 u out (ix2 a j)
      = mix (fun k => x (ix3 ⟨a.val / 2048, by omega⟩ ⟨a.val % 2048, by omega⟩ k)) (fun k => g (ix1 k))
          (fun n k d => w (ix2 k (gateCol n d)))
          (fun k => o0 (ix3 ⟨a.val / 2048, by omega⟩ ⟨a.val % 2048, by omega⟩ k))
          (fun k => o1 (ix3 ⟨a.val / 2048, by omega⟩ ⟨a.val % 2048, by omega⟩ k))
          (fun k => o2 (ix3 ⟨a.val / 2048, by omega⟩ ⟨a.val % 2048, by omega⟩ k))
          (fun k => o3 (ix3 ⟨a.val / 2048, by omega⟩ ⟨a.val % 2048, by omega⟩ k))
          (fun n k d => u (ix3 n k d)) (fun d j => out (ix2 d j)) j := by
  pointwise [val_main_v33, val_main_v32, val_main_v31, v30_apply]
  rfl

end Cert.Reference3Ideal.MixRef
-- ==== Proof.MixValue.lean ====
/-
  The mixing call's result array after the run: the reference's composed term.
-/
module

public import proofs.«01_k».proof.Proof.MixPay
public import Idealize.ShloMosaic.Lib.Claim

@[expose] public section

set_option maxRecDepth 16384

noncomputable section

namespace Cert.Kernel3Ideal.MixValue

open Idealize.ShloMosaic Idealize.SL.Sem
open Cert.Kernel3Ideal Cert.Kernel3Ideal.Gen Cert.Rows
open Cert.Reference3Ideal.MixRef (gateCol)

variable (m : (ℓ : Loc nD τ sig) → Buf (Elt Ideal) ℓ)

/-- The index maps of the ten windows over the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![0, 0, 0] ∧ win0_8.index t = ![0, 0]
    ∧ win0_9.index t = ![t.val, 0] :=
  (by decide +kernel : ∀ t : Fin grid0.N, _)

/-- The reshaped rows, read at the batch and the position. -/
theorem flat_apply (x : FVec Ideal S8x2048x1024 .f32) (a : Fin 16384) (k : Fin 1024) (i : Fin 8) (s : Fin 2048)
    (h : i.val * 2048 + s.val = a.val) :
    shapeCast S16384x1024 x shapeCasts_S8x2048x1024_S16384x1024 (ix2 a k) = x (ix3 i s k) := by
  have hs := s.isLt
  have hi : (⟨a.val / 2048, by omega⟩ : Fin 8) = i := Fin.ext (by show a.val / 2048 = i.val; omega)
  have hr : (⟨a.val % 2048, by omega⟩ : Fin 2048) = s := Fin.ext (by show a.val % 2048 = s.val; omega)
  rw [← hi, ← hr]
  pointwise

/-- The same for a branch's rows. -/
theorem flat_branch_apply (x : FVec Ideal S8x2048x256 .f32) (a : Fin 16384) (k : Fin 256) (i : Fin 8) (s : Fin 2048)
    (h : i.val * 2048 + s.val = a.val) :
    truncf .bf16 (shapeCast S16384x256 x shapeCasts_S8x2048x256_S16384x256) bitsLt_bf16_f32 (ix2 a k) = x (ix3 i s k) := by
  have hs := s.isLt
  have hi : (⟨a.val / 2048, by omega⟩ : Fin 8) = i := Fin.ext (by show a.val / 2048 = i.val; omega)
  have hr : (⟨a.val % 2048, by omega⟩ : Fin 2048) = s := Fin.ext (by show a.val % 2048 = s.val; omega)
  rw [← hi, ← hr]
  pointwise

/-- The gains' row. -/
theorem row_apply (x : FVec Ideal S1024 .f32) (k : Fin 1024) :
    broadcastInDim S1x1024 ![1] bcast_S1024_S1x1024_1 x (ix2 0 k) = x (ix1 k) := by
  pointwise

theorem x_read (c : Dev nD) (t : Fin cfg0.N) (r : Fin 256) (k : Fin 1024) (i : Fin 8) (s : Fin 2048)
    (h : i.val * 2048 + s.val = t.val * 256 + r.val) :
    iblk m c 0 t (ix2 r k) = m ((c.tc : Thread nD τ).loc main_arg0) (ix3 i s k) := by
  have ht : t.val < 64 := t.isLt
  have e : (win0_0.blk t).view.emb (ix2 r k) = ix2 ⟨t.val * 256 + r.val, by omega⟩ k := by blk_ext [idx t]
  refine Eq.trans ?_ (flat_apply _ ⟨t.val * 256 + r.val, by omega⟩ k i s h)
  rw [← e]
  unfold iblk
  entry_read
  rfl

theorem g_read (c : Dev nD) (t : Fin cfg0.N) (k : Fin 1024) :
    iblk m c 1 t (ix2 0 k) = m ((c.tc : Thread nD τ).loc main_arg1) (ix1 k) := by
  have e : (win0_1.blk t).view.emb (ix2 0 k) = ix2 0 k := by blk_ext [idx t]
  refine Eq.trans ?_ ((congrArg _ e).trans (row_apply _ k))
  unfold iblk
  entry_read
  rfl

/-- The gates' columns of the input projection. -/
theorem gates_apply (x : FVec Ideal S1024x6616 .f32) (k : Fin 1024) (n : Fin 4) (d : Fin 1024) :
    truncf .bf16 (extractStridedSlice S1024x4096 ![0, 2520] x slices_S1024x6616_S1024x4096_0_2520) bitsLt_bf16_f32 (ix2 k ⟨1024 * n.val + d.val, by omega⟩)
      = x (ix2 k (gateCol n d)) := by
  pointwise
  exact congrArg x (congrArg (ix2 k) (Fin.ext (by show 2520 + (1024 * n.val + d.val) = 2520 + (n.val * 1024 + d.val); omega)))

theorem w_read (c : Dev nD) (t : Fin cfg0.N) (k : Fin 1024) (n : Fin 4) (d : Fin 1024) :
    iblk m c 2 t (ix2 k ⟨1024 * n.val + d.val, by omega⟩) = m ((c.tc : Thread nD τ).loc main_arg2) (ix2 k (gateCol n d)) := by
  have e : (win0_2.blk t).view.emb (ix2 k ⟨1024 * n.val + d.val, by omega⟩) = ix2 k ⟨1024 * n.val + d.val, by omega⟩ := by
    blk_ext [idx t]
  unfold iblk
  entry_read
  refine Eq.trans ?_ ((congrArg _ e).trans (gates_apply _ k n d))
  rfl

theorem o0_read (c : Dev nD) (t : Fin cfg0.N) (r : Fin 256) (k : Fin 256) (i : Fin 8) (s : Fin 2048)
    (h : i.val * 2048 + s.val = t.val * 256 + r.val) :
    iblk m c 3 t (ix2 r k) = m ((c.tc : Thread nD τ).loc main_arg3) (ix3 i s k) := by
  have ht : t.val < 64 := t.isLt
  have e : (win0_3.blk t).view.emb (ix2 r k) = ix2 ⟨t.val * 256 + r.val, by omega⟩ k := by blk_ext [idx t]
  refine Eq.trans ?_ (flat_branch_apply _ ⟨t.val * 256 + r.val, by omega⟩ k i s h)
  rw [← e]
  unfold iblk
  entry_read
  rfl

theorem o1_read (c : Dev nD) (t : Fin cfg0.N) (r : Fin 256) (k : Fin 256) (i : Fin 8) (s : Fin 2048)
    (h : i.val * 2048 + s.val = t.val * 256 + r.val) :
    iblk m c 4 t (ix2 r k) = m ((c.tc : Thread nD τ).loc main_arg4) (ix3 i s k) := by
  have ht : t.val < 64 := t.isLt
  have e : (win0_4.blk t).view.emb (ix2 r k) = ix2 ⟨t.val * 256 + r.val, by omega⟩ k := by blk_ext [idx t]
  refine Eq.trans ?_ (flat_branch_apply _ ⟨t.val * 256 + r.val, by omega⟩ k i s h)
  rw [← e]
  unfold iblk
  entry_read
  rfl

theorem o2_read (c : Dev nD) (t : Fin cfg0.N) (r : Fin 256) (k : Fin 256) (i : Fin 8) (s : Fin 2048)
    (h : i.val * 2048 + s.val = t.val * 256 + r.val) :
    iblk m c 5 t (ix2 r k) = m ((c.tc : Thread nD τ).loc main_arg5) (ix3 i s k) := by
  have ht : t.val < 64 := t.isLt
  have e : (win0_5.blk t).view.emb (ix2 r k) = ix2 ⟨t.val * 256 + r.val, by omega⟩ k := by blk_ext [idx t]
  refine Eq.trans ?_ (flat_branch_apply _ ⟨t.val * 256 + r.val, by omega⟩ k i s h)
  rw [← e]
  unfold iblk
  entry_read
  rfl

theorem o3_read (c : Dev nD) (t : Fin cfg0.N) (r : Fin 256) (k : Fin 256) (i : Fin 8) (s : Fin 2048)
    (h : i.val * 2048 + s.val = t.val * 256 + r.val) :
    iblk m c 6 t (ix2 r k) = m ((c.tc : Thread nD τ).loc main_arg6) (ix3 i s k) := by
  have ht : t.val < 64 := t.isLt
  have e : (win0_6.blk t).view.emb (ix2 r k) = ix2 ⟨t.val * 256 + r.val, by omega⟩ k := by blk_ext [idx t]
  refine Eq.trans ?_ (flat_branch_apply _ ⟨t.val * 256 + r.val, by omega⟩ k i s h)
  rw [← e]
  unfold iblk
  entry_read
  rfl

theorem u_read (c : Dev nD) (t : Fin cfg0.N) (n : Fin 4) (k : Fin 256) (d : Fin 1024) :
    iblk m c 7 t (ix3 n k d) = m ((c.tc : Thread nD τ).loc main_arg7) (ix3 n k d) := by
  have e : (win0_7.blk t).view.emb (ix3 n k d) = ix3 n k d := by blk_ext [idx t]
  refine Eq.trans ?_ (congrArg _ e)
  unfold iblk
  entry_read
  rfl

theorem out_read (c : Dev nD) (t : Fin cfg0.N) (d j : Fin 1024) :
    iblk m c 8 t (ix2 d j) = m ((c.tc : Thread nD τ).loc main_arg8) (ix2 d j) := by
  have e : (win0_8.blk t).view.emb (ix2 d j) = ix2 d j := by blk_ext [idx t]
  refine Eq.trans ?_ (congrArg _ e)
  unfold iblk
  entry_read
  rfl

theorem w0 (c : Dev nD) (t : Fin cfg0.N) (k d : Fin 1024) :
    View.ld (iblk m c 2 t) r0_2 (ix2 k d) = m ((c.tc : Thread nD τ).loc main_arg2) (ix2 k (gateCol 0 d)) := by
  refine Eq.trans ?_ (w_read m c t k 0 d)
  pointwise

theorem u0 (c : Dev nD) (t : Fin cfg0.N) (k : Fin 256) (d : Fin 1024) :
    View.ld (iblk m c 7 t) r0_4 (ix3 0 k d) = m ((c.tc : Thread nD τ).loc main_arg7) (ix3 0 k d) := by
  refine Eq.trans ?_ (u_read m c t 0 k d)
  pointwise

theorem w1 (c : Dev nD) (t : Fin cfg0.N) (k d : Fin 1024) :
    View.ld (iblk m c 2 t) r0_5 (ix2 k d) = m ((c.tc : Thread nD τ).loc main_arg2) (ix2 k (gateCol 1 d)) := by
  refine Eq.trans ?_ (w_read m c t k 1 d)
  pointwise

theorem u1 (c : Dev nD) (t : Fin cfg0.N) (k : Fin 256) (d : Fin 1024) :
    View.ld (iblk m c 7 t) r0_6 (ix3 0 k d) = m ((c.tc : Thread nD τ).loc main_arg7) (ix3 1 k d) := by
  refine Eq.trans ?_ (u_read m c t 1 k d)
  pointwise

theorem w2 (c : Dev nD) (t : Fin cfg0.N) (k d : Fin 1024) :
    View.ld (iblk m c 2 t) r0_7 (ix2 k d) = m ((c.tc : Thread nD τ).loc main_arg2) (ix2 k (gateCol 2 d)) := by
  refine Eq.trans ?_ (w_read m c t k 2 d)
  pointwise

theorem u2 (c : Dev nD) (t : Fin cfg0.N) (k : Fin 256) (d : Fin 1024) :
    View.ld (iblk m c 7 t) r0_8 (ix3 0 k d) = m ((c.tc : Thread nD τ).loc main_arg7) (ix3 2 k d) := by
  refine Eq.trans ?_ (u_read m c t 2 k d)
  pointwise

theorem w3 (c : Dev nD) (t : Fin cfg0.N) (k d : Fin 1024) :
    View.ld (iblk m c 2 t) r0_9 (ix2 k d) = m ((c.tc : Thread nD τ).loc main_arg2) (ix2 k (gateCol 3 d)) := by
  refine Eq.trans ?_ (w_read m c t k 3 d)
  pointwise

theorem u3 (c : Dev nD) (t : Fin cfg0.N) (k : Fin 256) (d : Fin 1024) :
    View.ld (iblk m c 7 t) r0_10 (ix3 0 k d) = m ((c.tc : Thread nD τ).loc main_arg7) (ix3 3 k d) := by
  refine Eq.trans ?_ (u_read m c t 3 k d)
  pointwise

/-- The rows normalized, from the blocks. -/
theorem pay8_eq (x0 : Vec Ideal S256x1024 .f32) (x1 : Vec Ideal S1x1024 .f32) (x2 : Vec Ideal S1024x4096 .bf16)
    (x3 x4 x5 x6 : Vec Ideal S256x256 .bf16) (x7 : Vec Ideal S4x256x1024 .bf16) (x8 : Vec Ideal S1024x1024 .bf16) :
    k0_pay8 (F := Ideal) x0 x1 x2 x3 x4 x5 x6 x7 x8 = k0_pay3 x0 x1 := by
  unfold k0_pay8
  frame_out

set_option maxHeartbeats 1000000 in
/-- What one block stores, read at an index: the reference's term where the block lies. -/
theorem point (c : Dev nD) (t : Fin cfg0.N) (y : S256x1024.Idx) :
    out0_9 (iblk m c 0 t) (iblk m c 1 t) (iblk m c 2 t) (iblk m c 3 t) (iblk m c 4 t) (iblk m c 5 t) (iblk m c 6 t)
        (iblk m c 7 t) (iblk m c 8 t) y
      = Cert.Reference3Ideal.Read.val_main_v33 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (((cfg0.win 9).blk t).view.emb y) := by
  have ht : t.val < 64 := t.isLt
  obtain ⟨r, j, rfl⟩ : ∃ r j, y = ix2 r j := ⟨y 0, y 1, eq_ix2 y⟩
  have e : ((cfg0.win 9).blk t).view.emb (ix2 r j) = ix2 ⟨t.val * 256 + r.val, by omega⟩ j := by blk_ext [idx t]
  refine Eq.trans ?_ (congrArg _ e).symm
  frame_out
  rw [pay8_eq]
  have hb : (t.val * 256 + r.val) / 2048 * 2048 + (t.val * 256 + r.val) % 2048 = t.val * 256 + r.val := by omega
  have hx := fun k => x_read m c t r k ⟨(t.val * 256 + r.val) / 2048, by omega⟩ ⟨(t.val * 256 + r.val) % 2048, by omega⟩ hb
  have h0 := fun k => o0_read m c t r k ⟨(t.val * 256 + r.val) / 2048, by omega⟩ ⟨(t.val * 256 + r.val) % 2048, by omega⟩ hb
  have h1 := fun k => o1_read m c t r k ⟨(t.val * 256 + r.val) / 2048, by omega⟩ ⟨(t.val * 256 + r.val) % 2048, by omega⟩ hb
  have h2 := fun k => o2_read m c t r k ⟨(t.val * 256 + r.val) / 2048, by omega⟩ ⟨(t.val * 256 + r.val) % 2048, by omega⟩ hb
  have h3 := fun k => o3_read m c t r k ⟨(t.val * 256 + r.val) / 2048, by omega⟩ ⟨(t.val * 256 + r.val) % 2048, by omega⟩ hb
  refine (MixPay.pay1_apply _ _ _ _ _ _ _ _ _ _ _ _ _ _ _ _ _).trans ?_
  simp only [g_read, w0, w1, w2, w3, u0, u1, u2, u3, out_read, hx, h0, h1, h2, h3]
  refine Eq.trans ?_ (Cert.Reference3Ideal.MixRef.v33_apply _ _ _ _ _ _ _ _ _ _ _).symm
  rfl

/-- The result array after the run. -/
theorem final (c : Dev nD) : (dats m 0 c).arrAt 9 cfg0.N
    = Cert.Reference3Ideal.Read.val_main_v33 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  refine (dats m 0 c).arrAt_eq_of_covers 9 _ (by decide +kernel) fun t _ y => ?_
  blk_simp
  rw [after0_9]
  exact point m c t y

end Cert.Kernel3Ideal.MixValue
-- ==== Proof.InPay.lean ====
/-
  The input projection's payloads: one rotated tile, read at a row and a lane.
-/
module

public import proofs.«01_k».proof.Proof.Gen.Kernel4Ideal.Skeleton
public import proofs.«01_k».proof.Proof.Rows
public import Idealize.ShloMosaic.Lib.Claim

@[expose] public section

set_option maxRecDepth 16384

noncomputable section

namespace Cert.Kernel4Ideal.InPay

open Idealize.ShloMosaic Idealize.SL.Sem
open Cert.Kernel4Ideal Cert.Kernel4Ideal.Gen Cert.Rows

/-- One tile of 128 lanes, rotated. -/
def tile (x c s : FVec Ideal S256x128 .f32) (k : IVec S256x128 1) : FVec Ideal S256x128 .f32 :=
  addf (mulf x c) (mulf (select k (dynamicRotate 1 120#32 none x rotates_S256x128_d1)
    (dynamicRotate 1 8#32 none x rotates_S256x128_d1)) s)

theorem tile_apply (x c s : FVec Ideal S256x128 .f32) (k : IVec S256x128 1) (r : Fin 256) (l : Fin 128) :
    tile x c s k (ix2 r l) = x (ix2 r l) * c (ix2 r l)
      + (if k (ix2 r l) = 1 then x (ix2 r ⟨(l.val + 8) % 128, by omega⟩)
          else x (ix2 r ⟨(l.val + 120) % 128, by omega⟩)) * s (ix2 r l) := by
  pointwise [tile]
  rfl

/-- The cosine's row of a tile whose first 16 lanes of every 64 turn. -/
def cosHead (C : Fin 8 → EReal) (l : Fin 128) : EReal :=
  if l.val % 64 < 16 then C ⟨l.val % 8, by omega⟩ else 1

/-- The sine's row, signed. -/
def sinHead (S : Fin 8 → EReal) (l : Fin 128) : EReal :=
  if l.val % 64 < 8 then -S ⟨l.val % 8, by omega⟩ else if l.val % 64 < 16 then S ⟨l.val % 8, by omega⟩ else 0

/-- A row of heads, the first 16 of every 64 lanes turned. -/
def turned (n : Nat) (x : Fin n → EReal) (C S : Fin 8 → EReal) (l : Fin n) : EReal :=
  if h : l.val % 64 < 8 ∧ l.val + 8 < n then x l * C ⟨l.val % 8, by omega⟩ - x ⟨l.val + 8, h.2⟩ * S ⟨l.val % 8, by omega⟩
  else if l.val % 64 < 16 then x l * C ⟨l.val % 8, by omega⟩ + x ⟨l.val - 8, by omega⟩ * S ⟨l.val % 8, by omega⟩
  else x l

section Turned

variable {N n o : Nat} (f : Fin N → EReal) (C S : Fin 8 → EReal) (ho : o + n ≤ N) (hn : n % 64 = 0) (j : Fin n)

include hn in
theorem turned_lo (a b : Fin N) (i i' : Fin 8) (h : j.val % 64 < 8) (ha : a.val = o + j.val) (hb : b.val = o + j.val + 8)
    (hi : i.val = j.val % 64) (hi' : i'.val = j.val % 64) :
    f a * C i - f b * S i' = turned n (fun l => f ⟨o + l.val, lt_of_lt_of_le (Nat.add_lt_add_left l.isLt o) ho⟩) C S j := by
  have hj := j.isLt
  unfold turned
  rw [dif_pos ⟨h, by omega⟩]
  have e1 : a = ⟨o + j.val, by omega⟩ := Fin.ext ha
  have e2 : b = ⟨o + (j.val + 8), by omega⟩ := Fin.ext (by show b.val = o + (j.val + 8); omega)
  have e3 : i = ⟨j.val % 8, by omega⟩ := Fin.ext (by show i.val = j.val % 8; omega)
  have e4 : i' = ⟨j.val % 8, by omega⟩ := Fin.ext (by show i'.val = j.val % 8; omega)
  exact congrArg₂ (· - ·) (congrArg₂ (· * ·) (congrArg f e1) (congrArg C e3)) (congrArg₂ (· * ·) (congrArg f e2) (congrArg S e4))

theorem turned_mid (a b : Fin N) (i i' : Fin 8) (h : 8 ≤ j.val % 64) (h' : j.val % 64 < 16) (ha : a.val = o + j.val)
    (hb : b.val + 8 = o + j.val) (hi : i.val = j.val % 64 - 8) (hi' : i'.val = j.val % 64 - 8) :
    f a * C i + f b * S i' = turned n (fun l => f ⟨o + l.val, lt_of_lt_of_le (Nat.add_lt_add_left l.isLt o) ho⟩) C S j := by
  unfold turned
  rw [dif_neg (by omega), if_pos h']
  have e1 : a = ⟨o + j.val, by omega⟩ := Fin.ext ha
  have e2 : b = ⟨o + (j.val - 8), by omega⟩ := Fin.ext (by show b.val = o + (j.val - 8); omega)
  have e3 : i = ⟨j.val % 8, by omega⟩ := Fin.ext (by show i.val = j.val % 8; omega)
  have e4 : i' = ⟨j.val % 8, by omega⟩ := Fin.ext (by show i'.val = j.val % 8; omega)
  exact congrArg₂ (· + ·) (congrArg₂ (· * ·) (congrArg f e1) (congrArg C e3)) (congrArg₂ (· * ·) (congrArg f e2) (congrArg S e4))

theorem turned_hi (a : Fin N) (h : 16 ≤ j.val % 64) (ha : a.val = o + j.val) :
    f a = turned n (fun l => f ⟨o + l.val, lt_of_lt_of_le (Nat.add_lt_add_left l.isLt o) ho⟩) C S j := by
  unfold turned
  rw [dif_neg (by omega), if_neg (by omega)]
  exact congrArg f (Fin.ext ha)

/-- The turned lane does not depend on how the row is cut into heads' runs. -/
theorem turned_move {m o' : Nat} (ho' : o' + m ≤ N) (hm : m % 64 = 0) (l : Fin m) (h : o + j.val = o' + l.val)
    (h64 : j.val % 64 = l.val % 64) (hn : n % 64 = 0) :
    turned n (fun l => f ⟨o + l.val, lt_of_lt_of_le (Nat.add_lt_add_left l.isLt o) ho⟩) C S j
      = turned m (fun l => f ⟨o' + l.val, lt_of_lt_of_le (Nat.add_lt_add_left l.isLt o') ho'⟩) C S l := by
  have hj := j.isLt
  have hl := l.isLt
  by_cases h1 : l.val % 64 < 8
  · rw [← turned_lo f C S ho' hm l ⟨o' + l.val, by omega⟩ ⟨o' + l.val + 8, by omega⟩ ⟨l.val % 64, h1⟩ ⟨l.val % 64, h1⟩ h1 rfl rfl rfl rfl]
    exact (turned_lo f C S ho hn j _ _ _ _ (by omega) h.symm (by show o' + l.val + 8 = _; omega) h64.symm h64.symm).symm
  · by_cases h2 : l.val % 64 < 16
    · rw [← turned_mid f C S ho' l ⟨o' + l.val, by omega⟩ ⟨o' + l.val - 8, by omega⟩ ⟨l.val % 64 - 8, by omega⟩ ⟨l.val % 64 - 8, by omega⟩ (by omega) h2 rfl
        (by show o' + l.val - 8 + 8 = _; omega) rfl rfl]
      exact (turned_mid f C S ho j _ _ _ _ (by omega) (by omega) h.symm (by show o' + l.val - 8 + 8 = _; omega)
        (by show l.val % 64 - 8 = _; omega) (by show l.val % 64 - 8 = _; omega)).symm
    · rw [← turned_hi f C S ho' l ⟨o' + l.val, by omega⟩ (by omega) rfl]
      exact (turned_hi f C S ho j _ (by omega) h.symm).symm

/-- A factor of every lane comes out of the turn. -/
theorem turned_scale (x : Fin n → EReal) (s : EReal) (h0 : 0 ≤ s) (ht : s ≠ ⊤) :
    turned n (fun l => x l * s) C S j = turned n x C S j * s := by
  have hd : ∀ a b c d : EReal, a * s * c - b * s * d = (a * c - b * d) * s := fun a b c d => by
    rw [sub_eq_add_neg, sub_eq_add_neg, EReal.right_distrib_of_nonneg_of_ne_top h0 ht, mul_right_comm, mul_right_comm b s d, neg_mul]
  have ha : ∀ a b c d : EReal, a * s * c + b * s * d = (a * c + b * d) * s := fun a b c d => by
    rw [EReal.right_distrib_of_nonneg_of_ne_top h0 ht, mul_right_comm, mul_right_comm b s d]
  unfold turned
  split
  · exact hd _ _ _ _
  · split
    · exact ha _ _ _ _
    · rfl

end Turned

theorem mask_apply (r : Fin 256) (l : Fin 128) :
    (k0_pay15 k0_pay13 k0_pay14 (ix2 r l) = 1) ↔ l.val % 64 < 8 := by
  have e : k0_pay15 k0_pay13 k0_pay14 (ix2 r l)
      = IntOp.cmpi .slt (IntOp.andi (BitVec.ofNat 32 l.val) 63#32) 8#32 := by
    pointwise [k0_pay15, k0_pay13, k0_pay14]
  rw [e]
  exact (by decide +kernel : ∀ l : Fin 128,
    IntOp.cmpi .slt (IntOp.andi (BitVec.ofNat 32 l.val) 63#32) 8#32 = 1 ↔ l.val % 64 < 8) l

theorem half_apply (r : Fin 256) (l : Fin 128) :
    (k0_pay17 (iota .tc S256x128 32 [1] iota_S256x128_d1_w32) (ix2 r l) = 1) ↔ l.val < 64 := by
  have e : k0_pay17 (iota .tc S256x128 32 [1] iota_S256x128_d1_w32) (ix2 r l)
      = IntOp.cmpi .slt (BitVec.ofNat 32 l.val) 64#32 := by
    pointwise [k0_pay17]
  rw [e]
  exact (by decide +kernel : ∀ l : Fin 128, IntOp.cmpi .slt (BitVec.ofNat 32 l.val) 64#32 = 1 ↔ l.val < 64) l

theorem both_apply (r : Fin 256) (l : Fin 128) :
    (andi (k0_pay15 k0_pay13 k0_pay14) (k0_pay17 (iota .tc S256x128 32 [1] iota_S256x128_d1_w32)) (ix2 r l) = 1)
      ↔ l.val % 64 < 8 ∧ l.val < 64 := by
  rw [← mask_apply r l, ← half_apply r l]
  exact (by decide +kernel : ∀ a b : BitVec 1, IntOp.andi a b = 1 ↔ a = 1 ∧ b = 1) _ _

theorem tile_head (x c s : FVec Ideal S256x128 .f32) (k : IVec S256x128 1) (C S : Fin 8 → EReal) (r : Fin 256) (l : Fin 128)
    (hc : c (ix2 r l) = cosHead C l) (hs : s (ix2 r l) = sinHead S l) (hk : k (ix2 r l) = 1 ↔ l.val % 64 < 8) :
    tile x c s k (ix2 r l) = turned 128 (fun l => x (ix2 r l)) C S l := by
  have hl := l.isLt
  rw [tile_apply, hc, hs]
  unfold cosHead sinHead turned
  by_cases h1 : l.val % 64 < 8
  · have e : (⟨(l.val + 8) % 128, by omega⟩ : Fin 128) = ⟨l.val + 8, by omega⟩ := Fin.ext (by show (l.val + 8) % 128 = l.val + 8; omega)
    rw [if_pos (hk.2 h1), if_pos h1, dif_pos ⟨h1, by omega⟩, if_pos (by omega), e]
    rw [sub_eq_add_neg, mul_neg]
  · rw [if_neg (fun h => h1 (hk.1 h)), if_neg h1, dif_neg (fun h => h1 h.1)]
    by_cases h2 : l.val % 64 < 16
    · have e : (⟨(l.val + 120) % 128, by omega⟩ : Fin 128) = ⟨l.val - 8, by omega⟩ := Fin.ext (by show (l.val + 120) % 128 = l.val - 8; omega)
      rw [if_pos h2, if_pos h2, if_pos h2, e]
    · rw [if_neg h2, if_neg h2, if_neg h2, mul_one, mul_zero, add_zero]

/-- The tile whose upper half of the lanes stays. -/
theorem tile_half (x c s : FVec Ideal S256x128 .f32) (k : IVec S256x128 1) (C S : Fin 8 → EReal) (r : Fin 256) (l : Fin 128)
    (hc : c (ix2 r l) = if l.val < 64 then cosHead C l else 1) (hs : s (ix2 r l) = if l.val < 64 then sinHead S l else 0)
    (hk : k (ix2 r l) = 1 ↔ l.val % 64 < 8 ∧ l.val < 64) :
    tile x c s k (ix2 r l) = if l.val < 64 then turned 128 (fun l => x (ix2 r l)) C S l else x (ix2 r l) := by
  by_cases h : l.val < 64
  · rw [if_pos h] at hc hs ⊢
    exact tile_head x c s k C S r l hc hs (hk.trans (and_iff_left h))
  · rw [if_neg h] at hc hs ⊢
    rw [tile_apply, hc, hs, mul_one, mul_zero, add_zero]

variable (z : FVec Ideal S256x3200 .f32) (c s : FVec Ideal S256x128 .f32) (C S : Fin 8 → EReal)

/-- A slice of 128 lanes. -/
theorem slice_apply (o : Nat) (ho : o + 128 ≤ 3200) (h : S256x3200.Slices ![0, o] S256x128) (r : Fin 256) (l : Fin 128) :
    extractStridedSlice S256x128 ![0, o] z h (ix2 r l) = z (ix2 r ⟨o + l.val, by omega⟩) := by
  pointwise

/-- The whole projection's block. -/
theorem pay4_apply (x : Vec Ideal S256x1024 .f32) (g : Vec Ideal S1x1024 .f32) (w : Vec Ideal S1024x3200 .bf16)
    (r : Fin 256) (j : Fin 3200) :
    k0_pay4 (F := Ideal) x g w (ix2 r j) = ∑ k : Fin 1024, rms (fun k => x (ix2 r k)) (fun k => g (ix2 0 k)) k * w (ix2 k j) := by
  pointwise [k0_pay4, rms]

theorem pay5_apply (a : Vec Ideal S256x256 .bf16) (b : Vec Ideal S256x768 .bf16) (r : Fin 256) (j : Fin 768) :
    k0_pay5 (F := Ideal) a b (ix2 r j) = ∑ k : Fin 256, a (ix2 r k) * b (ix2 k j) := by
  pointwise [k0_pay5]

theorem pay3_apply (r : Fin 256) (j : Fin 768) :
    k0_pay3 (F := Ideal) z (ix2 r j) = z (ix2 r ⟨2304 + j.val, by omega⟩) := by
  pointwise [k0_pay3]

theorem pay18_apply (r : Fin 256) (l : Fin 128) :
    k0_pay18 (F := Ideal) (iota .tc S256x128 32 [1] iota_S256x128_d1_w32) c (ix2 r l) = if l.val < 64 then c (ix2 r l) else 1 := by
  have e : k0_pay18 (F := Ideal) (iota .tc S256x128 32 [1] iota_S256x128_d1_w32) c (ix2 r l)
      = if k0_pay17 (iota .tc S256x128 32 [1] iota_S256x128_d1_w32) (ix2 r l) = 1 then c (ix2 r l) else 1 := by
    pointwise [k0_pay18]
    rfl
  rw [e]
  exact if_congr (half_apply r l) rfl rfl

theorem pay19_apply (r : Fin 256) (l : Fin 128) :
    k0_pay19 (F := Ideal) (iota .tc S256x128 32 [1] iota_S256x128_d1_w32) s (ix2 r l) = if l.val < 64 then s (ix2 r l) else 0 := by
  have e : k0_pay19 (F := Ideal) (iota .tc S256x128 32 [1] iota_S256x128_d1_w32) s (ix2 r l)
      = if k0_pay17 (iota .tc S256x128 32 [1] iota_S256x128_d1_w32) (ix2 r l) = 1 then s (ix2 r l) else 0 := by
    pointwise [k0_pay19]
    rfl
  rw [e]
  exact if_congr (half_apply r l) rfl rfl

/-- A stored tile all of whose heads turn. -/
theorem head_stored (o : Nat) (ho : o + 128 ≤ 3200) (h : S256x3200.Slices ![0, o] S256x128) (r : Fin 256) (l : Fin 128)
    (ec : ∀ l, c (ix2 r l) = cosHead C l) (es : ∀ l, s (ix2 r l) = sinHead S l) :
    tile (extractStridedSlice S256x128 ![0, o] z h) c s (k0_pay15 k0_pay13 k0_pay14) (ix2 r l)
      = turned 128 (fun l => z (ix2 r ⟨o + l.val, by omega⟩)) C S l := by
  rw [tile_head _ c s _ C S r l (ec l) (es l) (mask_apply r l)]
  exact congrArg (fun f => turned 128 f C S l) (funext fun l => slice_apply z o ho h r l)

/-- A stored tile whose lower head turns. -/
theorem half_stored (o : Nat) (ho : o + 128 ≤ 3200) (h : S256x3200.Slices ![0, o] S256x128) (r : Fin 256) (l : Fin 128)
    (ec : ∀ l, c (ix2 r l) = cosHead C l) (es : ∀ l, s (ix2 r l) = sinHead S l) :
    tile (extractStridedSlice S256x128 ![0, o] z h) (k0_pay18 (iota .tc S256x128 32 [1] iota_S256x128_d1_w32) c)
        (k0_pay19 (iota .tc S256x128 32 [1] iota_S256x128_d1_w32) s)
        (andi (k0_pay15 k0_pay13 k0_pay14) (k0_pay17 (iota .tc S256x128 32 [1] iota_S256x128_d1_w32))) (ix2 r l)
      = if l.val < 64 then turned 128 (fun l => z (ix2 r ⟨o + l.val, by omega⟩)) C S l else z (ix2 r ⟨o + l.val, by omega⟩) := by
  rw [tile_half _ _ _ _ C S r l ((pay18_apply c r l).trans (by rw [ec l])) ((pay19_apply s r l).trans (by rw [es l])) (both_apply r l)]
  exact if_congr Iff.rfl (congrArg (fun f => turned 128 f C S l) (funext fun l => slice_apply z o ho h r l)) (slice_apply z o ho h r l)

end Cert.Kernel4Ideal.InPay
-- ==== Proof.InWeights.lean ====
/-
  The input projection's packed weights, as the host operations' values.
-/
module

public import proofs.«01_k».proof.Proof.InPay
public import proofs.«01_k».proof.Proof.Gen.Kernel4Ideal.Value
public import Idealize.ShloMosaic.Lib.StableHlo.ReadAt

@[expose] public section

set_option maxRecDepth 16384

noncomputable section

namespace Cert.Kernel4Ideal.InWeights

open Idealize.ShloMosaic Idealize.SL.Sem
open Cert.Kernel4Ideal Cert.Kernel4Ideal.Gen

variable {F : FTy → Type} [FloatOps F]

def h_v186 (x_arg3 : (⟨S1024x6616, .f32⟩ : BufTy).Contents (Elt F)) : (⟨S1024x2520, .f32⟩ : BufTy).Contents (Elt F) :=
  ((extractStridedSlice S1024x2520 ![0, 0] · slices_S1024x6616_S1024x2520_0_0) : (⟨S1024x6616, .f32⟩ : BufTy).Contents (Elt F) → (⟨S1024x2520, .f32⟩ : BufTy).Contents (Elt F)) x_arg3

def h_v187 (x_arg3 : (⟨S1024x6616, .f32⟩ : BufTy).Contents (Elt F)) : (⟨S1024x384, .f32⟩ : BufTy).Contents (Elt F) :=
  ((extractStridedSlice S1024x384 ![0, 0] · slices_S1024x2520_S1024x384_0_0) : (⟨S1024x2520, .f32⟩ : BufTy).Contents (Elt F) → (⟨S1024x384, .f32⟩ : BufTy).Contents (Elt F)) (h_v186 (F := F) x_arg3)

def h_cst_69 : (⟨S_, .f32⟩ : BufTy).Contents (Elt F) :=
  (constant S_ .f32 0x3F800000#32)

def h_v188 : (⟨S1024x384, .f32⟩ : BufTy).Contents (Elt F) :=
  (broadcastInDim S1024x384 ![] bcast_S_S1024x384 : (⟨S_, .f32⟩ : BufTy).Contents (Elt F) → (⟨S1024x384, .f32⟩ : BufTy).Contents (Elt F)) (h_cst_69 (F := F))

def h_v189 (x_arg3 : (⟨S1024x6616, .f32⟩ : BufTy).Contents (Elt F)) : (⟨S1024x384, .f32⟩ : BufTy).Contents (Elt F) :=
  (mulf : (⟨S1024x384, .f32⟩ : BufTy).Contents (Elt F) → (⟨S1024x384, .f32⟩ : BufTy).Contents (Elt F) → (⟨S1024x384, .f32⟩ : BufTy).Contents (Elt F)) (h_v187 (F := F) x_arg3) (h_v188 (F := F))

def h_cst_70 : (⟨S_, .f32⟩ : BufTy).Contents (Elt F) :=
  (constant S_ .f32 0x00000000#32)

def h_v190 : (⟨S1024x64, .f32⟩ : BufTy).Contents (Elt F) :=
  (broadcastInDim S1024x64 ![] bcast_S_S1024x64 : (⟨S_, .f32⟩ : BufTy).Contents (Elt F) → (⟨S1024x64, .f32⟩ : BufTy).Contents (Elt F)) (h_cst_70 (F := F))

def h_v191 (x_arg3 : (⟨S1024x6616, .f32⟩ : BufTy).Contents (Elt F)) : (⟨S1024x32, .f32⟩ : BufTy).Contents (Elt F) :=
  ((extractStridedSlice S1024x32 ![0, 384] · slices_S1024x2520_S1024x32_0_384) : (⟨S1024x2520, .f32⟩ : BufTy).Contents (Elt F) → (⟨S1024x32, .f32⟩ : BufTy).Contents (Elt F)) (h_v186 (F := F) x_arg3)

def h_cst_71 : (⟨S_, .f32⟩ : BufTy).Contents (Elt F) :=
  (constant S_ .f32 0x3F800000#32)

def h_v192 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_71 (F := F))

def h_v193 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v191 (F := F) x_arg3) (h_v192 (F := F))

def h_cst_72 : (⟨S_, .f32⟩ : BufTy).Contents (Elt F) :=
  (constant S_ .f32 0x00000000#32)

def h_v194 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_72 (F := F))

def h_v195 (x_arg3 : (⟨S1024x6616, .f32⟩ : BufTy).Contents (Elt F)) : (⟨S1024x256, .f32⟩ : BufTy).Contents (Elt F) :=
  ((extractStridedSlice S1024x256 ![0, 416] · slices_S1024x2520_S1024x256_0_416) : (⟨S1024x2520, .f32⟩ : BufTy).Contents (Elt F) → (⟨S1024x256, .f32⟩ : BufTy).Contents (Elt F)) (h_v186 (F := F) x_arg3)

def h_cst_73 : (⟨S_, .f32⟩ : BufTy).Contents (Elt F) :=
  (constant S_ .f32 0x3E38AA3B#32)

def h_v196 : (⟨S1024x256, .f32⟩ : BufTy).Contents (Elt F) :=
  (broadcastInDim S1024x256 ![] bcast_S_S1024x256 : (⟨S_, .f32⟩ : BufTy).Contents (Elt F) → (⟨S1024x256, .f32⟩ : BufTy).Contents (Elt F)) (h_cst_73 (F := F))

def h_v197 (x_arg3 : (⟨S1024x6616, .f32⟩ : BufTy).Contents (Elt F)) : (⟨S1024x256, .f32⟩ : BufTy).Contents (Elt F) :=
  (mulf : (⟨S1024x256, .f32⟩ : BufTy).Contents (Elt F) → (⟨S1024x256, .f32⟩ : BufTy).Contents (Elt F) → (⟨S1024x256, .f32⟩ : BufTy).Contents (Elt F)) (h_v195 (F := F) x_arg3) (h_v196 (F := F))

def h_v198 (x_arg3 : (⟨S1024x6616, .f32⟩ : BufTy).Contents (Elt F)) : (⟨S1024x256, .f32⟩ : BufTy).Contents (Elt F) :=
  ((extractStridedSlice S1024x256 ![0, 1840] · slices_S1024x2520_S1024x256_0_1840) : (⟨S1024x2520, .f32⟩ : BufTy).Contents (Elt F) → (⟨S1024x256, .f32⟩ : BufTy).Contents (Elt F)) (h_v186 (F := F) x_arg3)

def h_cst_74 : (⟨S_, .f32⟩ : BufTy).Contents (Elt F) :=
  (constant S_ .f32 0x3E38AA3B#32)

def h_v199 : (⟨S1024x256, .f32⟩ : BufTy).Contents (Elt F) :=
  (broadcastInDim S1024x256 ![] bcast_S_S1024x256 : (⟨S_, .f32⟩ : BufTy).Contents (Elt F) → (⟨S1024x256, .f32⟩ : BufTy).Contents (Elt F)) (h_cst_74 (F := F))

def h_v200 (x_arg3 : (⟨S1024x6616, .f32⟩ : BufTy).Contents (Elt F)) : (⟨S1024x256, .f32⟩ : BufTy).Contents (Elt F) :=
  (mulf : (⟨S1024x256, .f32⟩ : BufTy).Contents (Elt F) → (⟨S1024x256, .f32⟩ : BufTy).Contents (Elt F) → (⟨S1024x256, .f32⟩ : BufTy).Contents (Elt F)) (h_v198 (F := F) x_arg3) (h_v199 (F := F))

def h_v201 (x_arg3 : (⟨S1024x6616, .f32⟩ : BufTy).Contents (Elt F)) : (⟨S1024x384, .f32⟩ : BufTy).Contents (Elt F) :=
  ((extractStridedSlice S1024x384 ![0, 672] · slices_S1024x2520_S1024x384_0_672) : (⟨S1024x2520, .f32⟩ : BufTy).Contents (Elt F) → (⟨S1024x384, .f32⟩ : BufTy).Contents (Elt F)) (h_v186 (F := F) x_arg3)

def h_cst_75 : (⟨S_, .f32⟩ : BufTy).Contents (Elt F) :=
  (constant S_ .f32 0x3F800000#32)

def h_v202 : (⟨S1024x384, .f32⟩ : BufTy).Contents (Elt F) :=
  (broadcastInDim S1024x384 ![] bcast_S_S1024x384 : (⟨S_, .f32⟩ : BufTy).Contents (Elt F) → (⟨S1024x384, .f32⟩ : BufTy).Contents (Elt F)) (h_cst_75 (F := F))

def h_v203 (x_arg3 : (⟨S1024x6616, .f32⟩ : BufTy).Contents (Elt F)) : (⟨S1024x384, .f32⟩ : BufTy).Contents (Elt F) :=
  (mulf : (⟨S1024x384, .f32⟩ : BufTy).Contents (Elt F) → (⟨S1024x384, .f32⟩ : BufTy).Contents (Elt F) → (⟨S1024x384, .f32⟩ : BufTy).Contents (Elt F)) (h_v201 (F := F) x_arg3) (h_v202 (F := F))

def h_v204 (x_arg3 : (⟨S1024x6616, .f32⟩ : BufTy).Contents (Elt F)) : (⟨S1024x128, .f32⟩ : BufTy).Contents (Elt F) :=
  ((extractStridedSlice S1024x128 ![0, 2096] · slices_S1024x2520_S1024x128_0_2096) : (⟨S1024x2520, .f32⟩ : BufTy).Contents (Elt F) → (⟨S1024x128, .f32⟩ : BufTy).Contents (Elt F)) (h_v186 (F := F) x_arg3)

def h_cst_76 : (⟨S_, .f32⟩ : BufTy).Contents (Elt F) :=
  (constant S_ .f32 0x3F800000#32)

def h_v205 : (⟨S1024x128, .f32⟩ : BufTy).Contents (Elt F) :=
  (broadcastInDim S1024x128 ![] bcast_S_S1024x128 : (⟨S_, .f32⟩ : BufTy).Contents (Elt F) → (⟨S1024x128, .f32⟩ : BufTy).Contents (Elt F)) (h_cst_76 (F := F))

def h_v206 (x_arg3 : (⟨S1024x6616, .f32⟩ : BufTy).Contents (Elt F)) : (⟨S1024x128, .f32⟩ : BufTy).Contents (Elt F) :=
  (mulf : (⟨S1024x128, .f32⟩ : BufTy).Contents (Elt F) → (⟨S1024x128, .f32⟩ : BufTy).Contents (Elt F) → (⟨S1024x128, .f32⟩ : BufTy).Contents (Elt F)) (h_v204 (F := F) x_arg3) (h_v205 (F := F))

def h_v207 (x_arg3 : (⟨S1024x6616, .f32⟩ : BufTy).Contents (Elt F)) : (⟨S1024x256, .f32⟩ : BufTy).Contents (Elt F) :=
  ((extractStridedSlice S1024x256 ![0, 2224] · slices_S1024x2520_S1024x256_0_2224) : (⟨S1024x2520, .f32⟩ : BufTy).Contents (Elt F) → (⟨S1024x256, .f32⟩ : BufTy).Contents (Elt F)) (h_v186 (F := F) x_arg3)

def h_cst_77 : (⟨S_, .f32⟩ : BufTy).Contents (Elt F) :=
  (constant S_ .f32 0x3D800000#32)

def h_v208 : (⟨S1024x256, .f32⟩ : BufTy).Contents (Elt F) :=
  (broadcastInDim S1024x256 ![] bcast_S_S1024x256 : (⟨S_, .f32⟩ : BufTy).Contents (Elt F) → (⟨S1024x256, .f32⟩ : BufTy).Contents (Elt F)) (h_cst_77 (F := F))

def h_v209 (x_arg3 : (⟨S1024x6616, .f32⟩ : BufTy).Contents (Elt F)) : (⟨S1024x256, .f32⟩ : BufTy).Contents (Elt F) :=
  (mulf : (⟨S1024x256, .f32⟩ : BufTy).Contents (Elt F) → (⟨S1024x256, .f32⟩ : BufTy).Contents (Elt F) → (⟨S1024x256, .f32⟩ : BufTy).Contents (Elt F)) (h_v207 (F := F) x_arg3) (h_v208 (F := F))

def h_v210 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_78 : (⟨S_, .f32⟩ : BufTy).Contents (Elt F) :=
  (constant S_ .f32 0x3F800000#32)

def h_v211 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_78 (F := F))

def h_v212 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v210 (F := F) x_arg3) (h_v211 (F := F))

def h_v213 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_79 : (⟨S_, .f32⟩ : BufTy).Contents (Elt F) :=
  (constant S_ .f32 0x3F800000#32)

def h_v214 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_79 (F := F))

def h_v215 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v213 (F := F) x_arg3) (h_v214 (F := F))

def h_v216 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_80 : (⟨S_, .f32⟩ : BufTy).Contents (Elt F) :=
  (constant S_ .f32 0x3F800000#32)

def h_v217 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_80 (F := F))

def h_v218 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v216 (F := F) x_arg3) (h_v217 (F := F))

def h_v219 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_81 : (⟨S_, .f32⟩ : BufTy).Contents (Elt F) :=
  (constant S_ .f32 0x3F800000#32)

def h_v220 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_81 (F := F))

def h_v221 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v219 (F := F) x_arg3) (h_v220 (F := F))

def h_v222 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_82 : (⟨S_, .f32⟩ : BufTy).Contents (Elt F) :=
  (constant S_ .f32 0x3F800000#32)

def h_v223 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_82 (F := F))

def h_v224 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v222 (F := F) x_arg3) (h_v223 (F := F))

def h_v225 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_83 : (⟨S_, .f32⟩ : BufTy).Contents (Elt F) :=
  (constant S_ .f32 0x3F800000#32)

def h_v226 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_83 (F := F))

def h_v227 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v225 (F := F) x_arg3) (h_v226 (F := F))

def h_v228 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_84 : (⟨S_, .f32⟩ : BufTy).Contents (Elt F) :=
  (constant S_ .f32 0x3F800000#32)

def h_v229 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_84 (F := F))

def h_v230 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v228 (F := F) x_arg3) (h_v229 (F := F))

def h_v249 (x_arg3 : (⟨S1024x6616, .f32⟩ : BufTy).Contents (Elt F)) : (⟨S1024x2016, .f32⟩ : BufTy).Contents (Elt F) :=
  (concatenate S1024x2016 1 [⟨S1024x384, ((h_v189 (F := F) x_arg3) : (⟨S1024x384, .f32⟩ : BufTy).Contents (Elt F))⟩, ⟨S1024x64, ((h_v190 (F := F)) : (⟨S1024x64, .f32⟩ : BufTy).Contents (Elt F))⟩, ⟨S1024x32, ((h_v193 (F := F) x_arg3) : (⟨S1024x32, .f32⟩ : BufTy).Contents (Elt F))⟩, ⟨S1024x32, ((h_v194 (F := F)) : (⟨S1024x32, .f32⟩ : BufTy).Contents (Elt F))⟩, ⟨S1024x256, ((h_v197 (F := F) x_arg3) : (⟨S1024x256, .f32⟩ : BufTy).Contents (Elt F))⟩, ⟨S1024x256, ((h_v200 (F := F) x_arg3) : (⟨S1024x256, .f32⟩ : BufTy).Contents (Elt F))⟩, ⟨S1024x384, ((h_v203 (F := F) x_arg3) : (⟨S1024x384, .f32⟩ : BufTy).Contents (Elt F))⟩, ⟨S1024x128, ((h_v206 (F := F) x_arg3) : (⟨S1024x128, .f32⟩ : BufTy).Contents (Elt F))⟩, ⟨S1024x256, ((h_v209 (F := F) x_arg3) : (⟨S1024x256, .f32⟩ : BufTy).Contents (Elt F))⟩, ⟨S1024x32, ((h_v212 (F := F) x_arg3) : (⟨S1024x32, .f32⟩ : BufTy).Contents (Elt F))⟩, ⟨S1024x32, ((h_v215 (F := F) x_arg3) : (⟨S1024x32, .f32⟩ : BufTy).Contents (Elt F))⟩, ⟨S1024x32, ((h_v218 (F := F) x_arg3) : (⟨S1024x32, .f32⟩ : BufTy).Contents (Elt F))⟩, ⟨S1024x32, ((h_v221 (F := F) x_arg3) : (⟨S1024x32, .f32⟩ : BufTy).Contents (Elt F))⟩, ⟨S1024x32, ((h_v224 (F := F) x_arg3) : (⟨S1024x32, .f32⟩ : BufTy).Contents (Elt F))⟩, ⟨S1024x32, ((h_v227 (F := F) x_arg3) : (⟨S1024x32, .f32⟩ : BufTy).Contents (Elt F))⟩, ⟨S1024x32, ((h_v230 (F := F) x_arg3) : (⟨S1024x32, .f32⟩ : BufTy).Contents (Elt F))⟩] concatenates_S1024x384_S1024x64_S1024x32_S1024x32_S1024x256_S1024x256_S1024x384_S1024x128_S1024x256_S1024x32_S1024x32_S1024x32_S1024x32_S1024x32_S1024x32_S1024x32_S1024x2016_d1 : (⟨S1024x2016, .f32⟩ : BufTy).Contents (Elt F))

def h_v231 (x_arg3 : (⟨S1024x6616, .f32⟩ : BufTy).Contents (Elt F)) : (⟨S1024x32, .f32⟩ : BufTy).Contents (Elt F) :=
  ((extractStridedSlice S1024x32 ![0, 2480] · slices_S1024x2520_S1024x32_0_2480) : (⟨S1024x2520, .f32⟩ : BufTy).Contents (Elt F) → (⟨S1024x32, .f32⟩ : BufTy).Contents (Elt F)) (h_v186 (F := F) x_arg3)

def h_cst_85 : (⟨S_, .f32⟩ : BufTy).Contents (Elt F) :=
  (constant S_ .f32 0x3F800000#32)

def h_v232 : (⟨S1024x32, .f32⟩ : BufTy).Contents (Elt F) :=
  (broadcastInDim S1024x32 ![] bcast_S_S1024x32 : (⟨S_, .f32⟩ : BufTy).Contents (Elt F) → (⟨S1024x32, .f32⟩ : BufTy).Contents (Elt F)) (h_cst_85 (F := F))

def h_v233 (x_arg3 : (⟨S1024x6616, .f32⟩ : BufTy).Contents (Elt F)) : (⟨S1024x32, .f32⟩ : BufTy).Contents (Elt F) :=
  (mulf : (⟨S1024x32, .f32⟩ : BufTy).Contents (Elt F) → (⟨S1024x32, .f32⟩ : BufTy).Contents (Elt F) → (⟨S1024x32, .f32⟩ : BufTy).Contents (Elt F)) (h_v231 (F := F) x_arg3) (h_v232 (F := F))

def h_v234 (x_arg3 : (⟨S1024x6616, .f32⟩ : BufTy).Contents (Elt F)) : (⟨S1024x12, .f32⟩ : BufTy).Contents (Elt F) :=
  ((extractStridedSlice S1024x12 ![0, 1056] · slices_S1024x2520_S1024x12_0_1056) : (⟨S1024x2520, .f32⟩ : BufTy).Contents (Elt F) → (⟨S1024x12, .f32⟩ : BufTy).Contents (Elt F)) (h_v186 (F := F) x_arg3)

def h_cst_86 : (⟨S_, .f32⟩ : BufTy).Contents (Elt F) :=
  (constant S_ .f32 0x3F800000#32)

def h_v235 : (⟨S1024x12, .f32⟩ : BufTy).Contents (Elt F) :=
  (broadcastInDim S1024x12 ![] bcast_S_S1024x12 : (⟨S_, .f32⟩ : BufTy).Contents (Elt F) → (⟨S1024x12, .f32⟩ : BufTy).Contents (Elt F)) (h_cst_86 (F := F))

def h_v236 (x_arg3 : (⟨S1024x6616, .f32⟩ : BufTy).Contents (Elt F)) : (⟨S1024x12, .f32⟩ : BufTy).Contents (Elt F) :=
  (mulf : (⟨S1024x12, .f32⟩ : BufTy).Contents (Elt F) → (⟨S1024x12, .f32⟩ : BufTy).Contents (Elt F) → (⟨S1024x12, .f32⟩ : BufTy).Contents (Elt F)) (h_v234 (F := F) x_arg3) (h_v235 (F := F))

def h_cst_87 : (⟨S_, .f32⟩ : BufTy).Contents (Elt F) :=
  (constant S_ .f32 0x00000000#32)

def h_v237 : (⟨S1024x116, .f32⟩ : BufTy).Contents (Elt F) :=
  (broadcastInDim S1024x116 ![] bcast_S_S1024x116 : (⟨S_, .f32⟩ : BufTy).Contents (Elt F) → (⟨S1024x116, .f32⟩ : BufTy).Contents (Elt F)) (h_cst_87 (F := F))

def h_v238 (x_arg3 : (⟨S1024x6616, .f32⟩ : BufTy).Contents (Elt F)) : (⟨S1024x8, .f32⟩ : BufTy).Contents (Elt F) :=
  ((extractStridedSlice S1024x8 ![0, 2512] · slices_S1024x2520_S1024x8_0_2512) : (⟨S1024x2520, .f32⟩ : BufTy).Contents (Elt F) → (⟨S1024x8, .f32⟩ : BufTy).Contents (Elt F)) (h_v186 (F := F) x_arg3)

def h_cst_88 : (⟨S_, .f32⟩ : BufTy).Contents (Elt F) :=
  (constant S_ .f32 0x3F800000#32)

def h_v239 : (⟨S1024x8, .f32⟩ : BufTy).Contents (Elt F) :=
  (broadcastInDim S1024x8 ![] bcast_S_S1024x8 : (⟨S_, .f32⟩ : BufTy).Contents (Elt F) → (⟨S1024x8, .f32⟩ : BufTy).Contents (Elt F)) (h_cst_88 (F := F))

def h_v240 (x_arg3 : (⟨S1024x6616, .f32⟩ : BufTy).Contents (Elt F)) : (⟨S1024x8, .f32⟩ : BufTy).Contents (Elt F) :=
  (mulf : (⟨S1024x8, .f32⟩ : BufTy).Contents (Elt F) → (⟨S1024x8, .f32⟩ : BufTy).Contents (Elt F) → (⟨S1024x8, .f32⟩ : BufTy).Contents (Elt F)) (h_v238 (F := F) x_arg3) (h_v239 (F := F))

def h_cst_89 : (⟨S_, .f32⟩ : BufTy).Contents (Elt F) :=
  (constant S_ .f32 0x00000000#32)

def h_v241 : (⟨S1024x120, .f32⟩ : BufTy).Contents (Elt F) :=
  (broadcastInDim S1024x120 ![] bcast_S_S1024x120 : (⟨S_, .f32⟩ : BufTy).Contents (Elt F) → (⟨S1024x120, .f32⟩ : BufTy).Contents (Elt F)) (h_cst_89 (F := F))

def h_v242 (x_arg3 : (⟨S1024x6616, .f32⟩ : BufTy).Contents (Elt F)) : (⟨S1024x256, .f32⟩ : BufTy).Contents (Elt F) :=
  ((extractStridedSlice S1024x256 ![0, 1068] · slices_S1024x2520_S1024x256_0_1068) : (⟨S1024x2520, .f32⟩ : BufTy).Contents (Elt F) → (⟨S1024x256, .f32⟩ : BufTy).Contents (Elt F)) (h_v186 (F := F) x_arg3)

def h_cst_90 : (⟨S_, .f32⟩ : BufTy).Contents (Elt F) :=
  (constant S_ .f32 0x3E38AA3B#32)

def h_v243 : (⟨S1024x256, .f32⟩ : BufTy).Contents (Elt F) :=
  (broadcastInDim S1024x256 ![] bcast_S_S1024x256 : (⟨S_, .f32⟩ : BufTy).Contents (Elt F) → (⟨S1024x256, .f32⟩ : BufTy).Contents (Elt F)) (h_cst_90 (F := F))

def h_v244 (x_arg3 : (⟨S1024x6616, .f32⟩ : BufTy).Contents (Elt F)) : (⟨S1024x256, .f32⟩ : BufTy).Contents (Elt F) :=
  (mulf : (⟨S1024x256, .f32⟩ : BufTy).Contents (Elt F) → (⟨S1024x256, .f32⟩ : BufTy).Contents (Elt F) → (⟨S1024x256, .f32⟩ : BufTy).Contents (Elt F)) (h_v242 (F := F) x_arg3) (h_v243 (F := F))

def h_v245 (x_arg3 : (⟨S1024x6616, .f32⟩ : BufTy).Contents (Elt F)) : (⟨S1024x516, .f32⟩ : BufTy).Contents (Elt F) :=
  ((extractStridedSlice S1024x516 ![0, 1324] · slices_S1024x2520_S1024x516_0_1324) : (⟨S1024x2520, .f32⟩ : BufTy).Contents (Elt F) → (⟨S1024x516, .f32⟩ : BufTy).Contents (Elt F)) (h_v186 (F := F) x_arg3)

def h_cst_91 : (⟨S_, .f32⟩ : BufTy).Contents (Elt F) :=
  (constant S_ .f32 0x3F800000#32)

def h_v246 : (⟨S1024x516, .f32⟩ : BufTy).Contents (Elt F) :=
  (broadcastInDim S1024x516 ![] bcast_S_S1024x516 : (⟨S_, .f32⟩ : BufTy).Contents (Elt F) → (⟨S1024x516, .f32⟩ : BufTy).Contents (Elt F)) (h_cst_91 (F := F))

def h_v247 (x_arg3 : (⟨S1024x6616, .f32⟩ : BufTy).Contents (Elt F)) : (⟨S1024x516, .f32⟩ : BufTy).Contents (Elt F) :=
  (mulf : (⟨S1024x516, .f32⟩ : BufTy).Contents (Elt F) → (⟨S1024x516, .f32⟩ : BufTy).Contents (Elt F) → (⟨S1024x516, .f32⟩ : BufTy).Contents (Elt F)) (h_v245 (F := F) x_arg3) (h_v246 (F := F))

def h_cst_92 : (⟨S_, .f32⟩ : BufTy).Contents (Elt F) :=
  (constant S_ .f32 0x00000000#32)

def h_v248 : (⟨S1024x124, .f32⟩ : BufTy).Contents (Elt F) :=
  (broadcastInDim S1024x124 ![] bcast_S_S1024x124 : (⟨S_, .f32⟩ : BufTy).Contents (Elt F) → (⟨S1024x124, .f32⟩ : BufTy).Contents (Elt F)) (h_cst_92 (F := F))

def h_v250 (x_arg3 : (⟨S1024x6616, .f32⟩ : BufTy).Contents (Elt F)) : (⟨S1024x1184, .f32⟩ : BufTy).Contents (Elt F) :=
  (concatenate S1024x1184 1 [⟨S1024x32, ((h_v233 (F := F) x_arg3) : (⟨S1024x32, .f32⟩ : BufTy).Contents (Elt F))⟩, ⟨S1024x12, ((h_v236 (F := F) x_arg3) : (⟨S1024x12, .f32⟩ : BufTy).Contents (Elt F))⟩, ⟨S1024x116, ((h_v237 (F := F)) : (⟨S1024x116, .f32⟩ : BufTy).Contents (Elt F))⟩, ⟨S1024x8, ((h_v240 (F := F) x_arg3) : (⟨S1024x8, .f32⟩ : BufTy).Contents (Elt F))⟩, ⟨S1024x120, ((h_v241 (F := F)) : (⟨S1024x120, .f32⟩ : BufTy).Contents (Elt F))⟩, ⟨S1024x256, ((h_v244 (F := F) x_arg3) : (⟨S1024x256, .f32⟩ : BufTy).Contents (Elt F))⟩, ⟨S1024x516, ((h_v247 (F := F) x_arg3) : (⟨S1024x516, .f32⟩ : BufTy).Contents (Elt F))⟩, ⟨S1024x124, ((h_v248 (F := F)) : (⟨S1024x124, .f32⟩ : BufTy).Contents (Elt F))⟩] concatenates_S1024x32_S1024x12_S1024x116_S1024x8_S1024x120_S1024x256_S1024x516_S1024x124_S1024x1184_d1 : (⟨S1024x1184, .f32⟩ : BufTy).Contents (Elt F))

def h_v251 (x_arg3 : (⟨S1024x6616, .f32⟩ : BufTy).Contents (Elt F)) : (⟨S1024x3200, .f32⟩ : BufTy).Contents (Elt F) :=
  ((fun a b => concatenate S1024x3200 1 [⟨S1024x2016, a⟩, ⟨S1024x1184, b⟩] concatenates_S1024x2016_S1024x1184_S1024x3200_d1) : (⟨S1024x2016, .f32⟩ : BufTy).Contents (Elt F) → (⟨S1024x1184, .f32⟩ : BufTy).Contents (Elt F) → (⟨S1024x3200, .f32⟩ : BufTy).Contents (Elt F)) (h_v249 (F := F) x_arg3) (h_v250 (F := F) x_arg3)

def h_v252 (x_arg3 : (⟨S1024x6616, .f32⟩ : BufTy).Contents (Elt F)) : (⟨S1024x3200, .bf16⟩ : BufTy).Contents (Elt F) :=
  ((truncf .bf16 · bitsLt_bf16_f32) : (⟨S1024x3200, .f32⟩ : BufTy).Contents (Elt F) → (⟨S1024x3200, .bf16⟩ : BufTy).Contents (Elt F)) (h_v251 (F := F) x_arg3)

variable (m : (ℓ : Loc nD τ sig) → Buf (Elt Ideal) ℓ)

theorem V_v252 (c : Dev nD) : V m c main_v252 = h_v252 (F := Ideal) (m ((c.tc : Thread nD τ).loc main_arg3)) := by
  sl_kernel_rfl

theorem w_nq (x : (⟨S1024x6616, .f32⟩ : BufTy).Contents (Elt Ideal)) (k : Fin 1024) (l : Fin 256) (h0 : 512 + l.val < 3200)
    (h1 : 416 + l.val < 6616) :
    h_v252 (F := Ideal) x (ix2 k ⟨512 + l.val, h0⟩) = x (ix2 k ⟨416 + l.val, h1⟩) * Ideal.ofBits FTy.f32 1043900987#32 := by
  have hl := l.isLt
  have e1 : h_v251 (F := Ideal) x (ix2 k ⟨512 + l.val, h0⟩) = h_v249 (F := Ideal) x (ix2 k ⟨512 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨512 + l.val, by omega⟩) = h_v197 (F := Ideal) x (ix2 k ⟨0 + l.val, by omega⟩) := by
    unfold h_v249
    exact concatenate_apply_piece (t := S1024x2016) 1 _ _ _ 4 (by simp) S1024x256 _ rfl rfl 512 rfl _
      (fun b hb => by fin_cases b <;> [rfl; exact absurd rfl hb]) (by show 512 + (0 + l.val) = 512 + l.val; omega)
  refine (show h_v252 (F := Ideal) x (ix2 k ⟨512 + l.val, h0⟩) = h_v251 (F := Ideal) x (ix2 k ⟨512 + l.val, h0⟩) from rfl).trans (e1.trans (e2.trans ?_))
  pointwise [h_v197, h_v195, h_v186, h_v196, h_cst_73]

theorem w_dq (x : (⟨S1024x6616, .f32⟩ : BufTy).Contents (Elt Ideal)) (k : Fin 1024) (l : Fin 256) (h0 : 768 + l.val < 3200)
    (h1 : 1840 + l.val < 6616) :
    h_v252 (F := Ideal) x (ix2 k ⟨768 + l.val, h0⟩) = x (ix2 k ⟨1840 + l.val, h1⟩) * Ideal.ofBits FTy.f32 1043900987#32 := by
  have hl := l.isLt
  have e1 : h_v251 (F := Ideal) x (ix2 k ⟨768 + l.val, h0⟩) = h_v249 (F := Ideal) x (ix2 k ⟨768 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨768 + l.val, by omega⟩) = h_v200 (F := Ideal) x (ix2 k ⟨0 + l.val, by omega⟩) := by
    unfold h_v249
    exact concatenate_apply_piece (t := S1024x2016) 1 _ _ _ 5 (by simp) S1024x256 _ rfl rfl 768 rfl _
      (fun b hb => by fin_cases b <;> [rfl; exact absurd rfl hb]) (by show 768 + (0 + l.val) = 768 + l.val; omega)
  refine (show h_v252 (F := Ideal) x (ix2 k ⟨768 + l.val, h0⟩) = h_v251 (F := Ideal) x (ix2 k ⟨768 + l.val, h0⟩) from rfl).trans (e1.trans (e2.trans ?_))
  pointwise [h_v200, h_v198, h_v186, h_v199, h_cst_74]

theorem w_c (x : (⟨S1024x6616, .f32⟩ : BufTy).Contents (Elt Ideal)) (k : Fin 1024) (l : Fin 384) (h0 : 1024 + l.val < 3200)
    (h1 : 672 + l.val < 6616) :
    h_v252 (F := Ideal) x (ix2 k ⟨1024 + l.val, h0⟩) = x (ix2 k ⟨672 + l.val, h1⟩) * Ideal.ofBits FTy.f32 1065353216#32 := by
  have hl := l.isLt
  have e1 : h_v251 (F := Ideal) x (ix2 k ⟨1024 + l.val, h0⟩) = h_v249 (F := Ideal) x (ix2 k ⟨1024 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1024 + l.val, by omega⟩) = h_v203 (F := Ideal) x (ix2 k ⟨0 + l.val, by omega⟩) := by
    unfold h_v249
    exact concatenate_apply_piece (t := S1024x2016) 1 _ _ _ 6 (by simp) S1024x384 _ rfl rfl 1024 rfl _
      (fun b hb => by fin_cases b <;> [rfl; exact absurd rfl hb]) (by show 1024 + (0 + l.val) = 1024 + l.val; omega)
  refine (show h_v252 (F := Ideal) x (ix2 k ⟨1024 + l.val, h0⟩) = h_v251 (F := Ideal) x (ix2 k ⟨1024 + l.val, h0⟩) from rfl).trans (e1.trans (e2.trans ?_))
  pointwise [h_v203, h_v201, h_v186, h_v202, h_cst_75]

theorem w_dk (x : (⟨S1024x6616, .f32⟩ : BufTy).Contents (Elt Ideal)) (k : Fin 1024) (l : Fin 128) (h0 : 1408 + l.val < 3200)
    (h1 : 2096 + l.val < 6616) :
    h_v252 (F := Ideal) x (ix2 k ⟨1408 + l.val, h0⟩) = x (ix2 k ⟨2096 + l.val, h1⟩) * Ideal.ofBits FTy.f32 1065353216#32 := by
  have hl := l.isLt
  have e1 : h_v251 (F := Ideal) x (ix2 k ⟨1408 + l.val, h0⟩) = h_v249 (F := Ideal) x (ix2 k ⟨1408 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1408 + l.val, by omega⟩) = h_v206 (F := Ideal) x (ix2 k ⟨0 + l.val, by omega⟩) := by
    unfold h_v249
    exact concatenate_apply_piece (t := S1024x2016) 1 _ _ _ 7 (by simp) S1024x128 _ rfl rfl 1408 rfl _
      (fun b hb => by fin_cases b <;> [rfl; exact absurd rfl hb]) (by show 1408 + (0 + l.val) = 1408 + l.val; omega)
  refine (show h_v252 (F := Ideal) x (ix2 k ⟨1408 + l.val, h0⟩) = h_v251 (F := Ideal) x (ix2 k ⟨1408 + l.val, h0⟩) from rfl).trans (e1.trans (e2.trans ?_))
  pointwise [h_v206, h_v204, h_v186, h_v205, h_cst_76]

theorem w_fq (x : (⟨S1024x6616, .f32⟩ : BufTy).Contents (Elt Ideal)) (k : Fin 1024) (l : Fin 256) (h0 : 2304 + l.val < 3200)
    (h1 : 1068 + l.val < 6616) :
    h_v252 (F := Ideal) x (ix2 k ⟨2304 + l.val, h0⟩) = x (ix2 k ⟨1068 + l.val, h1⟩) * Ideal.ofBits FTy.f32 1043900987#32 := by
  have hl := l.isLt
  have e1 : h_v251 (F := Ideal) x (ix2 k ⟨2304 + l.val, h0⟩) = h_v250 (F := Ideal) x (ix2 k ⟨288 + l.val, by omega⟩) := by
    unfold h_v251
    exact concatenate_apply_piece (t := S1024x3200) 1 _ _ _ 1 (by simp) S1024x1184 _ rfl rfl 2016 rfl _
      (fun b hb => by fin_cases b <;> [rfl; exact absurd rfl hb]) (by show 2016 + (288 + l.val) = 2304 + l.val; omega)
  have e2 : h_v250 (F := Ideal) x (ix2 k ⟨288 + l.val, by omega⟩) = h_v244 (F := Ideal) x (ix2 k ⟨0 + l.val, by omega⟩) := by
    unfold h_v250
    exact concatenate_apply_piece (t := S1024x1184) 1 _ _ _ 5 (by simp) S1024x256 _ rfl rfl 288 rfl _
      (fun b hb => by fin_cases b <;> [rfl; exact absurd rfl hb]) (by show 288 + (0 + l.val) = 288 + l.val; omega)
  refine (show h_v252 (F := Ideal) x (ix2 k ⟨2304 + l.val, h0⟩) = h_v251 (F := Ideal) x (ix2 k ⟨2304 + l.val, h0⟩) from rfl).trans (e1.trans (e2.trans ?_))
  pointwise [h_v244, h_v242, h_v186, h_v243, h_cst_90]

theorem w_f (x : (⟨S1024x6616, .f32⟩ : BufTy).Contents (Elt Ideal)) (k : Fin 1024) (l : Fin 512) (h0 : 2560 + l.val < 3200)
    (h1 : 1324 + l.val < 6616) :
    h_v252 (F := Ideal) x (ix2 k ⟨2560 + l.val, h0⟩) = x (ix2 k ⟨1324 + l.val, h1⟩) * Ideal.ofBits FTy.f32 1065353216#32 := by
  have hl := l.isLt
  have e1 : h_v251 (F := Ideal) x (ix2 k ⟨2560 + l.val, h0⟩) = h_v250 (F := Ideal) x (ix2 k ⟨544 + l.val, by omega⟩) := by
    unfold h_v251
    exact concatenate_apply_piece (t := S1024x3200) 1 _ _ _ 1 (by simp) S1024x1184 _ rfl rfl 2016 rfl _
      (fun b hb => by fin_cases b <;> [rfl; exact absurd rfl hb]) (by show 2016 + (544 + l.val) = 2560 + l.val; omega)
  have e2 : h_v250 (F := Ideal) x (ix2 k ⟨544 + l.val, by omega⟩) = h_v247 (F := Ideal) x (ix2 k ⟨0 + l.val, by omega⟩) := by
    unfold h_v250
    exact concatenate_apply_piece (t := S1024x1184) 1 _ _ _ 6 (by simp) S1024x516 _ rfl rfl 544 rfl _
      (fun b hb => by fin_cases b <;> [rfl; exact absurd rfl hb]) (by show 544 + (0 + l.val) = 544 + l.val; omega)
  refine (show h_v252 (F := Ideal) x (ix2 k ⟨2560 + l.val, h0⟩) = h_v251 (F := Ideal) x (ix2 k ⟨2560 + l.val, h0⟩) from rfl).trans (e1.trans (e2.trans ?_))
  pointwise [h_v247, h_v245, h_v186, h_v246, h_cst_91]

end Cert.Kernel4Ideal.InWeights
-- ==== Proof.InHost.lean ====
/-
  The input projection's tables, as the host operations' values.
-/
module

public import proofs.«01_k».proof.Proof.InPay
public import proofs.«01_k».proof.Proof.Gen.Kernel4Ideal.Value
public import Idealize.ShloMosaic.Lib.StableHlo.ReadAt

@[expose] public section

set_option maxRecDepth 16384

noncomputable section

namespace Cert.Kernel4Ideal.InHost

open Idealize.ShloMosaic Idealize.SL.Sem
open Cert.Kernel4Ideal Cert.Kernel4Ideal.Gen

variable {F : FTy → Type} [FloatOps F]

def h_cst_2 : (⟨S_, .f32⟩ : BufTy).Contents (Elt F) :=
  (constant S_ .f32 0x48F42400#32)

def h_v11 : (⟨S16, .f32⟩ : BufTy).Contents (Elt F) :=
  (broadcastInDim S16 ![] bcast_S_S16 : (⟨S_, .f32⟩ : BufTy).Contents (Elt F) → (⟨S16, .f32⟩ : BufTy).Contents (Elt F)) (h_cst_2 (F := F))

def h_cst_0 : (⟨S_, .f32⟩ : BufTy).Contents (Elt F) :=
  (constant S_ .f32 0x00000000#32)

def h_v6 : (⟨S16, .f32⟩ : BufTy).Contents (Elt F) :=
  (broadcastInDim S16 ![] bcast_S_S16 : (⟨S_, .f32⟩ : BufTy).Contents (Elt F) → (⟨S16, .f32⟩ : BufTy).Contents (Elt F)) (h_cst_0 (F := F))

def h_cst : (⟨S_, .f32⟩ : BufTy).Contents (Elt F) :=
  (constant S_ .f32 0x40000000#32)

def h_v4 : (⟨S16, .f32⟩ : BufTy).Contents (Elt F) :=
  (broadcastInDim S16 ![] bcast_S_S16 : (⟨S_, .f32⟩ : BufTy).Contents (Elt F) → (⟨S16, .f32⟩ : BufTy).Contents (Elt F)) (h_cst (F := F))

def h_v3 : (⟨S16, .f32⟩ : BufTy).Contents (Elt F) :=
  (sitofp .f32 (iotaInDim S16 32 0))

def h_v5 : (⟨S16, .f32⟩ : BufTy).Contents (Elt F) :=
  (mulf : (⟨S16, .f32⟩ : BufTy).Contents (Elt F) → (⟨S16, .f32⟩ : BufTy).Contents (Elt F) → (⟨S16, .f32⟩ : BufTy).Contents (Elt F)) (h_v4 (F := F)) (h_v3 (F := F))

def h_v7 : (⟨S16, .f32⟩ : BufTy).Contents (Elt F) :=
  (addf : (⟨S16, .f32⟩ : BufTy).Contents (Elt F) → (⟨S16, .f32⟩ : BufTy).Contents (Elt F) → (⟨S16, .f32⟩ : BufTy).Contents (Elt F)) (h_v6 (F := F)) (h_v5 (F := F))

def h_v8 : (⟨S16, .f32⟩ : BufTy).Contents (Elt F) :=
  (Host.negf : (⟨S16, .f32⟩ : BufTy).Contents (Elt F) → (⟨S16, .f32⟩ : BufTy).Contents (Elt F)) (h_v7 (F := F))

def h_cst_1 : (⟨S_, .f32⟩ : BufTy).Contents (Elt F) :=
  (constant S_ .f32 0x42000000#32)

def h_v9 : (⟨S16, .f32⟩ : BufTy).Contents (Elt F) :=
  (broadcastInDim S16 ![] bcast_S_S16 : (⟨S_, .f32⟩ : BufTy).Contents (Elt F) → (⟨S16, .f32⟩ : BufTy).Contents (Elt F)) (h_cst_1 (F := F))

def h_v10 : (⟨S16, .f32⟩ : BufTy).Contents (Elt F) :=
  (Host.divf : (⟨S16, .f32⟩ : BufTy).Contents (Elt F) → (⟨S16, .f32⟩ : BufTy).Contents (Elt F) → (⟨S16, .f32⟩ : BufTy).Contents (Elt F)) (h_v8 (F := F)) (h_v9 (F := F))

def h_v12 : (⟨S16, .f32⟩ : BufTy).Contents (Elt F) :=
  (Host.powf : (⟨S16, .f32⟩ : BufTy).Contents (Elt F) → (⟨S16, .f32⟩ : BufTy).Contents (Elt F) → (⟨S16, .f32⟩ : BufTy).Contents (Elt F)) (h_v11 (F := F)) (h_v10 (F := F))

def h_cst_6 : (⟨S_, .f32⟩ : BufTy).Contents (Elt F) :=
  (constant S_ .f32 0x48F42400#32)

def h_v21 : (⟨S8, .f32⟩ : BufTy).Contents (Elt F) :=
  (broadcastInDim S8 ![] bcast_S_S8 : (⟨S_, .f32⟩ : BufTy).Contents (Elt F) → (⟨S8, .f32⟩ : BufTy).Contents (Elt F)) (h_cst_6 (F := F))

def h_cst_4 : (⟨S_, .f32⟩ : BufTy).Contents (Elt F) :=
  (constant S_ .f32 0x00000000#32)

def h_v16 : (⟨S8, .f32⟩ : BufTy).Contents (Elt F) :=
  (broadcastInDim S8 ![] bcast_S_S8 : (⟨S_, .f32⟩ : BufTy).Contents (Elt F) → (⟨S8, .f32⟩ : BufTy).Contents (Elt F)) (h_cst_4 (F := F))

def h_cst_3 : (⟨S_, .f32⟩ : BufTy).Contents (Elt F) :=
  (constant S_ .f32 0x40000000#32)

def h_v14 : (⟨S8, .f32⟩ : BufTy).Contents (Elt F) :=
  (broadcastInDim S8 ![] bcast_S_S8 : (⟨S_, .f32⟩ : BufTy).Contents (Elt F) → (⟨S8, .f32⟩ : BufTy).Contents (Elt F)) (h_cst_3 (F := F))

def h_v13 : (⟨S8, .f32⟩ : BufTy).Contents (Elt F) :=
  (sitofp .f32 (iotaInDim S8 32 0))

def h_v15 : (⟨S8, .f32⟩ : BufTy).Contents (Elt F) :=
  (mulf : (⟨S8, .f32⟩ : BufTy).Contents (Elt F) → (⟨S8, .f32⟩ : BufTy).Contents (Elt F) → (⟨S8, .f32⟩ : BufTy).Contents (Elt F)) (h_v14 (F := F)) (h_v13 (F := F))

def h_v17 : (⟨S8, .f32⟩ : BufTy).Contents (Elt F) :=
  (addf : (⟨S8, .f32⟩ : BufTy).Contents (Elt F) → (⟨S8, .f32⟩ : BufTy).Contents (Elt F) → (⟨S8, .f32⟩ : BufTy).Contents (Elt F)) (h_v16 (F := F)) (h_v15 (F := F))

def h_v18 : (⟨S8, .f32⟩ : BufTy).Contents (Elt F) :=
  (Host.negf : (⟨S8, .f32⟩ : BufTy).Contents (Elt F) → (⟨S8, .f32⟩ : BufTy).Contents (Elt F)) (h_v17 (F := F))

def h_cst_5 : (⟨S_, .f32⟩ : BufTy).Contents (Elt F) :=
  (constant S_ .f32 0x41800000#32)

def h_v19 : (⟨S8, .f32⟩ : BufTy).Contents (Elt F) :=
  (broadcastInDim S8 ![] bcast_S_S8 : (⟨S_, .f32⟩ : BufTy).Contents (Elt F) → (⟨S8, .f32⟩ : BufTy).Contents (Elt F)) (h_cst_5 (F := F))

def h_v20 : (⟨S8, .f32⟩ : BufTy).Contents (Elt F) :=
  (Host.divf : (⟨S8, .f32⟩ : BufTy).Contents (Elt F) → (⟨S8, .f32⟩ : BufTy).Contents (Elt F) → (⟨S8, .f32⟩ : BufTy).Contents (Elt F)) (h_v18 (F := F)) (h_v19 (F := F))

def h_v22 : (⟨S8, .f32⟩ : BufTy).Contents (Elt F) :=
  (Host.powf : (⟨S8, .f32⟩ : BufTy).Contents (Elt F) → (⟨S8, .f32⟩ : BufTy).Contents (Elt F) → (⟨S8, .f32⟩ : BufTy).Contents (Elt F)) (h_v21 (F := F)) (h_v20 (F := F))

def h_cst_10 : (⟨S_, .f32⟩ : BufTy).Contents (Elt F) :=
  (constant S_ .f32 0x48F42400#32)

def h_v31 : (⟨S4, .f32⟩ : BufTy).Contents (Elt F) :=
  (broadcastInDim S4 ![] bcast_S_S4 : (⟨S_, .f32⟩ : BufTy).Contents (Elt F) → (⟨S4, .f32⟩ : BufTy).Contents (Elt F)) (h_cst_10 (F := F))

def h_cst_8 : (⟨S_, .f32⟩ : BufTy).Contents (Elt F) :=
  (constant S_ .f32 0x00000000#32)

def h_v26 : (⟨S4, .f32⟩ : BufTy).Contents (Elt F) :=
  (broadcastInDim S4 ![] bcast_S_S4 : (⟨S_, .f32⟩ : BufTy).Contents (Elt F) → (⟨S4, .f32⟩ : BufTy).Contents (Elt F)) (h_cst_8 (F := F))

def h_cst_7 : (⟨S_, .f32⟩ : BufTy).Contents (Elt F) :=
  (constant S_ .f32 0x40000000#32)

def h_v24 : (⟨S4, .f32⟩ : BufTy).Contents (Elt F) :=
  (broadcastInDim S4 ![] bcast_S_S4 : (⟨S_, .f32⟩ : BufTy).Contents (Elt F) → (⟨S4, .f32⟩ : BufTy).Contents (Elt F)) (h_cst_7 (F := F))

def h_v23 : (⟨S4, .f32⟩ : BufTy).Contents (Elt F) :=
  (sitofp .f32 (iotaInDim S4 32 0))

def h_v25 : (⟨S4, .f32⟩ : BufTy).Contents (Elt F) :=
  (mulf : (⟨S4, .f32⟩ : BufTy).Contents (Elt F) → (⟨S4, .f32⟩ : BufTy).Contents (Elt F) → (⟨S4, .f32⟩ : BufTy).Contents (Elt F)) (h_v24 (F := F)) (h_v23 (F := F))

def h_v27 : (⟨S4, .f32⟩ : BufTy).Contents (Elt F) :=
  (addf : (⟨S4, .f32⟩ : BufTy).Contents (Elt F) → (⟨S4, .f32⟩ : BufTy).Contents (Elt F) → (⟨S4, .f32⟩ : BufTy).Contents (Elt F)) (h_v26 (F := F)) (h_v25 (F := F))

def h_v28 : (⟨S4, .f32⟩ : BufTy).Contents (Elt F) :=
  (Host.negf : (⟨S4, .f32⟩ : BufTy).Contents (Elt F) → (⟨S4, .f32⟩ : BufTy).Contents (Elt F)) (h_v27 (F := F))

def h_cst_9 : (⟨S_, .f32⟩ : BufTy).Contents (Elt F) :=
  (constant S_ .f32 0x41000000#32)

def h_v29 : (⟨S4, .f32⟩ : BufTy).Contents (Elt F) :=
  (broadcastInDim S4 ![] bcast_S_S4 : (⟨S_, .f32⟩ : BufTy).Contents (Elt F) → (⟨S4, .f32⟩ : BufTy).Contents (Elt F)) (h_cst_9 (F := F))

def h_v30 : (⟨S4, .f32⟩ : BufTy).Contents (Elt F) :=
  (Host.divf : (⟨S4, .f32⟩ : BufTy).Contents (Elt F) → (⟨S4, .f32⟩ : BufTy).Contents (Elt F) → (⟨S4, .f32⟩ : BufTy).Contents (Elt F)) (h_v28 (F := F)) (h_v29 (F := F))

def h_v32 : (⟨S4, .f32⟩ : BufTy).Contents (Elt F) :=
  (Host.powf : (⟨S4, .f32⟩ : BufTy).Contents (Elt F) → (⟨S4, .f32⟩ : BufTy).Contents (Elt F) → (⟨S4, .f32⟩ : BufTy).Contents (Elt F)) (h_v31 (F := F)) (h_v30 (F := F))

def h_v33 : (⟨S28, .f32⟩ : BufTy).Contents (Elt F) :=
  (concatenate S28 0 [⟨S16, ((h_v12 (F := F)) : (⟨S16, .f32⟩ : BufTy).Contents (Elt F))⟩, ⟨S8, ((h_v22 (F := F)) : (⟨S8, .f32⟩ : BufTy).Contents (Elt F))⟩, ⟨S4, ((h_v32 (F := F)) : (⟨S4, .f32⟩ : BufTy).Contents (Elt F))⟩] concatenates_S16_S8_S4_S28_d0 : (⟨S28, .f32⟩ : BufTy).Contents (Elt F))

def h_v34 : (⟨S28x1, .f32⟩ : BufTy).Contents (Elt F) :=
  (broadcastInDim S28x1 ![0] bcast_S28_S28x1_0 : (⟨S28, .f32⟩ : BufTy).Contents (Elt F) → (⟨S28x1, .f32⟩ : BufTy).Contents (Elt F)) (h_v33 (F := F))

def h_v35 : (⟨S28x16384, .f32⟩ : BufTy).Contents (Elt F) :=
  (broadcastInDim S28x16384 ![0, 1] bcast_S28x1_S28x16384_0_1 : (⟨S28x1, .f32⟩ : BufTy).Contents (Elt F) → (⟨S28x16384, .f32⟩ : BufTy).Contents (Elt F)) (h_v34 (F := F))

def h_v0 (x_arg1 : (⟨S8x2048, .i32⟩ : BufTy).Contents (Elt F)) : (⟨S8x2048, .f32⟩ : BufTy).Contents (Elt F) :=
  (sitofp .f32 : (⟨S8x2048, .i32⟩ : BufTy).Contents (Elt F) → (⟨S8x2048, .f32⟩ : BufTy).Contents (Elt F)) x_arg1

def h_v1 (x_arg1 : (⟨S8x2048, .i32⟩ : BufTy).Contents (Elt F)) : (⟨S16384, .f32⟩ : BufTy).Contents (Elt F) :=
  shapeCast _ (h_v0 (F := F) x_arg1) shapeCasts_S8x2048_S16384

def h_v2 (x_arg1 : (⟨S8x2048, .i32⟩ : BufTy).Contents (Elt F)) : (⟨S1x16384, .f32⟩ : BufTy).Contents (Elt F) :=
  (broadcastInDim S1x16384 ![1] bcast_S16384_S1x16384_1 : (⟨S16384, .f32⟩ : BufTy).Contents (Elt F) → (⟨S1x16384, .f32⟩ : BufTy).Contents (Elt F)) (h_v1 (F := F) x_arg1)

def h_v36 (x_arg1 : (⟨S8x2048, .i32⟩ : BufTy).Contents (Elt F)) : (⟨S28x16384, .f32⟩ : BufTy).Contents (Elt F) :=
  (broadcastInDim S28x16384 ![0, 1] bcast_S1x16384_S28x16384_0_1 : (⟨S1x16384, .f32⟩ : BufTy).Contents (Elt F) → (⟨S28x16384, .f32⟩ : BufTy).Contents (Elt F)) (h_v2 (F := F) x_arg1)

def h_v37 (x_arg1 : (⟨S8x2048, .i32⟩ : BufTy).Contents (Elt F)) : (⟨S28x16384, .f32⟩ : BufTy).Contents (Elt F) :=
  (mulf : (⟨S28x16384, .f32⟩ : BufTy).Contents (Elt F) → (⟨S28x16384, .f32⟩ : BufTy).Contents (Elt F) → (⟨S28x16384, .f32⟩ : BufTy).Contents (Elt F)) (h_v35 (F := F)) (h_v36 (F := F) x_arg1)

def h_v38 (x_arg1 : (⟨S8x2048, .i32⟩ : BufTy).Contents (Elt F)) : (⟨S28x16384, .f32⟩ : BufTy).Contents (Elt F) :=
  (Host.cos : (⟨S28x16384, .f32⟩ : BufTy).Contents (Elt F) → (⟨S28x16384, .f32⟩ : BufTy).Contents (Elt F)) (h_v37 (F := F) x_arg1)

def h_v40 (x_arg1 : (⟨S8x2048, .i32⟩ : BufTy).Contents (Elt F)) : (⟨S16x16384, .f32⟩ : BufTy).Contents (Elt F) :=
  ((extractStridedSlice S16x16384 ![0, 0] · slices_S28x16384_S16x16384_0_0) : (⟨S28x16384, .f32⟩ : BufTy).Contents (Elt F) → (⟨S16x16384, .f32⟩ : BufTy).Contents (Elt F)) (h_v38 (F := F) x_arg1)

def h_v39 (x_arg1 : (⟨S8x2048, .i32⟩ : BufTy).Contents (Elt F)) : (⟨S28x16384, .f32⟩ : BufTy).Contents (Elt F) :=
  (Host.sin : (⟨S28x16384, .f32⟩ : BufTy).Contents (Elt F) → (⟨S28x16384, .f32⟩ : BufTy).Contents (Elt F)) (h_v37 (F := F) x_arg1)

def h_v41 (x_arg1 : (⟨S8x2048, .i32⟩ : BufTy).Contents (Elt F)) : (⟨S16x16384, .f32⟩ : BufTy).Contents (Elt F) :=
  ((extractStridedSlice S16x16384 ![0, 0] · slices_S28x16384_S16x16384_0_0) : (⟨S28x16384, .f32⟩ : BufTy).Contents (Elt F) → (⟨S16x16384, .f32⟩ : BufTy).Contents (Elt F)) (h_v39 (F := F) x_arg1)

def h_v42 (x_arg1 : (⟨S8x2048, .i32⟩ : BufTy).Contents (Elt F)) : (⟨S8x16384, .f32⟩ : BufTy).Contents (Elt F) :=
  ((extractStridedSlice S8x16384 ![16, 0] · slices_S28x16384_S8x16384_16_0) : (⟨S28x16384, .f32⟩ : BufTy).Contents (Elt F) → (⟨S8x16384, .f32⟩ : BufTy).Contents (Elt F)) (h_v38 (F := F) x_arg1)

def h_v43 (x_arg1 : (⟨S8x2048, .i32⟩ : BufTy).Contents (Elt F)) : (⟨S8x16384, .f32⟩ : BufTy).Contents (Elt F) :=
  ((extractStridedSlice S8x16384 ![16, 0] · slices_S28x16384_S8x16384_16_0) : (⟨S28x16384, .f32⟩ : BufTy).Contents (Elt F) → (⟨S8x16384, .f32⟩ : BufTy).Contents (Elt F)) (h_v39 (F := F) x_arg1)

def h_v44 (x_arg1 : (⟨S8x2048, .i32⟩ : BufTy).Contents (Elt F)) : (⟨S4x16384, .f32⟩ : BufTy).Contents (Elt F) :=
  ((extractStridedSlice S4x16384 ![24, 0] · slices_S28x16384_S4x16384_24_0) : (⟨S28x16384, .f32⟩ : BufTy).Contents (Elt F) → (⟨S4x16384, .f32⟩ : BufTy).Contents (Elt F)) (h_v38 (F := F) x_arg1)

def h_v45 (x_arg1 : (⟨S8x2048, .i32⟩ : BufTy).Contents (Elt F)) : (⟨S4x16384, .f32⟩ : BufTy).Contents (Elt F) :=
  ((extractStridedSlice S4x16384 ![24, 0] · slices_S28x16384_S4x16384_24_0) : (⟨S28x16384, .f32⟩ : BufTy).Contents (Elt F) → (⟨S4x16384, .f32⟩ : BufTy).Contents (Elt F)) (h_v39 (F := F) x_arg1)

def h_cst_11 : (⟨S_, .f32⟩ : BufTy).Contents (Elt F) :=
  (constant S_ .f32 0x3F800000#32)

def h_v46 : (⟨S8x16384, .f32⟩ : BufTy).Contents (Elt F) :=
  (broadcastInDim S8x16384 ![] bcast_S_S8x16384 : (⟨S_, .f32⟩ : BufTy).Contents (Elt F) → (⟨S8x16384, .f32⟩ : BufTy).Contents (Elt F)) (h_cst_11 (F := F))

def h_v47 (x_arg1 : (⟨S8x2048, .i32⟩ : BufTy).Contents (Elt F)) : (⟨S64x16384, .f32⟩ : BufTy).Contents (Elt F) :=
  (concatenate S64x16384 0 [⟨S16x16384, ((h_v40 (F := F) x_arg1) : (⟨S16x16384, .f32⟩ : BufTy).Contents (Elt F))⟩, ⟨S16x16384, ((h_v41 (F := F) x_arg1) : (⟨S16x16384, .f32⟩ : BufTy).Contents (Elt F))⟩, ⟨S8x16384, ((h_v42 (F := F) x_arg1) : (⟨S8x16384, .f32⟩ : BufTy).Contents (Elt F))⟩, ⟨S8x16384, ((h_v43 (F := F) x_arg1) : (⟨S8x16384, .f32⟩ : BufTy).Contents (Elt F))⟩, ⟨S4x16384, ((h_v44 (F := F) x_arg1) : (⟨S4x16384, .f32⟩ : BufTy).Contents (Elt F))⟩, ⟨S4x16384, ((h_v45 (F := F) x_arg1) : (⟨S4x16384, .f32⟩ : BufTy).Contents (Elt F))⟩, ⟨S8x16384, ((h_v46 (F := F)) : (⟨S8x16384, .f32⟩ : BufTy).Contents (Elt F))⟩] concatenates_S16x16384_S16x16384_S8x16384_S8x16384_S4x16384_S4x16384_S8x16384_S64x16384_d0 : (⟨S64x16384, .f32⟩ : BufTy).Contents (Elt F))

def h_v48 (x_arg1 : (⟨S8x2048, .i32⟩ : BufTy).Contents (Elt F)) : (⟨S64x16384, .bf16⟩ : BufTy).Contents (Elt F) :=
  ((truncf .bf16 · bitsLt_bf16_f32) : (⟨S64x16384, .f32⟩ : BufTy).Contents (Elt F) → (⟨S64x16384, .bf16⟩ : BufTy).Contents (Elt F)) (h_v47 (F := F) x_arg1)

def h_v49 (x_arg1 : (⟨S8x2048, .i32⟩ : BufTy).Contents (Elt F)) : (⟨S64x16384, .f32⟩ : BufTy).Contents (Elt F) :=
  ((extf .f32 · bitsLt_bf16_f32) : (⟨S64x16384, .bf16⟩ : BufTy).Contents (Elt F) → (⟨S64x16384, .f32⟩ : BufTy).Contents (Elt F)) (h_v48 (F := F) x_arg1)

def h_v50 (x_arg1 : (⟨S8x2048, .i32⟩ : BufTy).Contents (Elt F)) : (⟨S64x16384, .f32⟩ : BufTy).Contents (Elt F) :=
  (subf : (⟨S64x16384, .f32⟩ : BufTy).Contents (Elt F) → (⟨S64x16384, .f32⟩ : BufTy).Contents (Elt F) → (⟨S64x16384, .f32⟩ : BufTy).Contents (Elt F)) (h_v47 (F := F) x_arg1) (h_v49 (F := F) x_arg1)

def h_v51 (x_arg1 : (⟨S8x2048, .i32⟩ : BufTy).Contents (Elt F)) : (⟨S64x16384, .bf16⟩ : BufTy).Contents (Elt F) :=
  ((truncf .bf16 · bitsLt_bf16_f32) : (⟨S64x16384, .f32⟩ : BufTy).Contents (Elt F) → (⟨S64x16384, .bf16⟩ : BufTy).Contents (Elt F)) (h_v50 (F := F) x_arg1)

def h_v52 (x_arg1 : (⟨S8x2048, .i32⟩ : BufTy).Contents (Elt F)) : (⟨S64x16384, .f32⟩ : BufTy).Contents (Elt F) :=
  ((extf .f32 · bitsLt_bf16_f32) : (⟨S64x16384, .bf16⟩ : BufTy).Contents (Elt F) → (⟨S64x16384, .f32⟩ : BufTy).Contents (Elt F)) (h_v51 (F := F) x_arg1)

def h_v53 (x_arg1 : (⟨S8x2048, .i32⟩ : BufTy).Contents (Elt F)) : (⟨S64x16384, .f32⟩ : BufTy).Contents (Elt F) :=
  (subf : (⟨S64x16384, .f32⟩ : BufTy).Contents (Elt F) → (⟨S64x16384, .f32⟩ : BufTy).Contents (Elt F) → (⟨S64x16384, .f32⟩ : BufTy).Contents (Elt F)) (h_v50 (F := F) x_arg1) (h_v52 (F := F) x_arg1)

def h_v54 (x_arg1 : (⟨S8x2048, .i32⟩ : BufTy).Contents (Elt F)) : (⟨S64x16384, .bf16⟩ : BufTy).Contents (Elt F) :=
  ((truncf .bf16 · bitsLt_bf16_f32) : (⟨S64x16384, .f32⟩ : BufTy).Contents (Elt F) → (⟨S64x16384, .bf16⟩ : BufTy).Contents (Elt F)) (h_v53 (F := F) x_arg1)

def h_cst_12 : (⟨S_, .bf16⟩ : BufTy).Contents (Elt F) :=
  (constant S_ .bf16 0x0000#16)

def h_v55 : (⟨S64x16384, .bf16⟩ : BufTy).Contents (Elt F) :=
  (broadcastInDim S64x16384 ![] bcast_S_S64x16384 : (⟨S_, .bf16⟩ : BufTy).Contents (Elt F) → (⟨S64x16384, .bf16⟩ : BufTy).Contents (Elt F)) (h_cst_12 (F := F))

def h_v56 (x_arg1 : (⟨S8x2048, .i32⟩ : BufTy).Contents (Elt F)) : (⟨S256x16384, .bf16⟩ : BufTy).Contents (Elt F) :=
  (concatenate S256x16384 0 [⟨S64x16384, ((h_v48 (F := F) x_arg1) : (⟨S64x16384, .bf16⟩ : BufTy).Contents (Elt F))⟩, ⟨S64x16384, ((h_v51 (F := F) x_arg1) : (⟨S64x16384, .bf16⟩ : BufTy).Contents (Elt F))⟩, ⟨S64x16384, ((h_v54 (F := F) x_arg1) : (⟨S64x16384, .bf16⟩ : BufTy).Contents (Elt F))⟩, ⟨S64x16384, ((h_v55 (F := F)) : (⟨S64x16384, .bf16⟩ : BufTy).Contents (Elt F))⟩] concatenates_S64x16384_S64x16384_S64x16384_S64x16384_S256x16384_d0 : (⟨S256x16384, .bf16⟩ : BufTy).Contents (Elt F))

def h_v57 (x_arg1 : (⟨S8x2048, .i32⟩ : BufTy).Contents (Elt F)) : (⟨S16384x256, .bf16⟩ : BufTy).Contents (Elt F) :=
  ((transpose S16384x256 [1, 0] · transposes_S256x16384_S16384x256_1_0) : (⟨S256x16384, .bf16⟩ : BufTy).Contents (Elt F) → (⟨S16384x256, .bf16⟩ : BufTy).Contents (Elt F)) (h_v56 (F := F) x_arg1)

def h_v58 : (⟨S64x768, .i32⟩ : BufTy).Contents (Elt F) :=
  (iotaInDim S64x768 32 0)

def h_v59 : (⟨S64x768, .i32⟩ : BufTy).Contents (Elt F) :=
  (iotaInDim S64x768 32 1)

def h_c_13 : (⟨S_, .i32⟩ : BufTy).Contents (Elt F) :=
  (constantI S_ 32 7#32)

def h_v62 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_13 (F := F))

def h_v63 : (⟨S64x768, .i32⟩ : BufTy).Contents (Elt F) :=
  (Host.shrsi : (⟨S64x768, .i32⟩ : BufTy).Contents (Elt F) → (⟨S64x768, .i32⟩ : BufTy).Contents (Elt F) → (⟨S64x768, .i32⟩ : BufTy).Contents (Elt F)) (h_v59 (F := F)) (h_v62 (F := F))

def h_c_61 : (⟨S_, .i32⟩ : BufTy).Contents (Elt F) :=
  (constantI S_ 32 5#32)

def h_v167 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_61 (F := F))

def h_v168 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v167 (F := F))

def h_c : (⟨S_, .i32⟩ : BufTy).Contents (Elt F) :=
  (constantI S_ 32 127#32)

def h_v60 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c (F := F))

def h_v61 : (⟨S64x768, .i32⟩ : BufTy).Contents (Elt F) :=
  (andi : (⟨S64x768, .i32⟩ : BufTy).Contents (Elt F) → (⟨S64x768, .i32⟩ : BufTy).Contents (Elt F) → (⟨S64x768, .i32⟩ : BufTy).Contents (Elt F)) (h_v59 (F := F)) (h_v60 (F := F))

def h_c_50 : (⟨S_, .i32⟩ : BufTy).Contents (Elt F) :=
  (constantI S_ 32 31#32)

def h_v142 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_50 (F := F))

def h_v143 : (⟨S64x768, .i32⟩ : BufTy).Contents (Elt F) :=
  (andi : (⟨S64x768, .i32⟩ : BufTy).Contents (Elt F) → (⟨S64x768, .i32⟩ : BufTy).Contents (Elt F) → (⟨S64x768, .i32⟩ : BufTy).Contents (Elt F)) (h_v61 (F := F)) (h_v142 (F := F))

def h_c_51 : (⟨S_, .i32⟩ : BufTy).Contents (Elt F) :=
  (constantI S_ 32 0#32)

def h_v144 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_51 (F := F))

def h_v145 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v143 (F := F)) (h_v144 (F := F))

def h_c_54 : (⟨S_, .i32⟩ : BufTy).Contents (Elt F) :=
  (constantI S_ 32 4#32)

def h_v151 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_54 (F := F))

def h_v152 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v145 (F := F)) (h_v151 (F := F))

def h_c_55 : (⟨S_, .i32⟩ : BufTy).Contents (Elt F) :=
  (constantI S_ 32 4#32)

def h_v153 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_55 (F := F))

def h_v154 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v145 (F := F)) (h_v153 (F := F))

def h_v155 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v152 (F := F)) (h_v154 (F := F)) (h_v145 (F := F))

def h_c_62 : (⟨S_, .i32⟩ : BufTy).Contents (Elt F) :=
  (constantI S_ 32 52#32)

def h_v169 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_62 (F := F))

def h_v170 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v155 (F := F)) (h_v169 (F := F))

def h_c_56 : (⟨S_, .i32⟩ : BufTy).Contents (Elt F) :=
  (constantI S_ 32 4#32)

def h_v156 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_56 (F := F))

def h_v157 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v156 (F := F))

def h_c_52 : (⟨S_, .i32⟩ : BufTy).Contents (Elt F) :=
  (constantI S_ 32 0#32)

def h_v146 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_52 (F := F))

def h_v147 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v145 (F := F)) (h_v146 (F := F))

def h_c_53 : (⟨S_, .i32⟩ : BufTy).Contents (Elt F) :=
  (constantI S_ 32 8#32)

def h_v148 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_53 (F := F))

def h_v149 : (⟨S64x768, .i1⟩ : BufTy).Contents (Elt F) :=
  (cmpi .slt : (⟨S64x768, .i32⟩ : BufTy).Contents (Elt F) → (⟨S64x768, .i32⟩ : BufTy).Contents (Elt F) → (⟨S64x768, .i1⟩ : BufTy).Contents (Elt F)) (h_v145 (F := F)) (h_v148 (F := F))

def h_v150 : (⟨S64x768, .i1⟩ : BufTy).Contents (Elt F) :=
  (andi : (⟨S64x768, .i1⟩ : BufTy).Contents (Elt F) → (⟨S64x768, .i1⟩ : BufTy).Contents (Elt F) → (⟨S64x768, .i1⟩ : BufTy).Contents (Elt F)) (h_v147 (F := F)) (h_v149 (F := F))

def h_c_57 : (⟨S_, .i32⟩ : BufTy).Contents (Elt F) :=
  (constantI S_ 32 48#32)

def h_v158 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_57 (F := F))

def h_v159 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v155 (F := F)) (h_v158 (F := F))

def h_c_58 : (⟨S_, .i32⟩ : BufTy).Contents (Elt F) :=
  (constantI S_ 32 56#32)

def h_v160 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_58 (F := F))

def h_v161 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v150 (F := F)) (h_v159 (F := F)) (h_v160 (F := F))

def h_c_44 : (⟨S_, .i32⟩ : BufTy).Contents (Elt F) :=
  (constantI S_ 32 3#32)

def h_v129 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_44 (F := F))

def h_v130 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v129 (F := F))

def h_c_33 : (⟨S_, .i32⟩ : BufTy).Contents (Elt F) :=
  (constantI S_ 32 63#32)

def h_v104 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_33 (F := F))

def h_v105 : (⟨S64x768, .i32⟩ : BufTy).Contents (Elt F) :=
  (andi : (⟨S64x768, .i32⟩ : BufTy).Contents (Elt F) → (⟨S64x768, .i32⟩ : BufTy).Contents (Elt F) → (⟨S64x768, .i32⟩ : BufTy).Contents (Elt F)) (h_v61 (F := F)) (h_v104 (F := F))

def h_c_34 : (⟨S_, .i32⟩ : BufTy).Contents (Elt F) :=
  (constantI S_ 32 0#32)

def h_v106 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_34 (F := F))

def h_v107 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v105 (F := F)) (h_v106 (F := F))

def h_c_37 : (⟨S_, .i32⟩ : BufTy).Contents (Elt F) :=
  (constantI S_ 32 8#32)

def h_v113 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_37 (F := F))

def h_v114 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v107 (F := F)) (h_v113 (F := F))

def h_c_38 : (⟨S_, .i32⟩ : BufTy).Contents (Elt F) :=
  (constantI S_ 32 8#32)

def h_v115 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_38 (F := F))

def h_v116 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v107 (F := F)) (h_v115 (F := F))

def h_v117 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v114 (F := F)) (h_v116 (F := F)) (h_v107 (F := F))

def h_c_45 : (⟨S_, .i32⟩ : BufTy).Contents (Elt F) :=
  (constantI S_ 32 40#32)

def h_v131 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_45 (F := F))

def h_v132 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v117 (F := F)) (h_v131 (F := F))

def h_c_39 : (⟨S_, .i32⟩ : BufTy).Contents (Elt F) :=
  (constantI S_ 32 2#32)

def h_v118 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_39 (F := F))

def h_v119 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v118 (F := F))

def h_c_35 : (⟨S_, .i32⟩ : BufTy).Contents (Elt F) :=
  (constantI S_ 32 0#32)

def h_v108 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_35 (F := F))

def h_v109 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v107 (F := F)) (h_v108 (F := F))

def h_c_36 : (⟨S_, .i32⟩ : BufTy).Contents (Elt F) :=
  (constantI S_ 32 16#32)

def h_v110 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_36 (F := F))

def h_v111 : (⟨S64x768, .i1⟩ : BufTy).Contents (Elt F) :=
  (cmpi .slt : (⟨S64x768, .i32⟩ : BufTy).Contents (Elt F) → (⟨S64x768, .i32⟩ : BufTy).Contents (Elt F) → (⟨S64x768, .i1⟩ : BufTy).Contents (Elt F)) (h_v107 (F := F)) (h_v110 (F := F))

def h_v112 : (⟨S64x768, .i1⟩ : BufTy).Contents (Elt F) :=
  (andi : (⟨S64x768, .i1⟩ : BufTy).Contents (Elt F) → (⟨S64x768, .i1⟩ : BufTy).Contents (Elt F) → (⟨S64x768, .i1⟩ : BufTy).Contents (Elt F)) (h_v109 (F := F)) (h_v111 (F := F))

def h_c_40 : (⟨S_, .i32⟩ : BufTy).Contents (Elt F) :=
  (constantI S_ 32 32#32)

def h_v120 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_40 (F := F))

def h_v121 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v117 (F := F)) (h_v120 (F := F))

def h_c_41 : (⟨S_, .i32⟩ : BufTy).Contents (Elt F) :=
  (constantI S_ 32 56#32)

def h_v122 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_41 (F := F))

def h_v123 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v112 (F := F)) (h_v121 (F := F)) (h_v122 (F := F))

def h_c_27 : (⟨S_, .i32⟩ : BufTy).Contents (Elt F) :=
  (constantI S_ 32 1#32)

def h_v91 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_27 (F := F))

def h_v92 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v91 (F := F))

def h_c_16 : (⟨S_, .i32⟩ : BufTy).Contents (Elt F) :=
  (constantI S_ 32 127#32)

def h_v66 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_16 (F := F))

def h_v67 : (⟨S64x768, .i32⟩ : BufTy).Contents (Elt F) :=
  (andi : (⟨S64x768, .i32⟩ : BufTy).Contents (Elt F) → (⟨S64x768, .i32⟩ : BufTy).Contents (Elt F) → (⟨S64x768, .i32⟩ : BufTy).Contents (Elt F)) (h_v61 (F := F)) (h_v66 (F := F))

def h_c_17 : (⟨S_, .i32⟩ : BufTy).Contents (Elt F) :=
  (constantI S_ 32 64#32)

def h_v68 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_17 (F := F))

def h_v69 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v67 (F := F)) (h_v68 (F := F))

def h_c_20 : (⟨S_, .i32⟩ : BufTy).Contents (Elt F) :=
  (constantI S_ 32 16#32)

def h_v75 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_20 (F := F))

def h_v76 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v69 (F := F)) (h_v75 (F := F))

def h_c_21 : (⟨S_, .i32⟩ : BufTy).Contents (Elt F) :=
  (constantI S_ 32 16#32)

def h_v77 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_21 (F := F))

def h_v78 : (⟨S64x768, .i32⟩ : BufTy).Contents (Elt F) :=
  (subi : (⟨S64x768, .i32⟩ : BufTy).Contents (Elt F) → (⟨S64x768, .i32⟩ : BufTy).Contents (Elt F) → (⟨S64x768, .i32⟩ : BufTy).Contents (Elt F)) (h_v69 (F := F)) (h_v77 (F := F))

def h_v79 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v76 (F := F)) (h_v78 (F := F)) (h_v69 (F := F))

def h_c_28 : (⟨S_, .i32⟩ : BufTy).Contents (Elt F) :=
  (constantI S_ 32 16#32)

def h_v93 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_28 (F := F))

def h_v94 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v79 (F := F)) (h_v93 (F := F))

def h_c_22 : (⟨S_, .i32⟩ : BufTy).Contents (Elt F) :=
  (constantI S_ 32 0#32)

def h_v80 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_22 (F := F))

def h_v81 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v80 (F := F))

def h_c_18 : (⟨S_, .i32⟩ : BufTy).Contents (Elt F) :=
  (constantI S_ 32 0#32)

def h_v70 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_18 (F := F))

def h_v71 : (⟨S64x768, .i1⟩ : BufTy).Contents (Elt F) :=
  (cmpi .sge : (⟨S64x768, .i32⟩ : BufTy).Contents (Elt F) → (⟨S64x768, .i32⟩ : BufTy).Contents (Elt F) → (⟨S64x768, .i1⟩ : BufTy).Contents (Elt F)) (h_v69 (F := F)) (h_v70 (F := F))

def h_c_19 : (⟨S_, .i32⟩ : BufTy).Contents (Elt F) :=
  (constantI S_ 32 32#32)

def h_v72 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_19 (F := F))

def h_v73 : (⟨S64x768, .i1⟩ : BufTy).Contents (Elt F) :=
  (cmpi .slt : (⟨S64x768, .i32⟩ : BufTy).Contents (Elt F) → (⟨S64x768, .i32⟩ : BufTy).Contents (Elt F) → (⟨S64x768, .i1⟩ : BufTy).Contents (Elt F)) (h_v69 (F := F)) (h_v72 (F := F))

def h_v74 : (⟨S64x768, .i1⟩ : BufTy).Contents (Elt F) :=
  (andi : (⟨S64x768, .i1⟩ : BufTy).Contents (Elt F) → (⟨S64x768, .i1⟩ : BufTy).Contents (Elt F) → (⟨S64x768, .i1⟩ : BufTy).Contents (Elt F)) (h_v71 (F := F)) (h_v73 (F := F))

def h_c_23 : (⟨S_, .i32⟩ : BufTy).Contents (Elt F) :=
  (constantI S_ 32 0#32)

def h_v82 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_23 (F := F))

def h_v83 : (⟨S64x768, .i32⟩ : BufTy).Contents (Elt F) :=
  (addi : (⟨S64x768, .i32⟩ : BufTy).Contents (Elt F) → (⟨S64x768, .i32⟩ : BufTy).Contents (Elt F) → (⟨S64x768, .i32⟩ : BufTy).Contents (Elt F)) (h_v79 (F := F)) (h_v82 (F := F))

def h_c_24 : (⟨S_, .i32⟩ : BufTy).Contents (Elt F) :=
  (constantI S_ 32 56#32)

def h_v84 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_24 (F := F))

def h_v85 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v74 (F := F)) (h_v83 (F := F)) (h_v84 (F := F))

def h_c_14 : (⟨S_, .i32⟩ : BufTy).Contents (Elt F) :=
  (constantI S_ 32 0#32)

def h_v64 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_14 (F := F))

def h_v86 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v81 (F := F)) (h_v85 (F := F)) (h_v64 (F := F))

def h_v95 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v92 (F := F)) (h_v94 (F := F)) (h_v86 (F := F))

def h_v124 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v119 (F := F)) (h_v123 (F := F)) (h_v95 (F := F))

def h_v133 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v130 (F := F)) (h_v132 (F := F)) (h_v124 (F := F))

def h_v162 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v157 (F := F)) (h_v161 (F := F)) (h_v133 (F := F))

def h_v171 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v168 (F := F)) (h_v170 (F := F)) (h_v162 (F := F))

def h_v180 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v58 (F := F)) (h_v171 (F := F))

def h_c_66 : (⟨S_, .i32⟩ : BufTy).Contents (Elt F) :=
  (constantI S_ 32 5#32)

def h_v177 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_66 (F := F))

def h_v178 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v177 (F := F))

def h_c_63 : (⟨S_, .i32⟩ : BufTy).Contents (Elt F) :=
  (constantI S_ 32 1#32)

def h_v172 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_63 (F := F))

def h_c_64 : (⟨S_, .i32⟩ : BufTy).Contents (Elt F) :=
  (constantI S_ 32 4294967295#32)

def h_v173 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_64 (F := F))

def h_v174 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v152 (F := F)) (h_v172 (F := F)) (h_v173 (F := F))

def h_c_65 : (⟨S_, .i32⟩ : BufTy).Contents (Elt F) :=
  (constantI S_ 32 0#32)

def h_v175 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_65 (F := F))

def h_v176 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v150 (F := F)) (h_v174 (F := F)) (h_v175 (F := F))

def h_c_59 : (⟨S_, .i32⟩ : BufTy).Contents (Elt F) :=
  (constantI S_ 32 4#32)

def h_v163 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_59 (F := F))

def h_v164 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v163 (F := F))

def h_c_60 : (⟨S_, .i32⟩ : BufTy).Contents (Elt F) :=
  (constantI S_ 32 1#32)

def h_v165 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_60 (F := F))

def h_c_49 : (⟨S_, .i32⟩ : BufTy).Contents (Elt F) :=
  (constantI S_ 32 3#32)

def h_v139 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_49 (F := F))

def h_v140 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v139 (F := F))

def h_c_46 : (⟨S_, .i32⟩ : BufTy).Contents (Elt F) :=
  (constantI S_ 32 1#32)

def h_v134 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_46 (F := F))

def h_c_47 : (⟨S_, .i32⟩ : BufTy).Contents (Elt F) :=
  (constantI S_ 32 4294967295#32)

def h_v135 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_47 (F := F))

def h_v136 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v114 (F := F)) (h_v134 (F := F)) (h_v135 (F := F))

def h_c_48 : (⟨S_, .i32⟩ : BufTy).Contents (Elt F) :=
  (constantI S_ 32 0#32)

def h_v137 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_48 (F := F))

def h_v138 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v112 (F := F)) (h_v136 (F := F)) (h_v137 (F := F))

def h_c_42 : (⟨S_, .i32⟩ : BufTy).Contents (Elt F) :=
  (constantI S_ 32 2#32)

def h_v125 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_42 (F := F))

def h_v126 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v125 (F := F))

def h_c_43 : (⟨S_, .i32⟩ : BufTy).Contents (Elt F) :=
  (constantI S_ 32 1#32)

def h_v127 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_43 (F := F))

def h_c_32 : (⟨S_, .i32⟩ : BufTy).Contents (Elt F) :=
  (constantI S_ 32 1#32)

def h_v101 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_32 (F := F))

def h_v102 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v101 (F := F))

def h_c_29 : (⟨S_, .i32⟩ : BufTy).Contents (Elt F) :=
  (constantI S_ 32 1#32)

def h_v96 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_29 (F := F))

def h_c_30 : (⟨S_, .i32⟩ : BufTy).Contents (Elt F) :=
  (constantI S_ 32 4294967295#32)

def h_v97 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_30 (F := F))

def h_v98 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v76 (F := F)) (h_v96 (F := F)) (h_v97 (F := F))

def h_c_31 : (⟨S_, .i32⟩ : BufTy).Contents (Elt F) :=
  (constantI S_ 32 0#32)

def h_v99 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_31 (F := F))

def h_v100 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v74 (F := F)) (h_v98 (F := F)) (h_v99 (F := F))

def h_c_25 : (⟨S_, .i32⟩ : BufTy).Contents (Elt F) :=
  (constantI S_ 32 0#32)

def h_v87 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_25 (F := F))

def h_v88 : (⟨S64x768, .i1⟩ : BufTy).Contents (Elt F) :=
  (cmpi .eq : (⟨S64x768, .i32⟩ : BufTy).Contents (Elt F) → (⟨S64x768, .i32⟩ : BufTy).Contents (Elt F) → (⟨S64x768, .i1⟩ : BufTy).Contents (Elt F)) (h_v63 (F := F)) (h_v87 (F := F))

def h_c_26 : (⟨S_, .i32⟩ : BufTy).Contents (Elt F) :=
  (constantI S_ 32 1#32)

def h_v89 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_26 (F := F))

def h_c_15 : (⟨S_, .i32⟩ : BufTy).Contents (Elt F) :=
  (constantI S_ 32 0#32)

def h_v65 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_15 (F := F))

def h_v90 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v88 (F := F)) (h_v89 (F := F)) (h_v65 (F := F))

def h_v103 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v102 (F := F)) (h_v100 (F := F)) (h_v90 (F := F))

def h_v128 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v126 (F := F)) (h_v127 (F := F)) (h_v103 (F := F))

def h_v141 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v140 (F := F)) (h_v138 (F := F)) (h_v128 (F := F))

def h_v166 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v164 (F := F)) (h_v165 (F := F)) (h_v141 (F := F))

def h_v179 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v178 (F := F)) (h_v176 (F := F)) (h_v166 (F := F))

def h_c_67 : (⟨S_, .i32⟩ : BufTy).Contents (Elt F) :=
  (constantI S_ 32 0#32)

def h_v181 : (⟨S64x768, .i32⟩ : BufTy).Contents (Elt F) :=
  (broadcastInDim S64x768 ![] bcast_S_S64x768 : (⟨S_, .i32⟩ : BufTy).Contents (Elt F) → (⟨S64x768, .i32⟩ : BufTy).Contents (Elt F)) (h_c_67 (F := F))

def h_v182 : (⟨S64x768, .i32⟩ : BufTy).Contents (Elt F) :=
  (select : (⟨S64x768, .i1⟩ : BufTy).Contents (Elt F) → (⟨S64x768, .i32⟩ : BufTy).Contents (Elt F) → (⟨S64x768, .i32⟩ : BufTy).Contents (Elt F) → (⟨S64x768, .i32⟩ : BufTy).Contents (Elt F)) (h_v180 (F := F)) (h_v179 (F := F)) (h_v181 (F := F))

def h_v183 : (⟨S64x768, .bf16⟩ : BufTy).Contents (Elt F) :=
  (sitofp .bf16 : (⟨S64x768, .i32⟩ : BufTy).Contents (Elt F) → (⟨S64x768, .bf16⟩ : BufTy).Contents (Elt F)) (h_v182 (F := F))

def h_cst_68 : (⟨S_, .bf16⟩ : BufTy).Contents (Elt F) :=
  (constant S_ .bf16 0x0000#16)

def h_v184 : (⟨S64x768, .bf16⟩ : BufTy).Contents (Elt F) :=
  (broadcastInDim S64x768 ![] bcast_S_S64x768 : (⟨S_, .bf16⟩ : BufTy).Contents (Elt F) → (⟨S64x768, .bf16⟩ : BufTy).Contents (Elt F)) (h_cst_68 (F := F))

def h_v185 : (⟨S256x768, .bf16⟩ : BufTy).Contents (Elt F) :=
  (concatenate S256x768 0 [⟨S64x768, ((h_v183 (F := F)) : (⟨S64x768, .bf16⟩ : BufTy).Contents (Elt F))⟩, ⟨S64x768, ((h_v183 (F := F)) : (⟨S64x768, .bf16⟩ : BufTy).Contents (Elt F))⟩, ⟨S64x768, ((h_v183 (F := F)) : (⟨S64x768, .bf16⟩ : BufTy).Contents (Elt F))⟩, ⟨S64x768, ((h_v184 (F := F)) : (⟨S64x768, .bf16⟩ : BufTy).Contents (Elt F))⟩] concatenates_S64x768_S64x768_S64x768_S64x768_S256x768_d0 : (⟨S256x768, .bf16⟩ : BufTy).Contents (Elt F))

variable (m : (ℓ : Loc nD τ sig) → Buf (Elt Ideal) ℓ)

theorem V_v57 (c : Dev nD) : V m c main_v57 = h_v57 (F := Ideal) (m ((c.tc : Thread nD τ).loc main_arg1)) := by
  sl_kernel_rfl

theorem V_v185 (c : Dev nD) : V m c main_v185 = h_v185 (F := Ideal) := by
  sl_kernel_rfl

end Cert.Kernel4Ideal.InHost
-- ==== Proof.InPlace.lean ====
/-
  The rotation tables' places, lane by lane.
-/
module

public import proofs.«01_k».proof.Proof.InHost
@[expose] public section
set_option maxRecDepth 16384
noncomputable section
namespace Cert.Kernel4Ideal.InPlace
open Idealize.ShloMosaic Idealize.SL.Sem
open Cert.Kernel4Ideal Cert.Kernel4Ideal.Gen Cert.Kernel4Ideal.InHost

theorem cos_place : ∀ (r : Fin 64) (l : Fin 128), (h_v182 (F := Ideal) (ix2 r ⟨256 + l.val, by omega⟩) : BitVec 32)
    = if r.val = (if l.val % 64 < 16 then 32 + l.val % 8 else 56) then 1#32 else 0#32 := by decide +kernel

theorem sin_place : ∀ (r : Fin 64) (l : Fin 128), (h_v182 (F := Ideal) (ix2 r ⟨384 + l.val, by omega⟩) : BitVec 32)
    = if l.val % 64 < 16 ∧ r.val = 40 + l.val % 8 then (if l.val % 64 < 8 then 4294967295#32 else 1#32) else 0#32 := by decide +kernel

end Cert.Kernel4Ideal.InPlace
-- ==== Proof.InRef.lean ====
/-
  The input projection's reference, read at an index as the row functions.
-/
module

public import proofs.«01_k».proof.Proof.InPay
public import proofs.«01_k».proof.Proof.Gen.Reference4Ideal.Read

@[expose] public section

set_option maxRecDepth 16384

noncomputable section

namespace Cert.Reference4Ideal.InRef

open Idealize.ShloMosaic Idealize.SL.Sem
open Cert.Reference4Ideal Cert.Reference4Ideal.Read Cert.Rows Cert.Kernel4Ideal.InPay

variable (x : FVec Ideal S8x2048x1024 .f32) (p : IVec S8x2048 32) (g : FVec Ideal S1024 .f32) (w : FVec Ideal S1024x6616 .f32)

/-- The projected row. -/
def proj (x : FVec Ideal S8x2048x1024 .f32) (g : FVec Ideal S1024 .f32) (w : FVec Ideal S1024x6616 .f32)
    (b : Fin 8) (s : Fin 2048) (j : Fin 6616) : EReal :=
  ∑ k : Fin 1024, rms (fun k => x (ix3 b s k)) (fun k => g (ix1 k)) k * w (ix2 k j)

theorem v31_apply (b : Fin 8) (s : Fin 2048) (j : Fin 6616) :
    val_main_v31 (F := Ideal) x g w (ix3 b s j) = proj x g w b s j := by
  pointwise [val_main_v31, val_main_v30, val_main_v29, val_main_v28, val_main_v27, val_main_v26, val_main_v25,
    val_main_v24, val_main_v23, val_main_v22, val_main_v21, val_main_v20, val_main_v19, val_main_v18, val_main_cst_3, val_main_cst_4, val_main_cst_5,
    proj, rms]

/-- The rotation's rate of a lane. -/
def rate (i : Fin 8) : EReal :=
  Ideal.pow (Ideal.ofBits FTy.f32 1223959552#32)
    (Ideal.div (-(Ideal.ofBits FTy.f32 1073741824#32 * FloatOps.sitofp (F := Ideal) FTy.f32 (BitVec.ofNat 32 i.val)))
      (Ideal.ofBits FTy.f32 1098907648#32))

/-- The angle, its cosine and its sine. -/
def angle (p : IVec S8x2048 32) (b : Fin 8) (s : Fin 2048) (i : Fin 8) : EReal :=
  FloatOps.sitofp (F := Ideal) FTy.f32 (p (ix2 b s)) * rate i

def cosv (p : IVec S8x2048 32) (b : Fin 8) (s : Fin 2048) (i : Fin 8) : EReal := Ideal.cos (angle p b s i)

def sinv (p : IVec S8x2048 32) (b : Fin 8) (s : Fin 2048) (i : Fin 8) : EReal := Ideal.sin (angle p b s i)

theorem v9_apply (i : Fin 8) : val_main_v9 (F := Ideal) (ix1 i) = rate i := by
  pointwise [val_main_v9, val_main_v8, val_main_v7, val_main_v6, val_main_v5, val_main_v4, val_main_v3, val_main_v2, val_main_v1,
    val_main_v0, val_main_cst, val_main_cst_0, val_main_cst_1, val_main_cst_2]
  rfl

theorem v15_apply (b : Fin 8) (s : Fin 2048) (i : Fin 8) : val_main_v15 (F := Ideal) p (ix3 b s i) = angle p b s i := by
  pointwise [val_main_v15, val_main_v14, val_main_v13, val_main_v12, val_main_v11, val_main_v10, v9_apply]
  rfl

theorem v16_apply (b : Fin 8) (s : Fin 2048) (i : Fin 8) : val_main_v16 (F := Ideal) p (ix3 b s i) = cosv p b s i := by
  pointwise [val_main_v16, v15_apply]
  rfl

theorem v17_apply (b : Fin 8) (s : Fin 2048) (i : Fin 8) : val_main_v17 (F := Ideal) p (ix3 b s i) = sinv p b s i := by
  pointwise [val_main_v17, v15_apply]
  rfl

theorem v62_apply (b : Fin 8) (s : Fin 2048) (j : Fin 256) :
    val_main_v62 (F := Ideal) x p g w (ix3 b s j)
      = turned 256 (fun j => proj x g w b s ⟨416 + j.val, by omega⟩) (cosv p b s) (sinv p b s) j := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v37, val_main_v33, v31_apply, v16_apply, v17_apply]
  split
  · refine turned_lo (o := 416) (proj x g w b s) _ _ (by omega) (by omega) j _ _ _ _ ?_ ?_ ?_ ?_ ?_ <;> first | omega | (dsimp only; done) | (dsimp only; omega)
  · split
    · refine turned_mid (o := 416) (proj x g w b s) _ _ (by omega) j _ _ _ _ ?_ ?_ ?_ ?_ ?_ ?_ <;> first | omega | (dsimp only; done) | (dsimp only; omega)
    · refine turned_hi (o := 416) (proj x g w b s) _ _ (by omega) j _ ?_ ?_ <;> first | omega | (dsimp only; done) | (dsimp only; omega)

theorem v114_apply (b : Fin 8) (s : Fin 2048) (j : Fin 256) :
    val_main_v114 (F := Ideal) x p g w (ix3 b s j)
      = turned 256 (fun j => proj x g w b s ⟨1840 + j.val, by omega⟩) (cosv p b s) (sinv p b s) j := by
  pointwise [val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v93, val_main_v35, v31_apply, v16_apply, v17_apply]
  split
  · refine turned_lo (o := 1840) (proj x g w b s) _ _ (by omega) (by omega) j _ _ _ _ ?_ ?_ ?_ ?_ ?_ <;> first | omega | (dsimp only; done) | (dsimp only; omega)
  · split
    · refine turned_mid (o := 1840) (proj x g w b s) _ _ (by omega) j _ _ _ _ ?_ ?_ ?_ ?_ ?_ ?_ <;> first | omega | (dsimp only; done) | (dsimp only; omega)
    · refine turned_hi (o := 1840) (proj x g w b s) _ _ (by omega) j _ ?_ ?_ <;> first | omega | (dsimp only; done) | (dsimp only; omega)

theorem v72_apply (b : Fin 8) (s : Fin 2048) (j : Fin 64) :
    val_main_v72 (F := Ideal) x p g w (ix3 b s j)
      = turned 64 (fun j => proj x g w b s ⟨672 + j.val, by omega⟩) (cosv p b s) (sinv p b s) j := by
  pointwise [val_main_v72, val_main_v71, val_main_v70, val_main_v69, val_main_v68, val_main_v67, val_main_v66, val_main_v65, val_main_v64, val_main_v63, val_main_v38, val_main_v33, v31_apply, v16_apply, v17_apply]
  split
  · refine turned_lo (o := 672) (proj x g w b s) _ _ (by omega) (by omega) j _ _ _ _ ?_ ?_ ?_ ?_ ?_ <;> first | omega | (dsimp only; done) | (dsimp only; omega)
  · split
    · refine turned_mid (o := 672) (proj x g w b s) _ _ (by omega) j _ _ _ _ ?_ ?_ ?_ ?_ ?_ ?_ <;> first | omega | (dsimp only; done) | (dsimp only; omega)
    · refine turned_hi (o := 672) (proj x g w b s) _ _ (by omega) j _ ?_ ?_ <;> first | omega | (dsimp only; done) | (dsimp only; omega)

theorem v82_apply (b : Fin 8) (s : Fin 2048) (j : Fin 64) :
    val_main_v82 (F := Ideal) x p g w (ix3 b s j)
      = turned 64 (fun j => proj x g w b s ⟨800 + j.val, by omega⟩) (cosv p b s) (sinv p b s) j := by
  pointwise [val_main_v82, val_main_v81, val_main_v80, val_main_v79, val_main_v78, val_main_v77, val_main_v76, val_main_v75, val_main_v74, val_main_v73, val_main_v40, val_main_v33, v31_apply, v16_apply, v17_apply]
  split
  · refine turned_lo (o := 800) (proj x g w b s) _ _ (by omega) (by omega) j _ _ _ _ ?_ ?_ ?_ ?_ ?_ <;> first | omega | (dsimp only; done) | (dsimp only; omega)
  · split
    · refine turned_mid (o := 800) (proj x g w b s) _ _ (by omega) j _ _ _ _ ?_ ?_ ?_ ?_ ?_ ?_ <;> first | omega | (dsimp only; done) | (dsimp only; omega)
    · refine turned_hi (o := 800) (proj x g w b s) _ _ (by omega) j _ ?_ ?_ <;> first | omega | (dsimp only; done) | (dsimp only; omega)

theorem v92_apply (b : Fin 8) (s : Fin 2048) (j : Fin 64) :
    val_main_v92 (F := Ideal) x p g w (ix3 b s j)
      = turned 64 (fun j => proj x g w b s ⟨928 + j.val, by omega⟩) (cosv p b s) (sinv p b s) j := by
  pointwise [val_main_v92, val_main_v91, val_main_v90, val_main_v89, val_main_v88, val_main_v87, val_main_v86, val_main_v85, val_main_v84, val_main_v83, val_main_v42, val_main_v33, v31_apply, v16_apply, v17_apply]
  split
  · refine turned_lo (o := 928) (proj x g w b s) _ _ (by omega) (by omega) j _ _ _ _ ?_ ?_ ?_ ?_ ?_ <;> first | omega | (dsimp only; done) | (dsimp only; omega)
  · split
    · refine turned_mid (o := 928) (proj x g w b s) _ _ (by omega) j _ _ _ _ ?_ ?_ ?_ ?_ ?_ ?_ <;> first | omega | (dsimp only; done) | (dsimp only; omega)
    · refine turned_hi (o := 928) (proj x g w b s) _ _ (by omega) j _ ?_ ?_ <;> first | omega | (dsimp only; done) | (dsimp only; omega)

theorem v124_apply (b : Fin 8) (s : Fin 2048) (j : Fin 64) :
    val_main_v124 (F := Ideal) x p g w (ix3 b s j)
      = turned 64 (fun j => proj x g w b s ⟨2096 + j.val, by omega⟩) (cosv p b s) (sinv p b s) j := by
  pointwise [val_main_v124, val_main_v123, val_main_v122, val_main_v121, val_main_v120, val_main_v119, val_main_v118, val_main_v117, val_main_v116, val_main_v115, val_main_v94, val_main_v35, v31_apply, v16_apply, v17_apply]
  split
  · refine turned_lo (o := 2096) (proj x g w b s) _ _ (by omega) (by omega) j _ _ _ _ ?_ ?_ ?_ ?_ ?_ <;> first | omega | (dsimp only; done) | (dsimp only; omega)
  · split
    · refine turned_mid (o := 2096) (proj x g w b s) _ _ (by omega) j _ _ _ _ ?_ ?_ ?_ ?_ ?_ ?_ <;> first | omega | (dsimp only; done) | (dsimp only; omega)
    · refine turned_hi (o := 2096) (proj x g w b s) _ _ (by omega) j _ ?_ ?_ <;> first | omega | (dsimp only; done) | (dsimp only; omega)

/-- The rotated projection's rows the three results hold. -/
def bmRow (P : Fin 6616 → EReal) (C S : Fin 8 → EReal) (j : Fin 896) : EReal :=
  if h : j.val < 256 then
    turned 256 (fun l => P ⟨416 + l.val, by omega⟩) C S ⟨j.val, h⟩ * Ideal.ofBits FTy.f32 1043900987#32
  else if h : j.val - 256 < 256 then
    turned 256 (fun l => P ⟨1840 + l.val, by omega⟩) C S ⟨j.val - 256, h⟩ * Ideal.ofBits FTy.f32 1043900987#32
  else if h : j.val - 256 - 256 < 64 then
    turned 64 (fun l => P ⟨800 + l.val, by omega⟩) C S ⟨j.val - 256 - 256, h⟩
  else if h : j.val - 256 - 256 - 64 < 64 then P ⟨416 + (448 + (j.val - 256 - 256 - 64)), by omega⟩
  else if h : j.val - 256 - 256 - 64 - 64 < 64 then
    turned 64 (fun l => P ⟨928 + l.val, by omega⟩) C S ⟨j.val - 256 - 256 - 64 - 64, h⟩
  else if h : j.val - 256 - 256 - 64 - 64 - 64 < 64 then P ⟨416 + (576 + (j.val - 256 - 256 - 64 - 64 - 64)), by omega⟩
  else if h : j.val - 256 - 256 - 64 - 64 - 64 - 64 < 64 then
    turned 64 (fun l => P ⟨2096 + l.val, by omega⟩) C S ⟨j.val - 256 - 256 - 64 - 64 - 64 - 64, h⟩
  else P ⟨1840 + (320 + (j.val - 256 - 256 - 64 - 64 - 64 - 64 - 64)), by omega⟩

def kvcRow (P : Fin 6616 → EReal) (C S : Fin 8 → EReal) (j : Fin 128) : EReal :=
  if h : j.val < 64 then turned 64 (fun l => P ⟨672 + l.val, by omega⟩) C S ⟨j.val, h⟩
  else P ⟨416 + (320 + (j.val - 64)), by omega⟩

def eRow (P : Fin 6616 → EReal) (j : Fin 768) : EReal :=
  if h : j.val < 256 then P ⟨1068 + j.val, by omega⟩ * Ideal.ofBits FTy.f32 1043900987#32
  else if h : j.val - 256 < 256 then P ⟨1068 + (256 + (j.val - 256)), by omega⟩
  else P ⟨1068 + (512 + (j.val - 256 - 256)), by omega⟩

theorem v139_apply (a : Fin 16384) (j : Fin 896) (b : Fin 8) (s : Fin 2048) (h : b.val * 2048 + s.val = a.val) :
    val_main_v139 (F := Ideal) x p g w (ix2 a j) = bmRow (proj x g w b s) (cosv p b s) (sinv p b s) j := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  pointwise [val_main_v139, val_main_v138, val_main_v133, val_main_v132, val_main_v131, val_main_v130, val_main_v129, val_main_cst_6, val_main_cst_7, val_main_v41, val_main_v43, val_main_v95, val_main_v33, val_main_v35, v62_apply, v114_apply, v82_apply, v92_apply, v124_apply, v31_apply]
  rfl

theorem v141_apply (a : Fin 16384) (j : Fin 128) (b : Fin 8) (s : Fin 2048) (h : b.val * 2048 + s.val = a.val) :
    val_main_v141 (F := Ideal) x p g w (ix2 a j) = kvcRow (proj x g w b s) (cosv p b s) (sinv p b s) j := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  pointwise [val_main_v141, val_main_v140, val_main_v134, val_main_v39, val_main_v33, v72_apply, v31_apply]
  rfl

theorem v143_apply (a : Fin 16384) (j : Fin 768) (b : Fin 8) (s : Fin 2048) (h : b.val * 2048 + s.val = a.val) :
    val_main_v143 (F := Ideal) x g w (ix2 a j) = eRow (proj x g w b s) j := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  pointwise [val_main_v143, val_main_v142, val_main_v137, val_main_v136, val_main_v135, val_main_cst_8, val_main_v125, val_main_v126, val_main_v127, val_main_v34, v31_apply]
  rfl

section Tiles

variable (P : Fin 6616 → EReal) (C S : Fin 8 → EReal)

/-- The softmax's scale is a finite positive number. -/
theorem scale_pos : 0 ≤ Ideal.ofBits FTy.f32 1043900987#32 ∧ Ideal.ofBits FTy.f32 1043900987#32 ≠ ⊤ := by
  simp [Ideal.ofBits, Ideal.ieee]
  rw [← EReal.coe_mul]
  exact ⟨by rw [EReal.coe_nonneg]; positivity, EReal.coe_ne_top _⟩

theorem bm_0 (l : Fin 128) :
    bmRow P C S ⟨0 + l.val, by omega⟩ = turned 128 (fun l => P ⟨416 + l.val, by omega⟩ * Ideal.ofBits FTy.f32 1043900987#32) C S l := by
  rw [turned_scale C S l (fun l => P ⟨416 + l.val, by omega⟩) _ scale_pos.1 scale_pos.2]
  unfold bmRow
  rw [dif_pos (by dsimp only; omega)]
  refine congrArg (· * _) ?_
  exact turned_move (n := 256) (m := 128) (o := 416) (o' := 416) P C S (by omega) _ (by omega) (by omega) l (by dsimp only; omega) (by dsimp only; omega) (by omega)

theorem bm_1 (l : Fin 128) :
    bmRow P C S ⟨128 + l.val, by omega⟩ = turned 128 (fun l => P ⟨544 + l.val, by omega⟩ * Ideal.ofBits FTy.f32 1043900987#32) C S l := by
  rw [turned_scale C S l (fun l => P ⟨544 + l.val, by omega⟩) _ scale_pos.1 scale_pos.2]
  unfold bmRow
  rw [dif_pos (by dsimp only; omega)]
  refine congrArg (· * _) ?_
  exact turned_move (n := 256) (m := 128) (o := 416) (o' := 544) P C S (by omega) _ (by omega) (by omega) l (by dsimp only; omega) (by dsimp only; omega) (by omega)

theorem bm_2 (l : Fin 128) :
    bmRow P C S ⟨256 + l.val, by omega⟩ = turned 128 (fun l => P ⟨1840 + l.val, by omega⟩ * Ideal.ofBits FTy.f32 1043900987#32) C S l := by
  rw [turned_scale C S l (fun l => P ⟨1840 + l.val, by omega⟩) _ scale_pos.1 scale_pos.2]
  unfold bmRow
  rw [dif_neg (by dsimp only; omega), dif_pos (by dsimp only; omega)]
  refine congrArg (· * _) ?_
  exact turned_move (n := 256) (m := 128) (o := 1840) (o' := 1840) P C S (by omega) _ (by omega) (by omega) l (by dsimp only; omega) (by dsimp only; omega) (by omega)

theorem bm_3 (l : Fin 128) :
    bmRow P C S ⟨384 + l.val, by omega⟩ = turned 128 (fun l => P ⟨1968 + l.val, by omega⟩ * Ideal.ofBits FTy.f32 1043900987#32) C S l := by
  rw [turned_scale C S l (fun l => P ⟨1968 + l.val, by omega⟩) _ scale_pos.1 scale_pos.2]
  unfold bmRow
  rw [dif_neg (by dsimp only; omega), dif_pos (by dsimp only; omega)]
  refine congrArg (· * _) ?_
  exact turned_move (n := 256) (m := 128) (o := 1840) (o' := 1968) P C S (by omega) _ (by omega) (by omega) l (by dsimp only; omega) (by dsimp only; omega) (by omega)

theorem bm_4 (l : Fin 128) :
    bmRow P C S ⟨512 + l.val, by omega⟩
      = if l.val < 64 then turned 128 (fun l => P ⟨800 + l.val, by omega⟩) C S l else P ⟨800 + l.val, by omega⟩ := by
  unfold bmRow
  by_cases hl : l.val < 64
  · rw [if_pos hl, dif_neg (by dsimp only; omega), dif_neg (by dsimp only; omega), dif_pos (by dsimp only; omega)]
    exact turned_move (n := 64) (m := 128) (o := 800) (o' := 800) P C S (by omega) _ (by omega) (by omega) l (by dsimp only; omega) (by dsimp only; omega) (by omega)
  · rw [if_neg hl, dif_neg (by dsimp only; omega), dif_neg (by dsimp only; omega), dif_neg (by dsimp only; omega), dif_pos (by dsimp only; omega)]
    exact congrArg P (Fin.ext (by dsimp only; omega))

theorem bm_5 (l : Fin 128) :
    bmRow P C S ⟨640 + l.val, by omega⟩
      = if l.val < 64 then turned 128 (fun l => P ⟨928 + l.val, by omega⟩) C S l else P ⟨928 + l.val, by omega⟩ := by
  unfold bmRow
  by_cases hl : l.val < 64
  · rw [if_pos hl, dif_neg (by dsimp only; omega), dif_neg (by dsimp only; omega), dif_neg (by dsimp only; omega), dif_neg (by dsimp only; omega), dif_pos (by dsimp only; omega)]
    exact turned_move (n := 64) (m := 128) (o := 928) (o' := 928) P C S (by omega) _ (by omega) (by omega) l (by dsimp only; omega) (by dsimp only; omega) (by omega)
  · rw [if_neg hl, dif_neg (by dsimp only; omega), dif_neg (by dsimp only; omega), dif_neg (by dsimp only; omega), dif_neg (by dsimp only; omega), dif_neg (by dsimp only; omega), dif_pos (by dsimp only; omega)]
    exact congrArg P (Fin.ext (by dsimp only; omega))

theorem bm_6 (l : Fin 128) :
    bmRow P C S ⟨768 + l.val, by omega⟩
      = if l.val < 64 then turned 128 (fun l => P ⟨2096 + l.val, by omega⟩) C S l else P ⟨2096 + l.val, by omega⟩ := by
  unfold bmRow
  by_cases hl : l.val < 64
  · rw [if_pos hl, dif_neg (by dsimp only; omega), dif_neg (by dsimp only; omega), dif_neg (by dsimp only; omega), dif_neg (by dsimp only; omega), dif_neg (by dsimp only; omega), dif_neg (by dsimp only; omega), dif_pos (by dsimp only; omega)]
    exact turned_move (n := 64) (m := 128) (o := 2096) (o' := 2096) P C S (by omega) _ (by omega) (by omega) l (by dsimp only; omega) (by dsimp only; omega) (by omega)
  · rw [if_neg hl, dif_neg (by dsimp only; omega), dif_neg (by dsimp only; omega), dif_neg (by dsimp only; omega), dif_neg (by dsimp only; omega), dif_neg (by dsimp only; omega), dif_neg (by dsimp only; omega), dif_neg (by dsimp only; omega)]
    exact congrArg P (Fin.ext (by dsimp only; omega))

theorem kvc_0 (l : Fin 128) :
    kvcRow P C S l
      = if l.val < 64 then turned 128 (fun l => P ⟨672 + l.val, by omega⟩) C S l else P ⟨672 + l.val, by omega⟩ := by
  unfold kvcRow
  by_cases hl : l.val < 64
  · rw [if_pos hl, dif_pos hl]
    exact turned_move (n := 64) (m := 128) (o := 672) (o' := 672) P C S (by omega) _ (by omega) (by omega) l rfl rfl (by omega)
  · rw [if_neg hl, dif_neg hl]
    exact congrArg P (Fin.ext (by dsimp only; omega))

end Tiles

end Cert.Reference4Ideal.InRef
-- ==== Proof.InTables.lean ====
/-
  The input projection's rotation tables: the product of the split rows and the places is the lane's cosine and sine.
-/
module

public import proofs.«01_k».proof.Proof.InHost
public import proofs.«01_k».proof.Proof.InPlace
public import proofs.«01_k».proof.Proof.InRef

@[expose] public section

set_option maxRecDepth 16384

noncomputable section

namespace Cert.Kernel4Ideal.InTables

open Idealize.ShloMosaic Idealize.SL.Sem
open Cert.Kernel4Ideal Cert.Kernel4Ideal.Gen Cert.Kernel4Ideal.InHost Cert.Kernel4Ideal.InPay Cert.Kernel4Ideal.InPlace
open Cert.Reference4Ideal.InRef (rate angle cosv sinv)

theorem base_real : ∃ a : ℝ, Ideal.ofBits FTy.f32 1223959552#32 = (a : EReal) := by
  simp [Ideal.ofBits, Ideal.ieee]
  exact ⟨_, (EReal.coe_mul _ _).symm⟩

theorem two_real : ∃ a : ℝ, Ideal.ofBits FTy.f32 1073741824#32 = (a : EReal) := by
  simp [Ideal.ofBits, Ideal.ieee]
  exact ⟨_, (EReal.coe_mul _ _).symm⟩

theorem width_real : ∃ a : ℝ, a ≠ 0 ∧ Ideal.ofBits FTy.f32 1098907648#32 = (a : EReal) := by
  simp [Ideal.ofBits, Ideal.ieee]
  exact ⟨_, by positivity, (EReal.coe_mul _ _).symm⟩

theorem rate_real (i : Fin 8) : ∃ r : ℝ, rate i = (r : EReal) := by
  obtain ⟨a, ha⟩ := base_real
  obtain ⟨b, hb⟩ := two_real
  obtain ⟨d, hd, hw⟩ := width_real
  unfold rate
  rw [ha, hb, hw, Ideal.div_coe hd]
  rw [show FloatOps.sitofp (F := Ideal) FTy.f32 (BitVec.ofNat 32 i.val) = (((BitVec.ofNat 32 i.val).toInt : ℝ) : EReal) from rfl]
  rw [← EReal.coe_mul, ← EReal.coe_neg, ← EReal.coe_mul]
  exact ⟨_, rfl⟩

variable (p : IVec S8x2048 32) (b : Fin 8) (s : Fin 2048)

theorem angle_real (i : Fin 8) : ∃ r : ℝ, angle p b s i = (r : EReal) := by
  obtain ⟨r, hr⟩ := rate_real i
  unfold angle
  rw [hr, show FloatOps.sitofp (F := Ideal) FTy.f32 (p (ix2 b s)) = (((p (ix2 b s)).toInt : ℝ) : EReal) from rfl, ← EReal.coe_mul]
  exact ⟨_, rfl⟩

theorem cosv_real (i : Fin 8) : ∃ r : ℝ, cosv p b s i = (r : EReal) := by
  obtain ⟨r, hr⟩ := angle_real p b s i
  unfold cosv
  rw [hr]
  exact ⟨_, rfl⟩

theorem sinv_real (i : Fin 8) : ∃ r : ℝ, sinv p b s i = (r : EReal) := by
  obtain ⟨r, hr⟩ := angle_real p b s i
  unfold sinv
  rw [hr]
  exact ⟨_, rfl⟩

theorem sum_split (f : Fin 256 → EReal) (T q : Fin 64 → EReal)
    (h0 : ∀ r : Fin 64, f ⟨r.val, by omega⟩ = T r * q r) (h1 : ∀ r : Fin 64, f ⟨64 + r.val, by omega⟩ = (T r - T r) * q r)
    (h2 : ∀ r : Fin 64, f ⟨128 + r.val, by omega⟩ = (T r - T r - (T r - T r)) * q r) (h3 : ∀ r : Fin 64, f ⟨192 + r.val, by omega⟩ = 0)
    (r₀ : Fin 64) (v : ℝ) (hv : T r₀ = v) (hq : ∀ r, r ≠ r₀ → q r = 0) :
    ∑ k, f k = T r₀ * q r₀ := by
  have one : ∀ U : Fin 64 → EReal, ∑ r, U r * q r = U r₀ * q r₀ := fun U =>
    Finset.sum_eq_single r₀ (fun r _ hr => by rw [hq r hr, mul_zero]) (fun h => absurd (Finset.mem_univ _) h)
  have e : ∑ k : Fin 256, f k = ∑ r : Fin 64, f ⟨r.val, by omega⟩ + (∑ r : Fin 64, f ⟨64 + r.val, by omega⟩
      + (∑ r : Fin 64, f ⟨128 + r.val, by omega⟩ + ∑ r : Fin 64, f ⟨192 + r.val, by omega⟩)) := by
    rw [Fin.sum_univ_add (a := 64) (b := 192) f, Fin.sum_univ_add (a := 64) (b := 128), Fin.sum_univ_add (a := 64) (b := 64)]
    refine congrArg₂ (· + ·) ?_ (congrArg₂ (· + ·) ?_ (congrArg₂ (· + ·) ?_ ?_)) <;> refine Finset.sum_congr rfl fun r _ => congrArg f (Fin.ext ?_)
    · rfl
    · rfl
    · show 64 + (64 + r.val) = 128 + r.val; omega
    · show 64 + (64 + (64 + r.val)) = 192 + r.val; omega
  rw [e]
  simp only [h0, h1, h2, h3]
  rw [one, one, one, hv]
  simp [← EReal.coe_sub]

theorem angle_apply (a : Fin 16384) (i : Fin 8) (h : b.val * 2048 + s.val = a.val) :
    h_v37 (F := Ideal) p (ix2 ⟨16 + i.val, by omega⟩ a) = angle p b s i := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  have e : h_v33 (F := Ideal) (ix1 ⟨16 + i.val, by omega⟩) = rate i := by
    refine Eq.trans (b := h_v22 (F := Ideal) (ix1 i)) ?_ ?_
    · unfold h_v33
      exact concatenate_apply_piece (t := S28) 0 _ _ _ 1 (by simp) S8 _ rfl rfl 16 rfl _
        (fun b hb => by fin_cases b; exact absurd rfl hb) rfl
    · pointwise [h_v22, h_v21, h_cst_6, h_v20, h_v18, h_v17, h_v16, h_cst_4, h_v15, h_v14, h_cst_3, h_v13, h_v19, h_cst_5]
      rfl
  pointwise [h_v37, h_v36, h_v35, h_v34, h_v2, h_v1, h_v0, e]
  rw [mul_comm]
  rfl

theorem cos_row (a : Fin 16384) (i : Fin 8) (h : b.val * 2048 + s.val = a.val) :
    h_v47 (F := Ideal) p (ix2 ⟨32 + i.val, by omega⟩ a) = cosv p b s i := by
  refine Eq.trans (b := h_v42 (F := Ideal) p (ix2 i a)) ?_ ?_
  · unfold h_v47
    exact concatenate_apply_piece (t := S64x16384) 0 _ _ _ 2 (by simp) S8x16384 _ rfl rfl 32 rfl _
      (fun b hb => by fin_cases b <;> [exact absurd rfl hb; rfl]) rfl
  · pointwise [h_v42, h_v38]
    rw [angle_apply p b s a i h]
    rfl

theorem sin_row (a : Fin 16384) (i : Fin 8) (h : b.val * 2048 + s.val = a.val) :
    h_v47 (F := Ideal) p (ix2 ⟨40 + i.val, by omega⟩ a) = sinv p b s i := by
  refine Eq.trans (b := h_v43 (F := Ideal) p (ix2 i a)) ?_ ?_
  · unfold h_v47
    exact concatenate_apply_piece (t := S64x16384) 0 _ _ _ 3 (by simp) S8x16384 _ rfl rfl 40 rfl _
      (fun b hb => by fin_cases b <;> [exact absurd rfl hb; rfl]) rfl
  · pointwise [h_v43, h_v39]
    rw [angle_apply p b s a i h]
    rfl

theorem one_row (a : Fin 16384) (i : Fin 8) :
    h_v47 (F := Ideal) p (ix2 ⟨56 + i.val, by omega⟩ a) = 1 := by
  refine Eq.trans (b := h_v46 (F := Ideal) (ix2 i a)) ?_ ?_
  · unfold h_v47
    exact concatenate_apply_piece (t := S64x16384) 0 _ _ _ 6 (by simp) S8x16384 _ rfl rfl 56 rfl _
      (fun b hb => by fin_cases b <;> [exact absurd rfl hb; rfl]) rfl
  · pointwise [h_v46, h_cst_11]

theorem cs_0 (a : Fin 16384) (r : Fin 64) :
    h_v57 (F := Ideal) p (ix2 a ⟨r.val, by omega⟩) = h_v47 (F := Ideal) p (ix2 r a) := by
  refine (show _ = h_v56 (F := Ideal) p (ix2 ⟨r.val, by omega⟩ a) from by pointwise [h_v57]).trans ?_
  refine Eq.trans (b := h_v48 (F := Ideal) p (ix2 r a)) ?_ ?_
  · unfold h_v56
    exact concatenate_apply_piece (t := S256x16384) 0 _ _ _ 0 (by simp) S64x16384 _ rfl rfl 0 rfl _
      (fun b hb => by fin_cases b <;> [exact absurd rfl hb; rfl]) (Nat.zero_add _)
  · pointwise [h_v48]

theorem cs_1 (a : Fin 16384) (r : Fin 64) :
    h_v57 (F := Ideal) p (ix2 a ⟨64 + r.val, by omega⟩) = h_v47 (F := Ideal) p (ix2 r a) - h_v47 (F := Ideal) p (ix2 r a) := by
  refine (show _ = h_v56 (F := Ideal) p (ix2 ⟨64 + r.val, by omega⟩ a) from by pointwise [h_v57]).trans ?_
  refine Eq.trans (b := h_v51 (F := Ideal) p (ix2 r a)) ?_ ?_
  · unfold h_v56
    exact concatenate_apply_piece (t := S256x16384) 0 _ _ _ 1 (by simp) S64x16384 _ rfl rfl 64 rfl _
      (fun b hb => by fin_cases b <;> [exact absurd rfl hb; rfl]) rfl
  · pointwise [h_v51, h_v50, h_v49, h_v48]

theorem cs_2 (a : Fin 16384) (r : Fin 64) :
    h_v57 (F := Ideal) p (ix2 a ⟨128 + r.val, by omega⟩) = h_v47 (F := Ideal) p (ix2 r a) - h_v47 (F := Ideal) p (ix2 r a) - (h_v47 (F := Ideal) p (ix2 r a) - h_v47 (F := Ideal) p (ix2 r a)) := by
  refine (show _ = h_v56 (F := Ideal) p (ix2 ⟨128 + r.val, by omega⟩ a) from by pointwise [h_v57]).trans ?_
  refine Eq.trans (b := h_v54 (F := Ideal) p (ix2 r a)) ?_ ?_
  · unfold h_v56
    exact concatenate_apply_piece (t := S256x16384) 0 _ _ _ 2 (by simp) S64x16384 _ rfl rfl 128 rfl _
      (fun b hb => by fin_cases b <;> [exact absurd rfl hb; rfl]) rfl
  · pointwise [h_v54, h_v53, h_v52, h_v51, h_v50, h_v49, h_v48]

theorem cs_3 (a : Fin 16384) (r : Fin 64) :
    h_v57 (F := Ideal) p (ix2 a ⟨192 + r.val, by omega⟩) = 0 := by
  refine (show _ = h_v56 (F := Ideal) p (ix2 ⟨192 + r.val, by omega⟩ a) from by pointwise [h_v57]).trans ?_
  refine Eq.trans (b := h_v55 (F := Ideal) (ix2 r a)) ?_ ?_
  · unfold h_v56
    exact concatenate_apply_piece (t := S256x16384) 0 _ _ _ 3 (by simp) S64x16384 _ rfl rfl 192 rfl _
      (fun b hb => by fin_cases b <;> [exact absurd rfl hb; rfl]) rfl
  · pointwise [h_v55, h_cst_12]

theorem pl_0 (r : Fin 64) (j : Fin 768) :
    h_v185 (F := Ideal) (ix2 ⟨r.val, by omega⟩ j) = h_v183 (F := Ideal) (ix2 r j) := by
  unfold h_v185
  exact concatenate_apply_piece (t := S256x768) 0 _ _ _ 0 (by simp) S64x768 _ rfl rfl 0 rfl _
      (fun b hb => by fin_cases b <;> [exact absurd rfl hb; rfl]) (Nat.zero_add _)

theorem pl_1 (r : Fin 64) (j : Fin 768) :
    h_v185 (F := Ideal) (ix2 ⟨64 + r.val, by omega⟩ j) = h_v183 (F := Ideal) (ix2 r j) := by
  unfold h_v185
  exact concatenate_apply_piece (t := S256x768) 0 _ _ _ 1 (by simp) S64x768 _ rfl rfl 64 rfl _
      (fun b hb => by fin_cases b <;> [exact absurd rfl hb; rfl]) rfl

theorem pl_2 (r : Fin 64) (j : Fin 768) :
    h_v185 (F := Ideal) (ix2 ⟨128 + r.val, by omega⟩ j) = h_v183 (F := Ideal) (ix2 r j) := by
  unfold h_v185
  exact concatenate_apply_piece (t := S256x768) 0 _ _ _ 2 (by simp) S64x768 _ rfl rfl 128 rfl _
      (fun b hb => by fin_cases b <;> [exact absurd rfl hb; rfl]) rfl

theorem place_apply (r : Fin 64) (j : Fin 768) (v : BitVec 32) (h : (h_v182 (F := Ideal) (ix2 r j) : BitVec 32) = v) :
    h_v183 (F := Ideal) (ix2 r j) = (((v.toInt : ℝ) : EReal)) := by
  rw [← h]
  rfl

/-- One lane of the product: the row its place picks, times the place's sign. -/
theorem tab_apply (a : Fin 16384) (j : Fin 768) (r₀ : Fin 64) (v : ℝ) (hv : h_v47 (F := Ideal) p (ix2 r₀ a) = v)
    (hq : ∀ r, r ≠ r₀ → h_v183 (F := Ideal) (ix2 r j) = 0) :
    ∑ k : Fin 256, h_v57 (F := Ideal) p (ix2 a k) * h_v185 (F := Ideal) (ix2 k j)
      = h_v47 (F := Ideal) p (ix2 r₀ a) * h_v183 (F := Ideal) (ix2 r₀ j) := by
  refine sum_split _ (fun r => h_v47 (F := Ideal) p (ix2 r a)) (fun r => h_v183 (F := Ideal) (ix2 r j)) (fun r => ?_) (fun r => ?_)
    (fun r => ?_) (fun r => ?_) r₀ v hv hq
  · exact congrArg₂ (· * ·) (cs_0 p a r) (pl_0 r j)
  · exact congrArg₂ (· * ·) (cs_1 p a r) (pl_1 r j)
  · exact congrArg₂ (· * ·) (cs_2 p a r) (pl_2 r j)
  · exact (congrArg (· * _) (cs_3 p a r)).trans (zero_mul _)

theorem tab_cos (a : Fin 16384) (h : b.val * 2048 + s.val = a.val) (l : Fin 128) :
    ∑ k : Fin 256, h_v57 (F := Ideal) p (ix2 a k) * h_v185 (F := Ideal) (ix2 k ⟨256 + l.val, by omega⟩)
      = cosHead (cosv p b s) l := by
  unfold cosHead
  by_cases h16 : l.val % 64 < 16
  · have hc := cos_row p b s a ⟨l.val % 8, by omega⟩ h
    obtain ⟨v, hv⟩ := cosv_real p b s ⟨l.val % 8, by omega⟩
    rw [if_pos h16, tab_apply p a ⟨256 + l.val, by omega⟩ ⟨32 + l.val % 8, by omega⟩ v (hc.trans hv) (fun r hr => ?_), hc]
    · rw [place_apply _ _ 1#32 ((cos_place ⟨32 + l.val % 8, by omega⟩ l).trans (by rw [if_pos h16, if_pos rfl]))]
      simp
    · rw [place_apply _ _ 0#32 ((cos_place r l).trans (by rw [if_pos h16, if_neg (fun e => hr (Fin.ext e))]))]
      simp
  · have hc : h_v47 (F := Ideal) p (ix2 56 a) = 1 := one_row p a 0
    rw [if_neg h16, tab_apply p a ⟨256 + l.val, by omega⟩ 56 1 (hc.trans EReal.coe_one.symm) (fun r hr => ?_), hc]
    · rw [place_apply _ _ 1#32 ((cos_place 56 l).trans (by rw [if_neg h16]; rfl))]
      simp
    · rw [place_apply _ _ 0#32 ((cos_place r l).trans (by rw [if_neg h16]; exact if_neg (fun e => hr (Fin.ext e))))]
      simp

theorem tab_sin (a : Fin 16384) (h : b.val * 2048 + s.val = a.val) (l : Fin 128) :
    ∑ k : Fin 256, h_v57 (F := Ideal) p (ix2 a k) * h_v185 (F := Ideal) (ix2 k ⟨384 + l.val, by omega⟩)
      = sinHead (sinv p b s) l := by
  unfold sinHead
  have hc := sin_row p b s a ⟨l.val % 8, by omega⟩ h
  obtain ⟨v, hv⟩ := sinv_real p b s ⟨l.val % 8, by omega⟩
  rw [tab_apply p a ⟨384 + l.val, by omega⟩ ⟨40 + l.val % 8, by omega⟩ v (hc.trans hv) (fun r hr => ?_), hc]
  · by_cases h8 : l.val % 64 < 8
    · rw [if_pos h8, place_apply _ _ 4294967295#32 ((sin_place ⟨40 + l.val % 8, by omega⟩ l).trans (by rw [if_pos ⟨by omega, rfl⟩, if_pos h8]))]
      simp
    · rw [if_neg h8]
      by_cases h16 : l.val % 64 < 16
      · rw [if_pos h16, place_apply _ _ 1#32 ((sin_place ⟨40 + l.val % 8, by omega⟩ l).trans (by rw [if_pos ⟨h16, rfl⟩, if_neg h8]))]
        simp
      · rw [if_neg h16, place_apply _ _ 0#32 ((sin_place ⟨40 + l.val % 8, by omega⟩ l).trans (by rw [if_neg (fun e => h16 e.1)]))]
        simp
  · rw [place_apply _ _ 0#32 ((sin_place r l).trans (by rw [if_neg (fun e => hr (Fin.ext e.2))]))]
    simp

end Cert.Kernel4Ideal.InTables
-- ==== Proof.InValue.lean ====
/-
  The input projection's result arrays after the run: the reference's composed terms.
-/
module

public import proofs.«01_k».proof.Proof.InWeights
public import proofs.«01_k».proof.Proof.InTables
public import Idealize.ShloMosaic.Lib.Claim

@[expose] public section

set_option maxRecDepth 16384

noncomputable section

namespace Cert.Kernel4Ideal.InValue

open Idealize.ShloMosaic Idealize.SL.Sem
open Cert.Kernel4Ideal Cert.Kernel4Ideal.Gen Cert.Kernel4Ideal.InHost Cert.Kernel4Ideal.InPay Cert.Kernel4Ideal.InWeights
open Cert.Kernel4Ideal.InTables Cert.Rows
open Cert.Reference4Ideal.InRef (proj cosv sinv scale_pos bmRow kvcRow eRow)

variable (m : (ℓ : Loc nD τ sig) → Buf (Elt Ideal) ℓ)

/-- The index maps over the grid. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_12.index t = ![t.val, 0] ∧ win0_13.index t = ![t.val, 0]
    ∧ win0_16.index t = ![t.val, 0] :=
  (by decide +kernel : ∀ t : Fin grid0.N, _)

/-- The inputs. -/
abbrev xIn (c : Dev nD) : FVec Ideal S8x2048x1024 .f32 := m ((c.tc : Thread nD τ).loc main_arg0)
abbrev pIn (c : Dev nD) : IVec S8x2048 32 := m ((c.tc : Thread nD τ).loc main_arg1)
abbrev gIn (c : Dev nD) : FVec Ideal S1024 .f32 := m ((c.tc : Thread nD τ).loc main_arg2)
abbrev wIn (c : Dev nD) : FVec Ideal S1024x6616 .f32 := m ((c.tc : Thread nD τ).loc main_arg3)

theorem x_at (c : Dev nD) (t : Fin cfg0.N) (i : S256x1024.Idx) : iblk m c 0 t i = V m c main_v306 ((win0_0.blk t).view.emb i) := by
  sl_kernel_rfl

theorem x_entry (c : Dev nD) (i : S16384x1024.Idx) : V m c main_v306 i = (shapeCast S16384x1024 (xIn m c) shapeCasts_S8x2048x1024_S16384x1024) i := by
  sl_kernel_rfl

theorem g_at (c : Dev nD) (t : Fin cfg0.N) (i : S1x1024.Idx) : iblk m c 1 t i = V m c main_v307 ((win0_1.blk t).view.emb i) := by
  sl_kernel_rfl

theorem g_entry (c : Dev nD) (i : S1x1024.Idx) : V m c main_v307 i = (broadcastInDim S1x1024 ![1] bcast_S1024_S1x1024_1 (gIn m c)) i := by
  sl_kernel_rfl

theorem w_at (c : Dev nD) (t : Fin cfg0.N) (i : S1024x3200.Idx) : iblk m c 2 t i = V m c main_v252 ((win0_2.blk t).view.emb i) := by
  sl_kernel_rfl

theorem w_entry (c : Dev nD) (i : S1024x3200.Idx) : V m c main_v252 i = (h_v252 (F := Ideal) (wIn m c)) i := by
  sl_kernel_rfl

theorem cs_at (c : Dev nD) (t : Fin cfg0.N) (i : S256x256.Idx) : iblk m c 3 t i = V m c main_v57 ((win0_3.blk t).view.emb i) := by
  sl_kernel_rfl

theorem cs_entry (c : Dev nD) (i : S16384x256.Idx) : V m c main_v57 i = (h_v57 (F := Ideal) (pIn m c)) i := by
  sl_kernel_rfl

theorem place_at (c : Dev nD) (t : Fin cfg0.N) (i : S256x768.Idx) : iblk m c 4 t i = V m c main_v185 ((win0_4.blk t).view.emb i) := by
  sl_kernel_rfl

theorem place_entry (c : Dev nD) (i : S256x768.Idx) : V m c main_v185 i = (h_v185 (F := Ideal)) i := by
  sl_kernel_rfl

theorem flat_apply (x : FVec Ideal S8x2048x1024 .f32) (a : Fin 16384) (k : Fin 1024) (i : Fin 8) (s : Fin 2048)
    (h : i.val * 2048 + s.val = a.val) :
    shapeCast S16384x1024 x shapeCasts_S8x2048x1024_S16384x1024 (ix2 a k) = x (ix3 i s k) := by
  have hs := s.isLt
  have hi : (⟨a.val / 2048, by omega⟩ : Fin 8) = i := Fin.ext (by show a.val / 2048 = i.val; omega)
  have hr : (⟨a.val % 2048, by omega⟩ : Fin 2048) = s := Fin.ext (by show a.val % 2048 = s.val; omega)
  rw [← hi, ← hr]
  pointwise

theorem row_apply (x : FVec Ideal S1024 .f32) (k : Fin 1024) :
    broadcastInDim S1x1024 ![1] bcast_S1024_S1x1024_1 x (ix2 0 k) = x (ix1 k) := by
  pointwise

section Block

variable (c : Dev nD) (t : Fin cfg0.N) (r : Fin 256) (b : Fin 8) (s : Fin 2048) (h : b.val * 2048 + s.val = t.val * 256 + r.val)

theorem x_emb (k : Fin 1024) (hb : t.val * 256 + r.val < 16384) :
    (win0_0.blk t).view.emb (ix2 r k) = ix2 ⟨t.val * 256 + r.val, hb⟩ k := by blk_ext [idx t]

theorem g_emb (k : Fin 1024) : (win0_1.blk t).view.emb (ix2 0 k) = ix2 0 k := by blk_ext [idx t]

theorem w_emb (k : Fin 1024) (j : Fin 3200) : (win0_2.blk t).view.emb (ix2 k j) = ix2 k j := by blk_ext [idx t]

theorem cs_emb (k : Fin 256) (hb : t.val * 256 + r.val < 16384) :
    (win0_3.blk t).view.emb (ix2 r k) = ix2 ⟨t.val * 256 + r.val, hb⟩ k := by blk_ext [idx t]

theorem place_emb (k : Fin 256) (j : Fin 768) : (win0_4.blk t).view.emb (ix2 k j) = ix2 k j := by blk_ext [idx t]

include h in
theorem x_read (k : Fin 1024) : iblk m c 0 t (ix2 r k) = xIn m c (ix3 b s k) := by
  have ht : t.val < 64 := t.isLt
  exact (x_at m c t (ix2 r k)).trans ((x_entry m c _).trans ((congrArg _ (x_emb t r k (by omega))).trans
    (flat_apply _ ⟨t.val * 256 + r.val, by omega⟩ k b s h)))

theorem g_read (k : Fin 1024) : iblk m c 1 t (ix2 0 k) = gIn m c (ix1 k) :=
  (g_at m c t (ix2 0 k)).trans ((g_entry m c _).trans ((congrArg _ (g_emb t k)).trans (row_apply _ k)))

theorem w_read (k : Fin 1024) (j : Fin 3200) : iblk m c 2 t (ix2 k j) = h_v252 (F := Ideal) (wIn m c) (ix2 k j) :=
  (w_at m c t (ix2 k j)).trans ((w_entry m c _).trans (congrArg _ (w_emb t k j)))

theorem cs_read (k : Fin 256) (ht : t.val * 256 + r.val < 16384) :
    iblk m c 3 t (ix2 r k) = h_v57 (F := Ideal) (pIn m c) (ix2 ⟨t.val * 256 + r.val, ht⟩ k) :=
  (cs_at m c t (ix2 r k)).trans ((cs_entry m c _).trans (congrArg _ (cs_emb t r k ht)))

theorem place_read (k : Fin 256) (j : Fin 768) : iblk m c 4 t (ix2 k j) = h_v185 (F := Ideal) (ix2 k j) :=
  (place_at m c t (ix2 k j)).trans ((place_entry m c _).trans (congrArg _ (place_emb t k j)))

/-- The block's projected rows. -/
def z : FVec Ideal S256x3200 .f32 := k0_pay4 (F := Ideal) (iblk m c 0 t) (iblk m c 1 t) (iblk m c 2 t)

/-- The block's rotation tables. -/
def tab : FVec Ideal S256x768 .f32 := k0_pay5 (F := Ideal) (iblk m c 3 t) (iblk m c 4 t)

theorem sum_scale (f : Fin 1024 → EReal) (q : EReal) (h0 : 0 ≤ q) (ht : q ≠ ⊤) : ∑ k, f k * q = (∑ k, f k) * q := by
  have all : ∀ S : Finset (Fin 1024), ∑ k ∈ S, f k * q = (∑ k ∈ S, f k) * q := fun S => by
    induction S using Finset.induction_on with
    | empty => simp
    | insert a S ha hs => rw [Finset.sum_insert ha, Finset.sum_insert ha, hs, EReal.right_distrib_of_nonneg_of_ne_top h0 ht]
  exact all _

/-- The projection's row of this batch and position. -/
abbrev row (c : Dev nD) (b : Fin 8) (s : Fin 2048) : Fin 6616 → EReal :=
  proj (xIn m c) (gIn m c) (wIn m c) b s

include h in
theorem z_apply (j : Fin 3200) (i : Fin 6616) (q : EReal) (h0 : 0 ≤ q) (ht : q ≠ ⊤)
    (hw : ∀ k : Fin 1024, h_v252 (F := Ideal) (wIn m c) (ix2 k j)
      = wIn m c (ix2 k i) * q) :
    z m c t (ix2 r j) = row m c b s i * q := by
  unfold z row proj
  rw [pay4_apply]
  simp only [x_read m c t r b s h, g_read, w_read, hw]
  rw [← sum_scale _ q h0 ht]
  exact Finset.sum_congr rfl fun k _ => (mul_assoc _ _ _).symm

theorem one_scale : Ideal.ofBits FTy.f32 1065353216#32 = 1 := by
  simp [Ideal.ofBits, Ideal.ieee]
  rw [← EReal.coe_mul]
  norm_num

include h in
theorem z_one (j : Fin 3200) (i : Fin 6616)
    (hw : ∀ k : Fin 1024, h_v252 (F := Ideal) (wIn m c) (ix2 k j)
      = wIn m c (ix2 k i) * Ideal.ofBits FTy.f32 1065353216#32) :
    z m c t (ix2 r j) = row m c b s i := by
  rw [z_apply m c t r b s h j i 1 zero_le_one (by decide) (fun k => (hw k).trans (by rw [one_scale])), mul_one]

include h in
theorem tab_cosine (l : Fin 128) : tab m c t (ix2 r ⟨256 + l.val, by omega⟩)
    = cosHead (cosv (pIn m c) b s) l := by
  have ht : t.val < 64 := t.isLt
  unfold tab
  rw [pay5_apply, ← tab_cos _ b s ⟨t.val * 256 + r.val, by omega⟩ h l]
  exact Finset.sum_congr rfl fun k _ => congrArg₂ (· * ·) (cs_read m c t r k _) (place_read m c t k _)

include h in
theorem tab_sine (l : Fin 128) : tab m c t (ix2 r ⟨384 + l.val, by omega⟩)
    = sinHead (sinv (pIn m c) b s) l := by
  have ht : t.val < 64 := t.isLt
  unfold tab
  rw [pay5_apply, ← tab_sin _ b s ⟨t.val * 256 + r.val, by omega⟩ h l]
  exact Finset.sum_congr rfl fun k _ => congrArg₂ (· * ·) (cs_read m c t r k _) (place_read m c t k _)

include h in
/-- The unrotated rows of the forgetting attention. -/
theorem e_apply (j : Fin 768) : z m c t (ix2 r ⟨2304 + j.val, by omega⟩) = eRow (row m c b s) j := by
  unfold eRow
  by_cases h1 : j.val < 256
  · rw [dif_pos h1]
    exact z_apply m c t r b s h _ _ _ scale_pos.1 scale_pos.2 fun k => w_fq _ k ⟨j.val, h1⟩ (by dsimp only; omega) (by dsimp only; omega)
  · have e : (⟨2304 + j.val, by omega⟩ : Fin 3200) = ⟨2560 + (j.val - 256), by omega⟩ := Fin.ext (by show 2304 + j.val = 2560 + (j.val - 256); omega)
    have hw : ∀ k : Fin 1024, h_v252 (F := Ideal) (wIn m c) (ix2 k ⟨2560 + (j.val - 256), by omega⟩)
        = wIn m c (ix2 k ⟨1324 + (j.val - 256), by omega⟩) * Ideal.ofBits FTy.f32 1065353216#32 :=
      fun k => w_f (wIn m c) k ⟨j.val - 256, by omega⟩ (by dsimp only; omega) (by dsimp only; omega)
    rw [dif_neg h1, e, z_one m c t r b s h _ _ hw]
    split <;> exact congrArg _ (Fin.ext (by dsimp only; omega))

end Block

section Stored

variable (u : FVec Ideal S256x3200 .f32) (k q : FVec Ideal S256x128 .f32) (P : Fin 6616 → EReal) (C S : Fin 8 → EReal)

/-- The seven tiles of the rotated rows. -/
def bmTiles : Vec Ideal S256x896 .bf16 :=
  View.canon
    [⟨Rect.unit ![0, 768] ![256, 128] inb_S256x896_S256x128_0_768, k0_pay49 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q)⟩,
      ⟨Rect.unit ![0, 640] ![256, 128] inb_S256x896_S256x128_0_640, k0_pay48 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q)⟩,
      ⟨Rect.unit ![0, 512] ![256, 128] inb_S256x896_S256x128_0_512, k0_pay47 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q)⟩,
      ⟨Rect.unit ![0, 384] ![256, 128] inb_S256x896_S256x128_0_384, k0_pay44 u k q (k0_pay15 k0_pay13 k0_pay14)⟩,
      ⟨Rect.unit ![0, 256] ![256, 128] inb_S256x896_S256x128_0_256, k0_pay43 u k q (k0_pay15 k0_pay13 k0_pay14)⟩,
      ⟨Rect.unit ![0, 128] ![256, 128] inb_S256x896_S256x128_0_128, k0_pay42 u k q (k0_pay15 k0_pay13 k0_pay14)⟩,
      ⟨Rect.unit ![0, 0] ![256, 128] inb_S256x896_S256x128_0_0, k0_pay41 q (k0_pay15 k0_pay13 k0_pay14) (k0_pay38 u) (k0_pay39 u) (k0_pay40 u k)⟩]

theorem bmTiles_apply (y : S256x896.Idx)
    (ec : ∀ l, k (ix2 (y 0) l) = cosHead C l) (es : ∀ l, q (ix2 (y 0) l) = sinHead S l)
    (e6 : ∀ l : Fin 128, u (ix2 (y 0) ⟨1408 + l.val, by omega⟩) = P ⟨2096 + l.val, by omega⟩)
    (e5 : ∀ l : Fin 128, u (ix2 (y 0) ⟨1280 + l.val, by omega⟩) = P ⟨928 + l.val, by omega⟩)
    (e4 : ∀ l : Fin 128, u (ix2 (y 0) ⟨1152 + l.val, by omega⟩) = P ⟨800 + l.val, by omega⟩)
    (e3 : ∀ l : Fin 128, u (ix2 (y 0) ⟨896 + l.val, by omega⟩) = P ⟨1968 + l.val, by omega⟩ * Ideal.ofBits FTy.f32 1043900987#32)
    (e2 : ∀ l : Fin 128, u (ix2 (y 0) ⟨768 + l.val, by omega⟩) = P ⟨1840 + l.val, by omega⟩ * Ideal.ofBits FTy.f32 1043900987#32)
    (e1 : ∀ l : Fin 128, u (ix2 (y 0) ⟨640 + l.val, by omega⟩) = P ⟨544 + l.val, by omega⟩ * Ideal.ofBits FTy.f32 1043900987#32)
    (e0 : ∀ l : Fin 128, u (ix2 (y 0) ⟨512 + l.val, by omega⟩) = P ⟨416 + l.val, by omega⟩ * Ideal.ofBits FTy.f32 1043900987#32) :
    bmTiles u k q y = bmRow P C S (y 1) := by
  unfold bmTiles
  canon_tiles x h
  · refine (congrFun (show k0_pay49 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q) = tile (extractStridedSlice S256x128 ![0, 1408] u slices_S256x3200_o0_1408_S256x128) (k0_pay18 (iota .tc S256x128 32 [1] iota_S256x128_d1_w32) k) (k0_pay19 (iota .tc S256x128 32 [1] iota_S256x128_d1_w32) q) (andi (k0_pay15 k0_pay13 k0_pay14) (k0_pay17 (iota .tc S256x128 32 [1] iota_S256x128_d1_w32))) from rfl) x).trans ?_
    have ex : x = ix2 (y 0) (x 1) := (eq_ix2 x).trans (congrArg (fun a => ix2 a (x 1)) (Fin.ext (by omega)))
    have ey : y 1 = (⟨768 + (x 1).val, by have := (x 1).isLt; omega⟩ : Fin 896) := Fin.ext h1
    refine (congrArg _ ex).trans ((half_stored u k q C S 1408 (by omega) _ (y 0) (x 1) ec es).trans ?_)
    refine Eq.trans ?_ ((congrArg (bmRow P C S) ey).trans (Cert.Reference4Ideal.InRef.bm_6 P C S (x 1))).symm
    exact if_congr Iff.rfl (congrArg (fun f => turned 128 f C S (x 1)) (funext e6)) (e6 (x 1))
  · refine (congrFun (show k0_pay48 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q) = tile (extractStridedSlice S256x128 ![0, 1280] u slices_S256x3200_o0_1280_S256x128) (k0_pay18 (iota .tc S256x128 32 [1] iota_S256x128_d1_w32) k) (k0_pay19 (iota .tc S256x128 32 [1] iota_S256x128_d1_w32) q) (andi (k0_pay15 k0_pay13 k0_pay14) (k0_pay17 (iota .tc S256x128 32 [1] iota_S256x128_d1_w32))) from rfl) x).trans ?_
    have ex : x = ix2 (y 0) (x 1) := (eq_ix2 x).trans (congrArg (fun a => ix2 a (x 1)) (Fin.ext (by omega)))
    have ey : y 1 = (⟨640 + (x 1).val, by have := (x 1).isLt; omega⟩ : Fin 896) := Fin.ext h1
    refine (congrArg _ ex).trans ((half_stored u k q C S 1280 (by omega) _ (y 0) (x 1) ec es).trans ?_)
    refine Eq.trans ?_ ((congrArg (bmRow P C S) ey).trans (Cert.Reference4Ideal.InRef.bm_5 P C S (x 1))).symm
    exact if_congr Iff.rfl (congrArg (fun f => turned 128 f C S (x 1)) (funext e5)) (e5 (x 1))
  · refine (congrFun (show k0_pay47 u (k0_pay15 k0_pay13 k0_pay14) (k0_pay17 (iota .tc S256x128 32 [1] iota_S256x128_d1_w32)) (k0_pay18 (iota .tc S256x128 32 [1] iota_S256x128_d1_w32) k) (k0_pay19 (iota .tc S256x128 32 [1] iota_S256x128_d1_w32) q) = tile (extractStridedSlice S256x128 ![0, 1152] u slices_S256x3200_o0_1152_S256x128) (k0_pay18 (iota .tc S256x128 32 [1] iota_S256x128_d1_w32) k) (k0_pay19 (iota .tc S256x128 32 [1] iota_S256x128_d1_w32) q) (andi (k0_pay15 k0_pay13 k0_pay14) (k0_pay17 (iota .tc S256x128 32 [1] iota_S256x128_d1_w32))) from rfl) x).trans ?_
    have ex : x = ix2 (y 0) (x 1) := (eq_ix2 x).trans (congrArg (fun a => ix2 a (x 1)) (Fin.ext (by omega)))
    have ey : y 1 = (⟨512 + (x 1).val, by have := (x 1).isLt; omega⟩ : Fin 896) := Fin.ext h1
    refine (congrArg _ ex).trans ((half_stored u k q C S 1152 (by omega) _ (y 0) (x 1) ec es).trans ?_)
    refine Eq.trans ?_ ((congrArg (bmRow P C S) ey).trans (Cert.Reference4Ideal.InRef.bm_4 P C S (x 1))).symm
    exact if_congr Iff.rfl (congrArg (fun f => turned 128 f C S (x 1)) (funext e4)) (e4 (x 1))
  · refine (congrFun (show k0_pay44 u k q (k0_pay15 k0_pay13 k0_pay14) = tile (extractStridedSlice S256x128 ![0, 896] u slices_S256x3200_o0_896_S256x128) k q (k0_pay15 k0_pay13 k0_pay14) from rfl) x).trans ?_
    have ex : x = ix2 (y 0) (x 1) := (eq_ix2 x).trans (congrArg (fun a => ix2 a (x 1)) (Fin.ext (by omega)))
    have ey : y 1 = (⟨384 + (x 1).val, by have := (x 1).isLt; omega⟩ : Fin 896) := Fin.ext h1
    refine (congrArg _ ex).trans ((head_stored u k q C S 896 (by omega) _ (y 0) (x 1) ec es).trans ?_)
    refine Eq.trans ?_ ((congrArg (bmRow P C S) ey).trans (Cert.Reference4Ideal.InRef.bm_3 P C S (x 1))).symm
    exact congrArg (fun f => turned 128 f C S (x 1)) (funext e3)
  · refine (congrFun (show k0_pay43 u k q (k0_pay15 k0_pay13 k0_pay14) = tile (extractStridedSlice S256x128 ![0, 768] u slices_S256x3200_o0_768_S256x128) k q (k0_pay15 k0_pay13 k0_pay14) from rfl) x).trans ?_
    have ex : x = ix2 (y 0) (x 1) := (eq_ix2 x).trans (congrArg (fun a => ix2 a (x 1)) (Fin.ext (by omega)))
    have ey : y 1 = (⟨256 + (x 1).val, by have := (x 1).isLt; omega⟩ : Fin 896) := Fin.ext h1
    refine (congrArg _ ex).trans ((head_stored u k q C S 768 (by omega) _ (y 0) (x 1) ec es).trans ?_)
    refine Eq.trans ?_ ((congrArg (bmRow P C S) ey).trans (Cert.Reference4Ideal.InRef.bm_2 P C S (x 1))).symm
    exact congrArg (fun f => turned 128 f C S (x 1)) (funext e2)
  · refine (congrFun (show k0_pay42 u k q (k0_pay15 k0_pay13 k0_pay14) = tile (extractStridedSlice S256x128 ![0, 640] u slices_S256x3200_o0_640_S256x128) k q (k0_pay15 k0_pay13 k0_pay14) from rfl) x).trans ?_
    have ex : x = ix2 (y 0) (x 1) := (eq_ix2 x).trans (congrArg (fun a => ix2 a (x 1)) (Fin.ext (by omega)))
    have ey : y 1 = (⟨128 + (x 1).val, by have := (x 1).isLt; omega⟩ : Fin 896) := Fin.ext h1
    refine (congrArg _ ex).trans ((head_stored u k q C S 640 (by omega) _ (y 0) (x 1) ec es).trans ?_)
    refine Eq.trans ?_ ((congrArg (bmRow P C S) ey).trans (Cert.Reference4Ideal.InRef.bm_1 P C S (x 1))).symm
    exact congrArg (fun f => turned 128 f C S (x 1)) (funext e1)
  · refine (congrFun (show k0_pay41 q (k0_pay15 k0_pay13 k0_pay14) (k0_pay38 u) (k0_pay39 u) (k0_pay40 u k) = tile (extractStridedSlice S256x128 ![0, 512] u slices_S256x3200_o0_512_S256x128) k q (k0_pay15 k0_pay13 k0_pay14) from rfl) x).trans ?_
    have ex : x = ix2 (y 0) (x 1) := (eq_ix2 x).trans (congrArg (fun a => ix2 a (x 1)) (Fin.ext (by omega)))
    have ey : y 1 = (⟨0 + (x 1).val, by have := (x 1).isLt; omega⟩ : Fin 896) := Fin.ext (h1.trans (Nat.zero_add _).symm)
    refine (congrArg _ ex).trans ((head_stored u k q C S 512 (by omega) _ (y 0) (x 1) ec es).trans ?_)
    refine Eq.trans ?_ ((congrArg (bmRow P C S) ey).trans (Cert.Reference4Ideal.InRef.bm_0 P C S (x 1))).symm
    exact congrArg (fun f => turned 128 f C S (x 1)) (funext e0)

end Stored

section Final

variable (c : Dev nD) (t : Fin cfg0.N)

/-- The head's cosines and sines over the block. -/
abbrev kc : FVec Ideal S256x128 .f32 := k0_pay8 (F := Ideal) (iblk m c 3 t) (iblk m c 4 t)
abbrev ks : FVec Ideal S256x128 .f32 := k0_pay9 (F := Ideal) (iblk m c 3 t) (iblk m c 4 t)

theorem outs16 : (outsAt0 m c t.val t.isLt).2.2.2.2.2.1 = k0_pay3 (z m c t) := by
  by_cases h0 : t.val % 8 = 0
  · rw [outsAt0_A m c t h0]
    dsimp only
    frame_out
    rfl
  · rw [outsAt0_B m c t h0]
    dsimp only
    frame_out
    rfl

theorem outs13 : (outsAt0 m c t.val t.isLt).2.2.1
    = tile (extractStridedSlice S256x128 ![0, 1024] (z m c t) slices_S256x3200_o0_1024_S256x128)
        (k0_pay18 (iota .tc S256x128 32 [1] iota_S256x128_d1_w32) (kc m c t))
        (k0_pay19 (iota .tc S256x128 32 [1] iota_S256x128_d1_w32) (ks m c t))
        (andi (k0_pay15 k0_pay13 k0_pay14) (k0_pay17 (iota .tc S256x128 32 [1] iota_S256x128_d1_w32))) := by
  by_cases h0 : t.val % 8 = 0
  · rw [outsAt0_A m c t h0]
    dsimp only
    frame_out
    rfl
  · rw [outsAt0_B m c t h0]
    dsimp only
    frame_out
    rfl

theorem outs12 : (outsAt0 m c t.val t.isLt).2.1 = bmTiles (z m c t) (kc m c t) (ks m c t) := by
  by_cases h0 : t.val % 8 = 0
  · rw [outsAt0_A m c t h0]
    dsimp only
    frame_out
    rfl
  · rw [outsAt0_B m c t h0]
    dsimp only
    frame_out
    rfl

variable (r : Fin 256) (b : Fin 8) (s : Fin 2048) (h : b.val * 2048 + s.val = t.val * 256 + r.val)

include h in
theorem kc_apply (l : Fin 128) : kc m c t (ix2 r l) = cosHead (cosv (pIn m c) b s) l := by
  refine Eq.trans ?_ (tab_cosine m c t r b s h l)
  unfold tab
  pointwise [k0_pay8]

include h in
theorem ks_apply (l : Fin 128) : ks m c t (ix2 r l) = sinHead (sinv (pIn m c) b s) l := by
  refine Eq.trans ?_ (tab_sine m c t r b s h l)
  unfold tab
  pointwise [k0_pay9]

include h in
theorem z_512 (l : Fin 128) : z m c t (ix2 r ⟨512 + l.val, by omega⟩) = row m c b s ⟨416 + l.val, by omega⟩ * Ideal.ofBits FTy.f32 1043900987#32 := by
  have hw : ∀ k : Fin 1024, h_v252 (F := Ideal) (wIn m c) (ix2 k ⟨512 + l.val, by omega⟩)
      = wIn m c (ix2 k ⟨416 + l.val, by omega⟩) * Ideal.ofBits FTy.f32 1043900987#32 := fun k => by
    refine Eq.trans (congrArg (fun j => h_v252 (F := Ideal) (wIn m c) (ix2 k j)) (Fin.ext ?_))
      ((w_nq (wIn m c) k (⟨0 + l.val, by omega⟩ : Fin 256) (by dsimp only; omega) (by dsimp only; omega)).trans
        (congrArg (fun j => wIn m c (ix2 k j) * Ideal.ofBits FTy.f32 1043900987#32) (Fin.ext ?_))) <;> (dsimp only; omega)
  exact z_apply m c t r b s h _ _ _ scale_pos.1 scale_pos.2 hw

include h in
theorem z_640 (l : Fin 128) : z m c t (ix2 r ⟨640 + l.val, by omega⟩) = row m c b s ⟨544 + l.val, by omega⟩ * Ideal.ofBits FTy.f32 1043900987#32 := by
  have hw : ∀ k : Fin 1024, h_v252 (F := Ideal) (wIn m c) (ix2 k ⟨640 + l.val, by omega⟩)
      = wIn m c (ix2 k ⟨544 + l.val, by omega⟩) * Ideal.ofBits FTy.f32 1043900987#32 := fun k => by
    refine Eq.trans (congrArg (fun j => h_v252 (F := Ideal) (wIn m c) (ix2 k j)) (Fin.ext ?_))
      ((w_nq (wIn m c) k (⟨128 + l.val, by omega⟩ : Fin 256) (by dsimp only; omega) (by dsimp only; omega)).trans
        (congrArg (fun j => wIn m c (ix2 k j) * Ideal.ofBits FTy.f32 1043900987#32) (Fin.ext ?_))) <;> (dsimp only; omega)
  exact z_apply m c t r b s h _ _ _ scale_pos.1 scale_pos.2 hw

include h in
theorem z_768 (l : Fin 128) : z m c t (ix2 r ⟨768 + l.val, by omega⟩) = row m c b s ⟨1840 + l.val, by omega⟩ * Ideal.ofBits FTy.f32 1043900987#32 := by
  have hw : ∀ k : Fin 1024, h_v252 (F := Ideal) (wIn m c) (ix2 k ⟨768 + l.val, by omega⟩)
      = wIn m c (ix2 k ⟨1840 + l.val, by omega⟩) * Ideal.ofBits FTy.f32 1043900987#32 := fun k => by
    refine Eq.trans (congrArg (fun j => h_v252 (F := Ideal) (wIn m c) (ix2 k j)) (Fin.ext ?_))
      ((w_dq (wIn m c) k (⟨0 + l.val, by omega⟩ : Fin 256) (by dsimp only; omega) (by dsimp only; omega)).trans
        (congrArg (fun j => wIn m c (ix2 k j) * Ideal.ofBits FTy.f32 1043900987#32) (Fin.ext ?_))) <;> (dsimp only; omega)
  exact z_apply m c t r b s h _ _ _ scale_pos.1 scale_pos.2 hw

include h in
theorem z_896 (l : Fin 128) : z m c t (ix2 r ⟨896 + l.val, by omega⟩) = row m c b s ⟨1968 + l.val, by omega⟩ * Ideal.ofBits FTy.f32 1043900987#32 := by
  have hw : ∀ k : Fin 1024, h_v252 (F := Ideal) (wIn m c) (ix2 k ⟨896 + l.val, by omega⟩)
      = wIn m c (ix2 k ⟨1968 + l.val, by omega⟩) * Ideal.ofBits FTy.f32 1043900987#32 := fun k => by
    refine Eq.trans (congrArg (fun j => h_v252 (F := Ideal) (wIn m c) (ix2 k j)) (Fin.ext ?_))
      ((w_dq (wIn m c) k (⟨128 + l.val, by omega⟩ : Fin 256) (by dsimp only; omega) (by dsimp only; omega)).trans
        (congrArg (fun j => wIn m c (ix2 k j) * Ideal.ofBits FTy.f32 1043900987#32) (Fin.ext ?_))) <;> (dsimp only; omega)
  exact z_apply m c t r b s h _ _ _ scale_pos.1 scale_pos.2 hw

include h in
theorem z_1024 (l : Fin 128) : z m c t (ix2 r ⟨1024 + l.val, by omega⟩) = row m c b s ⟨672 + l.val, by omega⟩ := by
  have hw : ∀ k : Fin 1024, h_v252 (F := Ideal) (wIn m c) (ix2 k ⟨1024 + l.val, by omega⟩)
      = wIn m c (ix2 k ⟨672 + l.val, by omega⟩) * Ideal.ofBits FTy.f32 1065353216#32 := fun k => by
    refine Eq.trans (congrArg (fun j => h_v252 (F := Ideal) (wIn m c) (ix2 k j)) (Fin.ext ?_))
      ((w_c (wIn m c) k (⟨0 + l.val, by omega⟩ : Fin 384) (by dsimp only; omega) (by dsimp only; omega)).trans
        (congrArg (fun j => wIn m c (ix2 k j) * Ideal.ofBits FTy.f32 1065353216#32) (Fin.ext ?_))) <;> (dsimp only; omega)
  exact z_one m c t r b s h _ _ hw

include h in
theorem z_1152 (l : Fin 128) : z m c t (ix2 r ⟨1152 + l.val, by omega⟩) = row m c b s ⟨800 + l.val, by omega⟩ := by
  have hw : ∀ k : Fin 1024, h_v252 (F := Ideal) (wIn m c) (ix2 k ⟨1152 + l.val, by omega⟩)
      = wIn m c (ix2 k ⟨800 + l.val, by omega⟩) * Ideal.ofBits FTy.f32 1065353216#32 := fun k => by
    refine Eq.trans (congrArg (fun j => h_v252 (F := Ideal) (wIn m c) (ix2 k j)) (Fin.ext ?_))
      ((w_c (wIn m c) k (⟨128 + l.val, by omega⟩ : Fin 384) (by dsimp only; omega) (by dsimp only; omega)).trans
        (congrArg (fun j => wIn m c (ix2 k j) * Ideal.ofBits FTy.f32 1065353216#32) (Fin.ext ?_))) <;> (dsimp only; omega)
  exact z_one m c t r b s h _ _ hw

include h in
theorem z_1280 (l : Fin 128) : z m c t (ix2 r ⟨1280 + l.val, by omega⟩) = row m c b s ⟨928 + l.val, by omega⟩ := by
  have hw : ∀ k : Fin 1024, h_v252 (F := Ideal) (wIn m c) (ix2 k ⟨1280 + l.val, by omega⟩)
      = wIn m c (ix2 k ⟨928 + l.val, by omega⟩) * Ideal.ofBits FTy.f32 1065353216#32 := fun k => by
    refine Eq.trans (congrArg (fun j => h_v252 (F := Ideal) (wIn m c) (ix2 k j)) (Fin.ext ?_))
      ((w_c (wIn m c) k (⟨256 + l.val, by omega⟩ : Fin 384) (by dsimp only; omega) (by dsimp only; omega)).trans
        (congrArg (fun j => wIn m c (ix2 k j) * Ideal.ofBits FTy.f32 1065353216#32) (Fin.ext ?_))) <;> (dsimp only; omega)
  exact z_one m c t r b s h _ _ hw

include h in
theorem z_1408 (l : Fin 128) : z m c t (ix2 r ⟨1408 + l.val, by omega⟩) = row m c b s ⟨2096 + l.val, by omega⟩ := by
  have hw : ∀ k : Fin 1024, h_v252 (F := Ideal) (wIn m c) (ix2 k ⟨1408 + l.val, by omega⟩)
      = wIn m c (ix2 k ⟨2096 + l.val, by omega⟩) * Ideal.ofBits FTy.f32 1065353216#32 := fun k => by
    refine Eq.trans (congrArg (fun j => h_v252 (F := Ideal) (wIn m c) (ix2 k j)) (Fin.ext ?_))
      ((w_dk (wIn m c) k (⟨0 + l.val, by omega⟩ : Fin 128) (by dsimp only; omega) (by dsimp only; omega)).trans
        (congrArg (fun j => wIn m c (ix2 k j) * Ideal.ofBits FTy.f32 1065353216#32) (Fin.ext ?_))) <;> (dsimp only; omega)
  exact z_one m c t r b s h _ _ hw

end Final

theorem point12 (c : Dev nD) (t : Fin cfg0.N) (y : S256x896.Idx) :
    (outsAt0 m c t.val t.isLt).2.1 y
      = Cert.Reference4Ideal.Read.val_main_v139 (F := Ideal) (xIn m c) (pIn m c) (gIn m c) (wIn m c) (((cfg0.win 12).blk t).view.emb y) := by
  have ht : t.val < 64 := t.isLt
  have hy : (y 0).val < 256 := (y 0).isLt
  have e : ((cfg0.win 12).blk t).view.emb y = ix2 ⟨t.val * 256 + (y 0).val, by omega⟩ (y 1) := by blk_ext [idx t]
  refine Eq.trans ?_ (congrArg _ e).symm
  obtain ⟨b, s, hr⟩ : ∃ (b : Fin 8) (s : Fin 2048), b.val * 2048 + s.val = t.val * 256 + (y 0).val :=
    ⟨⟨(t.val * 256 + (y 0).val) / 2048, by omega⟩, ⟨(t.val * 256 + (y 0).val) % 2048, by omega⟩,
      by show _ / 2048 * 2048 + _ % 2048 = _; omega⟩
  refine Eq.trans ?_ (Cert.Reference4Ideal.InRef.v139_apply _ _ _ _ _ _ b s hr).symm
  rw [outs12]
  exact bmTiles_apply _ _ _ _ _ _ y (kc_apply m c t (y 0) b s hr) (ks_apply m c t (y 0) b s hr) (z_1408 m c t (y 0) b s hr) (z_1280 m c t (y 0) b s hr) (z_1152 m c t (y 0) b s hr)
    (z_896 m c t (y 0) b s hr) (z_768 m c t (y 0) b s hr) (z_640 m c t (y 0) b s hr) (z_512 m c t (y 0) b s hr)

theorem final12 (c : Dev nD) : (dats m 0 c).arrAt 12 cfg0.N
    = Cert.Reference4Ideal.Read.val_main_v139 (F := Ideal) (xIn m c) (pIn m c) (gIn m c) (wIn m c) := by
  refine (dats m 0 c).arrAt_eq_of_covers 12 _ (by decide +kernel) fun t _ y => ?_
  blk_simp
  rw [after0_12]
  exact point12 m c t y

theorem point13 (c : Dev nD) (t : Fin cfg0.N) (y : S256x128.Idx) :
    (outsAt0 m c t.val t.isLt).2.2.1 y
      = Cert.Reference4Ideal.Read.val_main_v141 (F := Ideal) (xIn m c) (pIn m c) (gIn m c) (wIn m c) (((cfg0.win 13).blk t).view.emb y) := by
  have ht : t.val < 64 := t.isLt
  have hy : (y 0).val < 256 := (y 0).isLt
  have e : ((cfg0.win 13).blk t).view.emb y = ix2 ⟨t.val * 256 + (y 0).val, by omega⟩ (y 1) := by blk_ext [idx t]
  refine Eq.trans ?_ (congrArg _ e).symm
  obtain ⟨b, s, hr⟩ : ∃ (b : Fin 8) (s : Fin 2048), b.val * 2048 + s.val = t.val * 256 + (y 0).val :=
    ⟨⟨(t.val * 256 + (y 0).val) / 2048, by omega⟩, ⟨(t.val * 256 + (y 0).val) % 2048, by omega⟩,
      by show _ / 2048 * 2048 + _ % 2048 = _; omega⟩
  refine Eq.trans ?_ (Cert.Reference4Ideal.InRef.v141_apply _ _ _ _ _ _ b s hr).symm
  rw [outs13]
  refine (congrArg _ (eq_ix2 y)).trans ((half_stored _ _ _ _ _ 1024 (by omega) _ (y 0) (y 1) (kc_apply m c t (y 0) b s hr) (ks_apply m c t (y 0) b s hr)).trans ?_)
  refine Eq.trans ?_ (Cert.Reference4Ideal.InRef.kvc_0 _ _ _ (y 1)).symm
  exact if_congr Iff.rfl (congrArg (fun f => turned 128 f _ _ (y 1)) (funext (z_1024 m c t (y 0) b s hr))) (z_1024 m c t (y 0) b s hr (y 1))

theorem final13 (c : Dev nD) : (dats m 0 c).arrAt 13 cfg0.N
    = Cert.Reference4Ideal.Read.val_main_v141 (F := Ideal) (xIn m c) (pIn m c) (gIn m c) (wIn m c) := by
  refine (dats m 0 c).arrAt_eq_of_covers 13 _ (by decide +kernel) fun t _ y => ?_
  blk_simp
  rw [after0_13]
  exact point13 m c t y

theorem point16 (c : Dev nD) (t : Fin cfg0.N) (y : S256x768.Idx) :
    (outsAt0 m c t.val t.isLt).2.2.2.2.2.1 y
      = Cert.Reference4Ideal.Read.val_main_v143 (F := Ideal) (xIn m c) (gIn m c) (wIn m c) (((cfg0.win 16).blk t).view.emb y) := by
  have ht : t.val < 64 := t.isLt
  have hy : (y 0).val < 256 := (y 0).isLt
  have e : ((cfg0.win 16).blk t).view.emb y = ix2 ⟨t.val * 256 + (y 0).val, by omega⟩ (y 1) := by blk_ext [idx t]
  refine Eq.trans ?_ (congrArg _ e).symm
  obtain ⟨b, s, hr⟩ : ∃ (b : Fin 8) (s : Fin 2048), b.val * 2048 + s.val = t.val * 256 + (y 0).val :=
    ⟨⟨(t.val * 256 + (y 0).val) / 2048, by omega⟩, ⟨(t.val * 256 + (y 0).val) % 2048, by omega⟩,
      by show _ / 2048 * 2048 + _ % 2048 = _; omega⟩
  refine Eq.trans ?_ (Cert.Reference4Ideal.InRef.v143_apply _ _ _ _ _ b s hr).symm
  rw [outs16]
  exact (congrArg _ (eq_ix2 y)).trans ((pay3_apply _ (y 0) (y 1)).trans (e_apply m c t (y 0) b s hr (y 1)))

theorem final16 (c : Dev nD) : (dats m 0 c).arrAt 16 cfg0.N
    = Cert.Reference4Ideal.Read.val_main_v143 (F := Ideal) (xIn m c) (gIn m c) (wIn m c) := by
  refine (dats m 0 c).arrAt_eq_of_covers 16 _ (by decide +kernel) fun t _ y => ?_
  blk_simp
  rw [after0_16]
  exact point16 m c t y

end Cert.Kernel4Ideal.InValue
-- ==== Proof.IdxWeights.lean ====
/-
  The indexer's packed weights, as the host operations' values.
-/
module

public import proofs.«01_k».proof.Proof.InWeights

@[expose] public section

set_option maxRecDepth 16384
set_option maxHeartbeats 2000000

noncomputable section

namespace Cert.Kernel4Ideal.IdxWeights

open Idealize.ShloMosaic Idealize.SL.Sem
open Cert.Kernel4Ideal Cert.Kernel4Ideal.Gen Cert.Kernel4Ideal.InWeights

theorem w_qi (x : (⟨S1024x6616, .f32⟩ : BufTy).Contents (Elt Ideal)) (k : Fin 1024) (l : Fin 256) (h0 : 1536 + l.val < 3200)
    (h1 : 2224 + l.val < 6616) :
    h_v252 (F := Ideal) x (ix2 k ⟨1536 + l.val, h0⟩) = x (ix2 k ⟨2224 + l.val, h1⟩) * Ideal.ofBits FTy.f32 1031798784#32 := by
  have hl := l.isLt
  have e1 : h_v251 (F := Ideal) x (ix2 k ⟨1536 + l.val, h0⟩) = h_v249 (F := Ideal) x (ix2 k ⟨1536 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1536 + l.val, by omega⟩) = h_v209 (F := Ideal) x (ix2 k ⟨0 + l.val, by omega⟩) := by
    unfold h_v249
    exact concatenate_apply_piece (t := S1024x2016) 1 _ _ _ 8 (by simp) S1024x256 _ rfl rfl 1536 rfl _
      (fun b hb => by fin_cases b <;> [rfl; exact absurd rfl hb]) (by show 1536 + (0 + l.val) = 1536 + l.val; omega)
  refine (show h_v252 (F := Ideal) x (ix2 k ⟨1536 + l.val, h0⟩) = h_v251 (F := Ideal) x (ix2 k ⟨1536 + l.val, h0⟩) from rfl).trans (e1.trans (e2.trans ?_))
  pointwise [h_v209, h_v207, h_v186, h_v208, h_cst_77]

theorem w_ki0 (x : (⟨S1024x6616, .f32⟩ : BufTy).Contents (Elt Ideal)) (k : Fin 1024) (l : Fin 32) (h0 : 1792 + l.val < 3200)
    (h1 : 2480 + l.val < 6616) :
    h_v252 (F := Ideal) x (ix2 k ⟨1792 + l.val, h0⟩) = x (ix2 k ⟨2480 + l.val, h1⟩) * Ideal.ofBits FTy.f32 1065353216#32 := by
  have hl := l.isLt
  have e1 : h_v251 (F := Ideal) x (ix2 k ⟨1792 + l.val, h0⟩) = h_v249 (F := Ideal) x (ix2 k ⟨1792 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1792 + l.val, by omega⟩) = h_v212 (F := Ideal) x (ix2 k ⟨0 + l.val, by omega⟩) := by
    unfold h_v249
    exact concatenate_apply_piece (t := S1024x2016) 1 _ _ _ 9 (by simp) S1024x32 _ rfl rfl 1792 rfl _
      (fun b hb => by fin_cases b <;> [rfl; exact absurd rfl hb]) (by show 1792 + (0 + l.val) = 1792 + l.val; omega)
  refine (show h_v252 (F := Ideal) x (ix2 k ⟨1792 + l.val, h0⟩) = h_v251 (F := Ideal) x (ix2 k ⟨1792 + l.val, h0⟩) from rfl).trans (e1.trans (e2.trans ?_))
  pointwise [h_v212, h_v210, h_v186, h_v211, h_cst_78]

theorem w_ki1 (x : (⟨S1024x6616, .f32⟩ : BufTy).Contents (Elt Ideal)) (k : Fin 1024) (l : Fin 32) (h0 : 1824 + l.val < 3200)
    (h1 : 2480 + l.val < 6616) :
    h_v252 (F := Ideal) x (ix2 k ⟨1824 + l.val, h0⟩) = x (ix2 k ⟨2480 + l.val, h1⟩) * Ideal.ofBits FTy.f32 1065353216#32 := by
  have hl := l.isLt
  have e1 : h_v251 (F := Ideal) x (ix2 k ⟨1824 + l.val, h0⟩) = h_v249 (F := Ideal) x (ix2 k ⟨1824 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1824 + l.val, by omega⟩) = h_v215 (F := Ideal) x (ix2 k ⟨0 + l.val, by omega⟩) := by
    unfold h_v249
    exact concatenate_apply_piece (t := S1024x2016) 1 _ _ _ 10 (by simp) S1024x32 _ rfl rfl 1824 rfl _
      (fun b hb => by fin_cases b <;> [rfl; exact absurd rfl hb]) (by show 1824 + (0 + l.val) = 1824 + l.val; omega)
  refine (show h_v252 (F := Ideal) x (ix2 k ⟨1824 + l.val, h0⟩) = h_v251 (F := Ideal) x (ix2 k ⟨1824 + l.val, h0⟩) from rfl).trans (e1.trans (e2.trans ?_))
  pointwise [h_v215, h_v213, h_v186, h_v214, h_cst_79]

theorem w_ki2 (x : (⟨S1024x6616, .f32⟩ : BufTy).Contents (Elt Ideal)) (k : Fin 1024) (l : Fin 32) (h0 : 1856 + l.val < 3200)
    (h1 : 2480 + l.val < 6616) :
    h_v252 (F := Ideal) x (ix2 k ⟨1856 + l.val, h0⟩) = x (ix2 k ⟨2480 + l.val, h1⟩) * Ideal.ofBits FTy.f32 1065353216#32 := by
  have hl := l.isLt
  have e1 : h_v251 (F := Ideal) x (ix2 k ⟨1856 + l.val, h0⟩) = h_v249 (F := Ideal) x (ix2 k ⟨1856 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1856 + l.val, by omega⟩) = h_v218 (F := Ideal) x (ix2 k ⟨0 + l.val, by omega⟩) := by
    unfold h_v249
    exact concatenate_apply_piece (t := S1024x2016) 1 _ _ _ 11 (by simp) S1024x32 _ rfl rfl 1856 rfl _
      (fun b hb => by fin_cases b <;> [rfl; exact absurd rfl hb]) (by show 1856 + (0 + l.val) = 1856 + l.val; omega)
  refine (show h_v252 (F := Ideal) x (ix2 k ⟨1856 + l.val, h0⟩) = h_v251 (F := Ideal) x (ix2 k ⟨1856 + l.val, h0⟩) from rfl).trans (e1.trans (e2.trans ?_))
  pointwise [h_v218, h_v216, h_v186, h_v217, h_cst_80]

theorem w_ki3 (x : (⟨S1024x6616, .f32⟩ : BufTy).Contents (Elt Ideal)) (k : Fin 1024) (l : Fin 32) (h0 : 1888 + l.val < 3200)
    (h1 : 2480 + l.val < 6616) :
    h_v252 (F := Ideal) x (ix2 k ⟨1888 + l.val, h0⟩) = x (ix2 k ⟨2480 + l.val, h1⟩) * Ideal.ofBits FTy.f32 1065353216#32 := by
  have hl := l.isLt
  have e1 : h_v251 (F := Ideal) x (ix2 k ⟨1888 + l.val, h0⟩) = h_v249 (F := Ideal) x (ix2 k ⟨1888 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1888 + l.val, by omega⟩) = h_v221 (F := Ideal) x (ix2 k ⟨0 + l.val, by omega⟩) := by
    unfold h_v249
    exact concatenate_apply_piece (t := S1024x2016) 1 _ _ _ 12 (by simp) S1024x32 _ rfl rfl 1888 rfl _
      (fun b hb => by fin_cases b <;> [rfl; exact absurd rfl hb]) (by show 1888 + (0 + l.val) = 1888 + l.val; omega)
  refine (show h_v252 (F := Ideal) x (ix2 k ⟨1888 + l.val, h0⟩) = h_v251 (F := Ideal) x (ix2 k ⟨1888 + l.val, h0⟩) from rfl).trans (e1.trans (e2.trans ?_))
  pointwise [h_v221, h_v219, h_v186, h_v220, h_cst_81]

theorem w_ki4 (x : (⟨S1024x6616, .f32⟩ : BufTy).Contents (Elt Ideal)) (k : Fin 1024) (l : Fin 32) (h0 : 1920 + l.val < 3200)
    (h1 : 2480 + l.val < 6616) :
    h_v252 (F := Ideal) x (ix2 k ⟨1920 + l.val, h0⟩) = x (ix2 k ⟨2480 + l.val, h1⟩) * Ideal.ofBits FTy.f32 1065353216#32 := by
  have hl := l.isLt
  have e1 : h_v251 (F := Ideal) x (ix2 k ⟨1920 + l.val, h0⟩) = h_v249 (F := Ideal) x (ix2 k ⟨1920 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1920 + l.val, by omega⟩) = h_v224 (F := Ideal) x (ix2 k ⟨0 + l.val, by omega⟩) := by
    unfold h_v249
    exact concatenate_apply_piece (t := S1024x2016) 1 _ _ _ 13 (by simp) S1024x32 _ rfl rfl 1920 rfl _
      (fun b hb => by fin_cases b <;> [rfl; exact absurd rfl hb]) (by show 1920 + (0 + l.val) = 1920 + l.val; omega)
  refine (show h_v252 (F := Ideal) x (ix2 k ⟨1920 + l.val, h0⟩) = h_v251 (F := Ideal) x (ix2 k ⟨1920 + l.val, h0⟩) from rfl).trans (e1.trans (e2.trans ?_))
  pointwise [h_v224, h_v222, h_v186, h_v223, h_cst_82]

theorem w_ki5 (x : (⟨S1024x6616, .f32⟩ : BufTy).Contents (Elt Ideal)) (k : Fin 1024) (l : Fin 32) (h0 : 1952 + l.val < 3200)
    (h1 : 2480 + l.val < 6616) :
    h_v252 (F := Ideal) x (ix2 k ⟨1952 + l.val, h0⟩) = x (ix2 k ⟨2480 + l.val, h1⟩) * Ideal.ofBits FTy.f32 1065353216#32 := by
  have hl := l.isLt
  have e1 : h_v251 (F := Ideal) x (ix2 k ⟨1952 + l.val, h0⟩) = h_v249 (F := Ideal) x (ix2 k ⟨1952 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1952 + l.val, by omega⟩) = h_v227 (F := Ideal) x (ix2 k ⟨0 + l.val, by omega⟩) := by
    unfold h_v249
    exact concatenate_apply_piece (t := S1024x2016) 1 _ _ _ 14 (by simp) S1024x32 _ rfl rfl 1952 rfl _
      (fun b hb => by fin_cases b <;> [rfl; exact absurd rfl hb]) (by show 1952 + (0 + l.val) = 1952 + l.val; omega)
  refine (show h_v252 (F := Ideal) x (ix2 k ⟨1952 + l.val, h0⟩) = h_v251 (F := Ideal) x (ix2 k ⟨1952 + l.val, h0⟩) from rfl).trans (e1.trans (e2.trans ?_))
  pointwise [h_v227, h_v225, h_v186, h_v226, h_cst_83]

theorem w_ki6 (x : (⟨S1024x6616, .f32⟩ : BufTy).Contents (Elt Ideal)) (k : Fin 1024) (l : Fin 32) (h0 : 1984 + l.val < 3200)
    (h1 : 2480 + l.val < 6616) :
    h_v252 (F := Ideal) x (ix2 k ⟨1984 + l.val, h0⟩) = x (ix2 k ⟨2480 + l.val, h1⟩) * Ideal.ofBits FTy.f32 1065353216#32 := by
  have hl := l.isLt
  have e1 : h_v251 (F := Ideal) x (ix2 k ⟨1984 + l.val, h0⟩) = h_v249 (F := Ideal) x (ix2 k ⟨1984 + l.val, by omega⟩) := by
    unfold h_v251
    exact concatenate_apply_piece (t := S1024x3200) 1 _ _ _ 0 (by simp) S1024x2016 _ rfl rfl 0 rfl _
      (fun b hb => by fin_cases b <;> [rfl; exact absurd rfl hb]) (Nat.zero_add _)
  have e2 : h_v249 (F := Ideal) x (ix2 k ⟨1984 + l.val, by omega⟩) = h_v230 (F := Ideal) x (ix2 k ⟨0 + l.val, by omega⟩) := by
    unfold h_v249
    exact concatenate_apply_piece (t := S1024x2016) 1 _ _ _ 15 (by simp) S1024x32 _ rfl rfl 1984 rfl _
      (fun b hb => by fin_cases b <;> [rfl; exact absurd rfl hb]) (by show 1984 + (0 + l.val) = 1984 + l.val; omega)
  refine (show h_v252 (F := Ideal) x (ix2 k ⟨1984 + l.val, h0⟩) = h_v251 (F := Ideal) x (ix2 k ⟨1984 + l.val, h0⟩) from rfl).trans (e1.trans (e2.trans ?_))
  pointwise [h_v230, h_v228, h_v186, h_v229, h_cst_84]

theorem w_ki7 (x : (⟨S1024x6616, .f32⟩ : BufTy).Contents (Elt Ideal)) (k : Fin 1024) (l : Fin 32) (h0 : 2016 + l.val < 3200)
    (h1 : 2480 + l.val < 6616) :
    h_v252 (F := Ideal) x (ix2 k ⟨2016 + l.val, h0⟩) = x (ix2 k ⟨2480 + l.val, h1⟩) * Ideal.ofBits FTy.f32 1065353216#32 := by
  have hl := l.isLt
  have e1 : h_v251 (F := Ideal) x (ix2 k ⟨2016 + l.val, h0⟩) = h_v250 (F := Ideal) x (ix2 k ⟨0 + l.val, by omega⟩) := by
    unfold h_v251
    exact concatenate_apply_piece (t := S1024x3200) 1 _ _ _ 1 (by simp) S1024x1184 _ rfl rfl 2016 rfl _
      (fun b hb => by fin_cases b <;> [rfl; exact absurd rfl hb]) (by show 2016 + (0 + l.val) = 2016 + l.val; omega)
  have e2 : h_v250 (F := Ideal) x (ix2 k ⟨0 + l.val, by omega⟩) = h_v233 (F := Ideal) x (ix2 k ⟨0 + l.val, by omega⟩) := by
    unfold h_v250
    exact concatenate_apply_piece (t := S1024x1184) 1 _ _ _ 0 (by simp) S1024x32 _ rfl rfl 0 rfl _
      (fun b hb => by fin_cases b <;> [rfl; exact absurd rfl hb]) (by show 0 + (0 + l.val) = 0 + l.val; omega)
  refine (show h_v252 (F := Ideal) x (ix2 k ⟨2016 + l.val, h0⟩) = h_v251 (F := Ideal) x (ix2 k ⟨2016 + l.val, h0⟩) from rfl).trans (e1.trans (e2.trans ?_))
  pointwise [h_v233, h_v231, h_v186, h_v232, h_cst_85]

/-- Every repetition of the index keys' weights is the same 32 columns. -/
theorem w_ki (x : (⟨S1024x6616, .f32⟩ : BufTy).Contents (Elt Ideal)) (k : Fin 1024) (l : Fin 256) (h0 : 1792 + l.val < 3200)
    (h1 : 2480 + l.val % 32 < 6616) :
    h_v252 (F := Ideal) x (ix2 k ⟨1792 + l.val, h0⟩) = x (ix2 k ⟨2480 + l.val % 32, h1⟩) * Ideal.ofBits FTy.f32 1065353216#32 := by
  have hl := l.isLt
  have at_ : ∀ (o : Nat) (ho : o + 32 ≤ 3200) (_ : 1792 + l.val = o + l.val % 32)
      (_ : ∀ (l : Fin 32) (h0 : o + l.val < 3200) (h1 : 2480 + l.val < 6616), h_v252 (F := Ideal) x (ix2 k ⟨o + l.val, h0⟩)
        = x (ix2 k ⟨2480 + l.val, h1⟩) * Ideal.ofBits FTy.f32 1065353216#32),
      h_v252 (F := Ideal) x (ix2 k ⟨1792 + l.val, h0⟩) = x (ix2 k ⟨2480 + l.val % 32, h1⟩) * Ideal.ofBits FTy.f32 1065353216#32 :=
    fun o ho e w => (congrArg (fun j => h_v252 (F := Ideal) x (ix2 k j)) (Fin.ext e)).trans
      (w ⟨l.val % 32, by omega⟩ (by dsimp only; omega) (by dsimp only; omega))
  have hq : l.val / 32 = 0 ∨ l.val / 32 = 1 ∨ l.val / 32 = 2 ∨ l.val / 32 = 3 ∨ l.val / 32 = 4 ∨ l.val / 32 = 5 ∨ l.val / 32 = 6
      ∨ l.val / 32 = 7 := by omega
  rcases hq with h | h | h | h | h | h | h | h
  · exact at_ 1792 (by omega) (by omega) fun l => w_ki0 x k l
  · exact at_ 1824 (by omega) (by omega) fun l => w_ki1 x k l
  · exact at_ 1856 (by omega) (by omega) fun l => w_ki2 x k l
  · exact at_ 1888 (by omega) (by omega) fun l => w_ki3 x k l
  · exact at_ 1920 (by omega) (by omega) fun l => w_ki4 x k l
  · exact at_ 1952 (by omega) (by omega) fun l => w_ki5 x k l
  · exact at_ 1984 (by omega) (by omega) fun l => w_ki6 x k l
  · exact at_ 2016 (by omega) (by omega) fun l => w_ki7 x k l

end Cert.Kernel4Ideal.IdxWeights
-- ==== Proof.IdxPay.lean ====
/-
  The indexer's payloads: one rotated tile of 32-lane heads, read at a row and a lane.
-/
module

public import proofs.«01_k».proof.Proof.InPay

@[expose] public section

set_option maxRecDepth 16384

noncomputable section

namespace Cert.Kernel4Ideal.IdxPay

open Idealize.ShloMosaic Idealize.SL.Sem
open Cert.Kernel4Ideal Cert.Kernel4Ideal.Gen Cert.Rows

/-- One tile of 128 lanes, rotated. -/
def tile (x c s : FVec Ideal S256x128 .f32) (k : IVec S256x128 1) : FVec Ideal S256x128 .f32 :=
  addf (mulf x c) (mulf (select k (dynamicRotate 1 124#32 none x rotates_S256x128_d1)
    (dynamicRotate 1 4#32 none x rotates_S256x128_d1)) s)

theorem tile_apply (x c s : FVec Ideal S256x128 .f32) (k : IVec S256x128 1) (r : Fin 256) (l : Fin 128) :
    tile x c s k (ix2 r l) = x (ix2 r l) * c (ix2 r l)
      + (if k (ix2 r l) = 1 then x (ix2 r ⟨(l.val + 4) % 128, by omega⟩)
          else x (ix2 r ⟨(l.val + 124) % 128, by omega⟩)) * s (ix2 r l) := by
  pointwise [tile]
  rfl

/-- The cosine's row of a tile whose first 8 lanes of every 32 turn. -/
def cosHead (C : Fin 4 → EReal) (l : Fin 128) : EReal :=
  if l.val % 32 < 8 then C ⟨l.val % 4, by omega⟩ else 1

/-- The sine's row, signed. -/
def sinHead (S : Fin 4 → EReal) (l : Fin 128) : EReal :=
  if l.val % 32 < 4 then -S ⟨l.val % 4, by omega⟩ else if l.val % 32 < 8 then S ⟨l.val % 4, by omega⟩ else 0

/-- A row of heads, the first 8 of every 32 lanes turned. -/
def turned (n : Nat) (x : Fin n → EReal) (C S : Fin 4 → EReal) (l : Fin n) : EReal :=
  if h : l.val % 32 < 4 ∧ l.val + 4 < n then x l * C ⟨l.val % 4, by omega⟩ - x ⟨l.val + 4, h.2⟩ * S ⟨l.val % 4, by omega⟩
  else if l.val % 32 < 8 then x l * C ⟨l.val % 4, by omega⟩ + x ⟨l.val - 4, by omega⟩ * S ⟨l.val % 4, by omega⟩
  else x l

section Turned

variable {N n o : Nat} (f : Fin N → EReal) (C S : Fin 4 → EReal) (ho : o + n ≤ N) (hn : n % 32 = 0) (j : Fin n)

include hn in
theorem turned_lo (a b : Fin N) (i i' : Fin 4) (h : j.val % 32 < 4) (ha : a.val = o + j.val) (hb : b.val = o + j.val + 4)
    (hi : i.val = j.val % 32) (hi' : i'.val = j.val % 32) :
    f a * C i - f b * S i' = turned n (fun l => f ⟨o + l.val, lt_of_lt_of_le (Nat.add_lt_add_left l.isLt o) ho⟩) C S j := by
  have hj := j.isLt
  unfold turned
  rw [dif_pos ⟨h, by omega⟩]
  have e1 : a = ⟨o + j.val, by omega⟩ := Fin.ext ha
  have e2 : b = ⟨o + (j.val + 4), by omega⟩ := Fin.ext (by show b.val = o + (j.val + 4); omega)
  have e3 : i = ⟨j.val % 4, by omega⟩ := Fin.ext (by show i.val = j.val % 4; omega)
  have e4 : i' = ⟨j.val % 4, by omega⟩ := Fin.ext (by show i'.val = j.val % 4; omega)
  exact congrArg₂ (· - ·) (congrArg₂ (· * ·) (congrArg f e1) (congrArg C e3)) (congrArg₂ (· * ·) (congrArg f e2) (congrArg S e4))

theorem turned_mid (a b : Fin N) (i i' : Fin 4) (h : 4 ≤ j.val % 32) (h' : j.val % 32 < 8) (ha : a.val = o + j.val)
    (hb : b.val + 4 = o + j.val) (hi : i.val = j.val % 32 - 4) (hi' : i'.val = j.val % 32 - 4) :
    f a * C i + f b * S i' = turned n (fun l => f ⟨o + l.val, lt_of_lt_of_le (Nat.add_lt_add_left l.isLt o) ho⟩) C S j := by
  unfold turned
  rw [dif_neg (by omega), if_pos h']
  have e1 : a = ⟨o + j.val, by omega⟩ := Fin.ext ha
  have e2 : b = ⟨o + (j.val - 4), by omega⟩ := Fin.ext (by show b.val = o + (j.val - 4); omega)
  have e3 : i = ⟨j.val % 4, by omega⟩ := Fin.ext (by show i.val = j.val % 4; omega)
  have e4 : i' = ⟨j.val % 4, by omega⟩ := Fin.ext (by show i'.val = j.val % 4; omega)
  exact congrArg₂ (· + ·) (congrArg₂ (· * ·) (congrArg f e1) (congrArg C e3)) (congrArg₂ (· * ·) (congrArg f e2) (congrArg S e4))

theorem turned_hi (a : Fin N) (h : 8 ≤ j.val % 32) (ha : a.val = o + j.val) :
    f a = turned n (fun l => f ⟨o + l.val, lt_of_lt_of_le (Nat.add_lt_add_left l.isLt o) ho⟩) C S j := by
  unfold turned
  rw [dif_neg (by omega), if_neg (by omega)]
  exact congrArg f (Fin.ext ha)

/-- The turned lane does not depend on how the row is cut into heads' runs. -/
theorem turned_move {m o' : Nat} (ho' : o' + m ≤ N) (hm : m % 32 = 0) (l : Fin m) (h : o + j.val = o' + l.val)
    (h32 : j.val % 32 = l.val % 32) (hn : n % 32 = 0) :
    turned n (fun l => f ⟨o + l.val, lt_of_lt_of_le (Nat.add_lt_add_left l.isLt o) ho⟩) C S j
      = turned m (fun l => f ⟨o' + l.val, lt_of_lt_of_le (Nat.add_lt_add_left l.isLt o') ho'⟩) C S l := by
  have hj := j.isLt
  have hl := l.isLt
  by_cases h1 : l.val % 32 < 4
  · rw [← turned_lo f C S ho' hm l ⟨o' + l.val, by omega⟩ ⟨o' + l.val + 4, by omega⟩ ⟨l.val % 32, h1⟩ ⟨l.val % 32, h1⟩ h1 rfl rfl rfl rfl]
    exact (turned_lo f C S ho hn j _ _ _ _ (by omega) h.symm (by show o' + l.val + 4 = _; omega) h32.symm h32.symm).symm
  · by_cases h2 : l.val % 32 < 8
    · rw [← turned_mid f C S ho' l ⟨o' + l.val, by omega⟩ ⟨o' + l.val - 4, by omega⟩ ⟨l.val % 32 - 4, by omega⟩ ⟨l.val % 32 - 4, by omega⟩ (by omega) h2 rfl
        (by show o' + l.val - 4 + 4 = _; omega) rfl rfl]
      exact (turned_mid f C S ho j _ _ _ _ (by omega) (by omega) h.symm (by show o' + l.val - 4 + 4 = _; omega)
        (by show l.val % 32 - 4 = _; omega) (by show l.val % 32 - 4 = _; omega)).symm
    · rw [← turned_hi f C S ho' l ⟨o' + l.val, by omega⟩ (by omega) rfl]
      exact (turned_hi f C S ho j _ (by omega) h.symm).symm

/-- A factor of every lane comes out of the turn. -/
theorem turned_scale (x : Fin n → EReal) (s : EReal) (h0 : 0 ≤ s) (ht : s ≠ ⊤) :
    turned n (fun l => x l * s) C S j = turned n x C S j * s := by
  have hd : ∀ a b c d : EReal, a * s * c - b * s * d = (a * c - b * d) * s := fun a b c d => by
    rw [sub_eq_add_neg, sub_eq_add_neg, EReal.right_distrib_of_nonneg_of_ne_top h0 ht, mul_right_comm, mul_right_comm b s d, neg_mul]
  have ha : ∀ a b c d : EReal, a * s * c + b * s * d = (a * c + b * d) * s := fun a b c d => by
    rw [EReal.right_distrib_of_nonneg_of_ne_top h0 ht, mul_right_comm, mul_right_comm b s d]
  unfold turned
  split
  · exact hd _ _ _ _
  · split
    · exact ha _ _ _ _
    · rfl

end Turned

theorem mask_apply (r : Fin 256) (l : Fin 128) :
    (k0_pay16 (iota .tc S256x128 32 [1] iota_S256x128_d1_w32) (ix2 r l) = 1) ↔ l.val % 32 < 4 := by
  have e : k0_pay16 (iota .tc S256x128 32 [1] iota_S256x128_d1_w32) (ix2 r l)
      = IntOp.cmpi .slt (IntOp.andi (BitVec.ofNat 32 l.val) 31#32) 4#32 := by
    pointwise [k0_pay16]
  rw [e]
  exact (by decide +kernel : ∀ l : Fin 128,
    IntOp.cmpi .slt (IntOp.andi (BitVec.ofNat 32 l.val) 31#32) 4#32 = 1 ↔ l.val % 32 < 4) l

theorem tile_head (x c s : FVec Ideal S256x128 .f32) (k : IVec S256x128 1) (C S : Fin 4 → EReal) (r : Fin 256) (l : Fin 128)
    (hc : c (ix2 r l) = cosHead C l) (hs : s (ix2 r l) = sinHead S l) (hk : k (ix2 r l) = 1 ↔ l.val % 32 < 4) :
    tile x c s k (ix2 r l) = turned 128 (fun l => x (ix2 r l)) C S l := by
  have hl := l.isLt
  rw [tile_apply, hc, hs]
  unfold cosHead sinHead turned
  by_cases h1 : l.val % 32 < 4
  · have e : (⟨(l.val + 4) % 128, by omega⟩ : Fin 128) = ⟨l.val + 4, by omega⟩ := Fin.ext (by show (l.val + 4) % 128 = l.val + 4; omega)
    rw [if_pos (hk.2 h1), if_pos h1, dif_pos ⟨h1, by omega⟩, if_pos (by omega), e]
    rw [sub_eq_add_neg, mul_neg]
  · rw [if_neg (fun h => h1 (hk.1 h)), if_neg h1, dif_neg (fun h => h1 h.1)]
    by_cases h2 : l.val % 32 < 8
    · have e : (⟨(l.val + 124) % 128, by omega⟩ : Fin 128) = ⟨l.val - 4, by omega⟩ := Fin.ext (by show (l.val + 124) % 128 = l.val - 4; omega)
      rw [if_pos h2, if_pos h2, if_pos h2, e]
    · rw [if_neg h2, if_neg h2, if_neg h2, mul_one, mul_zero, add_zero]

variable (z : FVec Ideal S256x3200 .f32) (c s : FVec Ideal S256x128 .f32) (C S : Fin 4 → EReal)

/-- A stored tile all of whose heads turn. -/
theorem head_stored (o : Nat) (ho : o + 128 ≤ 3200) (h : S256x3200.Slices ![0, o] S256x128) (r : Fin 256) (l : Fin 128)
    (ec : ∀ l, c (ix2 r l) = cosHead C l) (es : ∀ l, s (ix2 r l) = sinHead S l) :
    tile (extractStridedSlice S256x128 ![0, o] z h) c s (k0_pay16 (iota .tc S256x128 32 [1] iota_S256x128_d1_w32)) (ix2 r l)
      = turned 128 (fun l => z (ix2 r ⟨o + l.val, by omega⟩)) C S l := by
  rw [tile_head _ c s _ C S r l (ec l) (es l) (mask_apply r l)]
  exact congrArg (fun f => turned 128 f C S l) (funext fun l => InPay.slice_apply z o ho h r l)

end Cert.Kernel4Ideal.IdxPay
-- ==== Proof.IdxRef.lean ====
/-
  The indexer's packed rows: the reference read at an index.
-/
module

public import proofs.«01_k».proof.Proof.InRef
public import proofs.«01_k».proof.Proof.IdxPay

@[expose] public section

set_option maxRecDepth 16384

noncomputable section

namespace Cert.Reference4Ideal.IdxRef

open Idealize.ShloMosaic Idealize.SL.Sem
open Cert.Reference4Ideal Cert.Reference4Ideal.Read Cert.Rows Cert.Kernel4Ideal.IdxPay
open Cert.Reference4Ideal.InRef (proj v31_apply)

variable (x : FVec Ideal S8x2048x1024 .f32) (p : IVec S8x2048 32) (g : FVec Ideal S1024 .f32) (w : FVec Ideal S1024x6616 .f32)

/-- The rotation's rate of a lane. -/
def rate (i : Fin 4) : EReal :=
  Ideal.pow (Ideal.ofBits FTy.f32 1223959552#32)
    (Ideal.div (-(Ideal.ofBits FTy.f32 1073741824#32 * FloatOps.sitofp (F := Ideal) FTy.f32 (BitVec.ofNat 32 i.val)))
      (Ideal.ofBits FTy.f32 1090519040#32))

/-- The angle, its cosine and its sine. -/
def angle (p : IVec S8x2048 32) (b : Fin 8) (s : Fin 2048) (i : Fin 4) : EReal :=
  FloatOps.sitofp (F := Ideal) FTy.f32 (p (ix2 b s)) * rate i

def cosv (p : IVec S8x2048 32) (b : Fin 8) (s : Fin 2048) (i : Fin 4) : EReal := Ideal.cos (angle p b s i)

def sinv (p : IVec S8x2048 32) (b : Fin 8) (s : Fin 2048) (i : Fin 4) : EReal := Ideal.sin (angle p b s i)

theorem v153_apply (i : Fin 4) : val_main_v153 (F := Ideal) (ix1 i) = rate i := by
  pointwise [val_main_v153, val_main_v152, val_main_v151, val_main_v150, val_main_v149, val_main_v148, val_main_v147, val_main_v146, val_main_v145,
    val_main_v144, val_main_cst_9, val_main_cst_10, val_main_cst_11, val_main_cst_12]
  rfl

theorem v159_apply (b : Fin 8) (s : Fin 2048) (i : Fin 4) : val_main_v159 (F := Ideal) p (ix3 b s i) = angle p b s i := by
  pointwise [val_main_v159, val_main_v158, val_main_v157, val_main_v156, val_main_v155, val_main_v154, v153_apply]
  rfl

theorem v160_apply (b : Fin 8) (s : Fin 2048) (i : Fin 4) : val_main_v160 (F := Ideal) p (ix3 b s i) = cosv p b s i := by
  pointwise [val_main_v160, v159_apply]
  rfl

theorem v161_apply (b : Fin 8) (s : Fin 2048) (i : Fin 4) : val_main_v161 (F := Ideal) p (ix3 b s i) = sinv p b s i := by
  pointwise [val_main_v161, v159_apply]
  rfl

theorem v182_apply (b : Fin 8) (s : Fin 2048) (j : Fin 256) :
    val_main_v182 (F := Ideal) x p g w (ix3 b s j)
      = turned 256 (fun j => proj x g w b s ⟨2224 + j.val, by omega⟩) (cosv p b s) (sinv p b s) j := by
  pointwise [val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v162, val_main_v96, val_main_v35, v31_apply, v160_apply, v161_apply]
  split
  · refine turned_lo (o := 2224) (proj x g w b s) _ _ (by omega) (by omega) j _ _ _ _ ?_ ?_ ?_ ?_ ?_ <;> first | omega | (dsimp only; done) | (dsimp only; omega)
  · split
    · refine turned_mid (o := 2224) (proj x g w b s) _ _ (by omega) j _ _ _ _ ?_ ?_ ?_ ?_ ?_ ?_ <;> first | omega | (dsimp only; done) | (dsimp only; omega)
    · refine turned_hi (o := 2224) (proj x g w b s) _ _ (by omega) j _ ?_ ?_ <;> first | omega | (dsimp only; done) | (dsimp only; omega)

theorem v192_apply (b : Fin 8) (s : Fin 2048) (j : Fin 32) :
    val_main_v192 (F := Ideal) x p g w (ix3 b s j)
      = turned 32 (fun j => proj x g w b s ⟨2480 + j.val, by omega⟩) (cosv p b s) (sinv p b s) j := by
  pointwise [val_main_v192, val_main_v191, val_main_v190, val_main_v189, val_main_v188, val_main_v187, val_main_v186, val_main_v185, val_main_v184, val_main_v183, val_main_v163, val_main_v96, val_main_v35, v31_apply, v160_apply, v161_apply]
  split
  · refine turned_lo (o := 2480) (proj x g w b s) _ _ (by omega) (by omega) j _ _ _ _ ?_ ?_ ?_ ?_ ?_ <;> first | omega | (dsimp only; done) | (dsimp only; omega)
  · split
    · refine turned_mid (o := 2480) (proj x g w b s) _ _ (by omega) j _ _ _ _ ?_ ?_ ?_ ?_ ?_ ?_ <;> first | omega | (dsimp only; done) | (dsimp only; omega)
    · refine turned_hi (o := 2480) (proj x g w b s) _ _ (by omega) j _ ?_ ?_ <;> first | omega | (dsimp only; done) | (dsimp only; omega)

/-- The packed rows: the scaled queries' heads, then the key eight times. -/
def idxRow (P : Fin 6616 → EReal) (C S : Fin 4 → EReal) (j : Fin 512) : EReal :=
  if h : j.val < 256 then
    turned 256 (fun l => P ⟨2224 + l.val, by omega⟩) C S ⟨j.val, h⟩ * Ideal.ofBits FTy.f32 1031798784#32
  else turned 32 (fun l => P ⟨2480 + l.val, by omega⟩) C S ⟨(j.val - 256) % 32, by omega⟩

theorem v197_apply (a : Fin 16384) (j : Fin 512) (b : Fin 8) (s : Fin 2048) (h : b.val * 2048 + s.val = a.val) :
    val_main_v197 (F := Ideal) x p g w (ix2 a j) = idxRow (proj x g w b s) (cosv p b s) (sinv p b s) j := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  pointwise [val_main_v197, val_main_v196, val_main_v195, val_main_v194, val_main_v193, val_main_cst_13, v182_apply, v192_apply]
  unfold idxRow
  split
  · rfl
  · repeat' split
    all_goals exact congrArg (turned 32 _ _ _) (Fin.ext (by dsimp only; omega))

section Tiles

variable (P : Fin 6616 → EReal) (C S : Fin 4 → EReal)

/-- The indexer's scale is a finite positive number. -/
theorem scale_pos : 0 ≤ Ideal.ofBits FTy.f32 1031798784#32 ∧ Ideal.ofBits FTy.f32 1031798784#32 ≠ ⊤ := by
  simp [Ideal.ofBits, Ideal.ieee]
  rw [← EReal.coe_mul]
  exact ⟨by rw [EReal.coe_nonneg]; positivity, EReal.coe_ne_top _⟩

theorem idx_0 (l : Fin 128) :
    idxRow P C S ⟨0 + l.val, by omega⟩ = turned 128 (fun l => P ⟨2224 + l.val, by omega⟩ * Ideal.ofBits FTy.f32 1031798784#32) C S l := by
  rw [turned_scale C S l (fun l => P ⟨2224 + l.val, by omega⟩) _ scale_pos.1 scale_pos.2]
  unfold idxRow
  rw [dif_pos (by dsimp only; omega)]
  refine congrArg (· * _) ?_
  exact turned_move (n := 256) (m := 128) (o := 2224) (o' := 2224) P C S (by omega) _ (by omega) (by omega) l (by dsimp only; omega) (by dsimp only; omega) (by omega)

theorem idx_1 (l : Fin 128) :
    idxRow P C S ⟨128 + l.val, by omega⟩ = turned 128 (fun l => P ⟨2352 + l.val, by omega⟩ * Ideal.ofBits FTy.f32 1031798784#32) C S l := by
  rw [turned_scale C S l (fun l => P ⟨2352 + l.val, by omega⟩) _ scale_pos.1 scale_pos.2]
  unfold idxRow
  rw [dif_pos (by dsimp only; omega)]
  refine congrArg (· * _) ?_
  exact turned_move (n := 256) (m := 128) (o := 2224) (o' := 2352) P C S (by omega) _ (by omega) (by omega) l (by dsimp only; omega) (by dsimp only; omega) (by omega)

/-- The repeated key's lanes turn head by head. -/
theorem turned_key (l : Fin 128) :
    turned 32 (fun l => P ⟨2480 + l.val, by omega⟩) C S ⟨l.val % 32, by omega⟩
      = turned 128 (fun l => P ⟨2480 + l.val % 32, by omega⟩) C S l := by
  have hl := l.isLt
  unfold turned
  dsimp only
  have e1 : (⟨2480 + l.val % 32 % 32, by omega⟩ : Fin 6616) = ⟨2480 + l.val % 32, by omega⟩ := Fin.ext (by dsimp only; omega)
  have e2 : (⟨l.val % 32 % 4, by omega⟩ : Fin 4) = ⟨l.val % 4, by omega⟩ := Fin.ext (by dsimp only; omega)
  by_cases h1 : l.val % 32 < 4
  · rw [dif_pos ⟨by omega, by omega⟩, dif_pos ⟨h1, by omega⟩, e2]
    exact congrArg (fun i => _ - P i * _) (Fin.ext (by dsimp only; omega))
  · rw [dif_neg (by omega), dif_neg (by omega), e2]
    by_cases h2 : l.val % 32 < 8
    · rw [if_pos (by omega), if_pos h2]
      exact congrArg (fun i => _ + P i * _) (Fin.ext (by dsimp only; omega))
    · rw [if_neg (by omega), if_neg h2]

theorem idx_2 (l : Fin 128) :
    idxRow P C S ⟨256 + l.val, by omega⟩ = turned 128 (fun l => P ⟨2480 + l.val % 32, by omega⟩) C S l := by
  rw [← turned_key P C S l]
  unfold idxRow
  rw [dif_neg (by dsimp only; omega)]
  exact congrArg (turned 32 _ _ _) (Fin.ext (by dsimp only; omega))

theorem idx_3 (l : Fin 128) :
    idxRow P C S ⟨384 + l.val, by omega⟩ = turned 128 (fun l => P ⟨2480 + l.val % 32, by omega⟩) C S l := by
  rw [← turned_key P C S l]
  unfold idxRow
  rw [dif_neg (by dsimp only; omega)]
  exact congrArg (turned 32 _ _ _) (Fin.ext (by dsimp only; omega))

end Tiles

end Cert.Reference4Ideal.IdxRef
-- ==== Proof.IdxTables.lean ====
/-
  The indexer's rotation tables: the product of the split rows and the places is the lane's cosine and sine.
-/
module

public import proofs.«01_k».proof.Proof.InTables
public import proofs.«01_k».proof.Proof.IdxRef

@[expose] public section

set_option maxRecDepth 16384

noncomputable section

namespace Cert.Kernel4Ideal.IdxTables

open Idealize.ShloMosaic Idealize.SL.Sem
open Cert.Kernel4Ideal Cert.Kernel4Ideal.Gen Cert.Kernel4Ideal.InHost Cert.Kernel4Ideal.IdxPay
open Cert.Kernel4Ideal.InTables (base_real two_real one_row tab_apply place_apply)
open Cert.Reference4Ideal.IdxRef (rate angle cosv sinv)

theorem cos_place : ∀ (r : Fin 64) (l : Fin 128), (h_v182 (F := Ideal) (ix2 r ⟨512 + l.val, by omega⟩) : BitVec 32)
    = if r.val = (if l.val % 32 < 8 then 48 + l.val % 4 else 56) then 1#32 else 0#32 := by decide +kernel

theorem sin_place : ∀ (r : Fin 64) (l : Fin 128), (h_v182 (F := Ideal) (ix2 r ⟨640 + l.val, by omega⟩) : BitVec 32)
    = if l.val % 32 < 8 ∧ r.val = 52 + l.val % 4 then (if l.val % 32 < 4 then 4294967295#32 else 1#32) else 0#32 := by decide +kernel

theorem width_real : ∃ a : ℝ, a ≠ 0 ∧ Ideal.ofBits FTy.f32 1090519040#32 = (a : EReal) := by
  simp [Ideal.ofBits, Ideal.ieee]
  exact ⟨_, by positivity, (EReal.coe_mul _ _).symm⟩

theorem rate_real (i : Fin 4) : ∃ r : ℝ, rate i = (r : EReal) := by
  obtain ⟨a, ha⟩ := base_real
  obtain ⟨b, hb⟩ := two_real
  obtain ⟨d, hd, hw⟩ := width_real
  unfold rate
  rw [ha, hb, hw, Ideal.div_coe hd]
  rw [show FloatOps.sitofp (F := Ideal) FTy.f32 (BitVec.ofNat 32 i.val) = (((BitVec.ofNat 32 i.val).toInt : ℝ) : EReal) from rfl]
  rw [← EReal.coe_mul, ← EReal.coe_neg, ← EReal.coe_mul]
  exact ⟨_, rfl⟩

variable (p : IVec S8x2048 32) (b : Fin 8) (s : Fin 2048)

theorem angle_real (i : Fin 4) : ∃ r : ℝ, angle p b s i = (r : EReal) := by
  obtain ⟨r, hr⟩ := rate_real i
  unfold angle
  rw [hr, show FloatOps.sitofp (F := Ideal) FTy.f32 (p (ix2 b s)) = (((p (ix2 b s)).toInt : ℝ) : EReal) from rfl, ← EReal.coe_mul]
  exact ⟨_, rfl⟩

theorem cosv_real (i : Fin 4) : ∃ r : ℝ, cosv p b s i = (r : EReal) := by
  obtain ⟨r, hr⟩ := angle_real p b s i
  unfold cosv
  rw [hr]
  exact ⟨_, rfl⟩

theorem sinv_real (i : Fin 4) : ∃ r : ℝ, sinv p b s i = (r : EReal) := by
  obtain ⟨r, hr⟩ := angle_real p b s i
  unfold sinv
  rw [hr]
  exact ⟨_, rfl⟩

theorem angle_apply (a : Fin 16384) (i : Fin 4) (h : b.val * 2048 + s.val = a.val) :
    h_v37 (F := Ideal) p (ix2 ⟨24 + i.val, by omega⟩ a) = angle p b s i := by
  have hs := s.isLt
  have hb : (⟨a.val / 2048, by omega⟩ : Fin 8) = b := Fin.ext (by show a.val / 2048 = b.val; omega)
  have hr : (⟨a.val % 2048, by omega⟩ : Fin 2048) = s := Fin.ext (by show a.val % 2048 = s.val; omega)
  rw [← hb, ← hr]
  have e : h_v33 (F := Ideal) (ix1 ⟨24 + i.val, by omega⟩) = rate i := by
    refine Eq.trans (b := h_v32 (F := Ideal) (ix1 i)) ?_ ?_
    · unfold h_v33
      exact concatenate_apply_piece (t := S28) 0 _ _ _ 2 (by simp) S4 _ rfl rfl 24 rfl _
        (fun b hb => by fin_cases b; exact absurd rfl hb) rfl
    · pointwise [h_v32, h_v31, h_cst_10, h_v30, h_v28, h_v27, h_v26, h_cst_8, h_v25, h_v24, h_cst_7, h_v23, h_v29, h_cst_9]
      rfl
  pointwise [h_v37, h_v36, h_v35, h_v34, h_v2, h_v1, h_v0, e]
  rw [mul_comm]
  rfl

theorem cos_row (a : Fin 16384) (i : Fin 4) (h : b.val * 2048 + s.val = a.val) :
    h_v47 (F := Ideal) p (ix2 ⟨48 + i.val, by omega⟩ a) = cosv p b s i := by
  refine Eq.trans (b := h_v44 (F := Ideal) p (ix2 i a)) ?_ ?_
  · unfold h_v47
    exact concatenate_apply_piece (t := S64x16384) 0 _ _ _ 4 (by simp) S4x16384 _ rfl rfl 48 rfl _
      (fun b hb => by fin_cases b <;> [exact absurd rfl hb; rfl]) rfl
  · pointwise [h_v44, h_v38]
    rw [angle_apply p b s a i h]
    rfl

theorem sin_row (a : Fin 16384) (i : Fin 4) (h : b.val * 2048 + s.val = a.val) :
    h_v47 (F := Ideal) p (ix2 ⟨52 + i.val, by omega⟩ a) = sinv p b s i := by
  refine Eq.trans (b := h_v45 (F := Ideal) p (ix2 i a)) ?_ ?_
  · unfold h_v47
    exact concatenate_apply_piece (t := S64x16384) 0 _ _ _ 5 (by simp) S4x16384 _ rfl rfl 52 rfl _
      (fun b hb => by fin_cases b <;> [exact absurd rfl hb; rfl]) rfl
  · pointwise [h_v45, h_v39]
    rw [angle_apply p b s a i h]
    rfl

theorem tab_cos (a : Fin 16384) (h : b.val * 2048 + s.val = a.val) (l : Fin 128) :
    ∑ k : Fin 256, h_v57 (F := Ideal) p (ix2 a k) * h_v185 (F := Ideal) (ix2 k ⟨512 + l.val, by omega⟩)
      = cosHead (cosv p b s) l := by
  unfold cosHead
  by_cases hn : l.val % 32 < 8
  · have hc := cos_row p b s a ⟨l.val % 4, by omega⟩ h
    obtain ⟨v, hv⟩ := cosv_real p b s ⟨l.val % 4, by omega⟩
    rw [if_pos hn, tab_apply p a ⟨512 + l.val, by omega⟩ ⟨48 + l.val % 4, by omega⟩ v (hc.trans hv) (fun r hr => ?_), hc]
    · rw [place_apply _ _ 1#32 ((cos_place ⟨48 + l.val % 4, by omega⟩ l).trans (by rw [if_pos hn, if_pos rfl]))]
      simp
    · rw [place_apply _ _ 0#32 ((cos_place r l).trans (by rw [if_pos hn, if_neg (fun e => hr (Fin.ext e))]))]
      simp
  · have hc : h_v47 (F := Ideal) p (ix2 56 a) = 1 := one_row p a 0
    rw [if_neg hn, tab_apply p a ⟨512 + l.val, by omega⟩ 56 1 (hc.trans EReal.coe_one.symm) (fun r hr => ?_), hc]
    · rw [place_apply _ _ 1#32 ((cos_place 56 l).trans (by rw [if_neg hn]; rfl))]
      simp
    · rw [place_apply _ _ 0#32 ((cos_place r l).trans (by rw [if_neg hn]; exact if_neg (fun e => hr (Fin.ext e))))]
      simp

theorem tab_sin (a : Fin 16384) (h : b.val * 2048 + s.val = a.val) (l : Fin 128) :
    ∑ k : Fin 256, h_v57 (F := Ideal) p (ix2 a k) * h_v185 (F := Ideal) (ix2 k ⟨640 + l.val, by omega⟩)
      = sinHead (sinv p b s) l := by
  unfold sinHead
  have hc := sin_row p b s a ⟨l.val % 4, by omega⟩ h
  obtain ⟨v, hv⟩ := sinv_real p b s ⟨l.val % 4, by omega⟩
  rw [tab_apply p a ⟨640 + l.val, by omega⟩ ⟨52 + l.val % 4, by omega⟩ v (hc.trans hv) (fun r hr => ?_), hc]
  · by_cases hm : l.val % 32 < 4
    · rw [if_pos hm, place_apply _ _ 4294967295#32 ((sin_place ⟨52 + l.val % 4, by omega⟩ l).trans (by rw [if_pos ⟨by omega, rfl⟩, if_pos hm]))]
      simp
    · rw [if_neg hm]
      by_cases hn : l.val % 32 < 8
      · rw [if_pos hn, place_apply _ _ 1#32 ((sin_place ⟨52 + l.val % 4, by omega⟩ l).trans (by rw [if_pos ⟨hn, rfl⟩, if_neg hm]))]
        simp
      · rw [if_neg hn, place_apply _ _ 0#32 ((sin_place ⟨52 + l.val % 4, by omega⟩ l).trans (by rw [if_neg (fun e => hn e.1)]))]
        simp
  · rw [place_apply _ _ 0#32 ((sin_place r l).trans (by rw [if_neg (fun e => hr (Fin.ext e.2))]))]
    simp

end Cert.Kernel4Ideal.IdxTables
-- ==== Proof.IdxValue.lean ====
/-
  The indexer's packed rows after the run: the reference's composed term.
-/
module

public import proofs.«01_k».proof.Proof.InValue
public import proofs.«01_k».proof.Proof.IdxWeights
public import proofs.«01_k».proof.Proof.IdxTables

@[expose] public section

set_option maxRecDepth 16384

noncomputable section

namespace Cert.Kernel4Ideal.IdxValue

open Idealize.ShloMosaic Idealize.SL.Sem
open Cert.Kernel4Ideal Cert.Kernel4Ideal.Gen Cert.Kernel4Ideal.InHost Cert.Kernel4Ideal.InWeights Cert.Kernel4Ideal.InValue
open Cert.Kernel4Ideal.IdxPay Cert.Kernel4Ideal.IdxWeights Cert.Kernel4Ideal.IdxTables
open Cert.Kernel4Ideal.InPay (pay5_apply)
open Cert.Reference4Ideal.IdxRef (cosv sinv scale_pos idxRow)

variable (m : (ℓ : Loc nD τ sig) → Buf (Elt Ideal) ℓ)

/-- The index map of the packed rows' window. -/
theorem idx14 : ∀ t : Fin cfg0.N, win0_14.index t = ![t.val, 0] :=
  (by decide +kernel : ∀ t : Fin grid0.N, _)

/-- The lanes that turn right. -/
abbrev lead : IVec S256x128 1 := k0_pay16 (iota .tc S256x128 32 [1] iota_S256x128_d1_w32)

section Stored

variable (u : FVec Ideal S256x3200 .f32) (k q : FVec Ideal S256x128 .f32) (P : Fin 6616 → EReal) (C S : Fin 4 → EReal)

/-- The four tiles of the packed rows. -/
def idxTiles : Vec Ideal S256x512 .bf16 :=
  View.canon
    [⟨Rect.unit ![0, 384] ![256, 128] inb_S256x512_S256x128_0_384, k0_pay53 u k q lead⟩,
      ⟨Rect.unit ![0, 256] ![256, 128] inb_S256x512_S256x128_0_256, k0_pay52 u k q lead⟩,
      ⟨Rect.unit ![0, 128] ![256, 128] inb_S256x512_S256x128_0_128, k0_pay51 u k q lead⟩,
      ⟨Rect.unit ![0, 0] ![256, 128] inb_S256x512_S256x128_0_0, k0_pay50 u k q lead⟩]

theorem idxTiles_apply (y : S256x512.Idx)
    (ec : ∀ l, k (ix2 (y 0) l) = cosHead C l) (es : ∀ l, q (ix2 (y 0) l) = sinHead S l)
    (e3 : ∀ l : Fin 128, u (ix2 (y 0) ⟨1920 + l.val, by omega⟩) = P ⟨2480 + l.val % 32, by omega⟩)
    (e2 : ∀ l : Fin 128, u (ix2 (y 0) ⟨1792 + l.val, by omega⟩) = P ⟨2480 + l.val % 32, by omega⟩)
    (e1 : ∀ l : Fin 128, u (ix2 (y 0) ⟨1664 + l.val, by omega⟩) = P ⟨2352 + l.val, by omega⟩ * Ideal.ofBits FTy.f32 1031798784#32)
    (e0 : ∀ l : Fin 128, u (ix2 (y 0) ⟨1536 + l.val, by omega⟩) = P ⟨2224 + l.val, by omega⟩ * Ideal.ofBits FTy.f32 1031798784#32) :
    idxTiles u k q y = idxRow P C S (y 1) := by
  unfold idxTiles
  canon_tiles x h
  · refine (congrFun (show k0_pay53 u k q lead = tile (extractStridedSlice S256x128 ![0, 1920] u slices_S256x3200_o0_1920_S256x128) k q lead from rfl) x).trans ?_
    have ex : x = ix2 (y 0) (x 1) := (eq_ix2 x).trans (congrArg (fun a => ix2 a (x 1)) (Fin.ext (by omega)))
    have ey : y 1 = (⟨384 + (x 1).val, by have := (x 1).isLt; omega⟩ : Fin 512) := Fin.ext h1
    refine (congrArg _ ex).trans ((head_stored u k q C S 1920 (by omega) _ (y 0) (x 1) ec es).trans ?_)
    refine Eq.trans ?_ ((congrArg (idxRow P C S) ey).trans (Cert.Reference4Ideal.IdxRef.idx_3 P C S (x 1))).symm
    exact congrArg (fun f => turned 128 f C S (x 1)) (funext e3)
  · refine (congrFun (show k0_pay52 u k q lead = tile (extractStridedSlice S256x128 ![0, 1792] u slices_S256x3200_o0_1792_S256x128) k q lead from rfl) x).trans ?_
    have ex : x = ix2 (y 0) (x 1) := (eq_ix2 x).trans (congrArg (fun a => ix2 a (x 1)) (Fin.ext (by omega)))
    have ey : y 1 = (⟨256 + (x 1).val, by have := (x 1).isLt; omega⟩ : Fin 512) := Fin.ext h1
    refine (congrArg _ ex).trans ((head_stored u k q C S 1792 (by omega) _ (y 0) (x 1) ec es).trans ?_)
    refine Eq.trans ?_ ((congrArg (idxRow P C S) ey).trans (Cert.Reference4Ideal.IdxRef.idx_2 P C S (x 1))).symm
    exact congrArg (fun f => turned 128 f C S (x 1)) (funext e2)
  · refine (congrFun (show k0_pay51 u k q lead = tile (extractStridedSlice S256x128 ![0, 1664] u slices_S256x3200_o0_1664_S256x128) k q lead from rfl) x).trans ?_
    have ex : x = ix2 (y 0) (x 1) := (eq_ix2 x).trans (congrArg (fun a => ix2 a (x 1)) (Fin.ext (by omega)))
    have ey : y 1 = (⟨128 + (x 1).val, by have := (x 1).isLt; omega⟩ : Fin 512) := Fin.ext h1
    refine (congrArg _ ex).trans ((head_stored u k q C S 1664 (by omega) _ (y 0) (x 1) ec es).trans ?_)
    refine Eq.trans ?_ ((congrArg (idxRow P C S) ey).trans (Cert.Reference4Ideal.IdxRef.idx_1 P C S (x 1))).symm
    exact congrArg (fun f => turned 128 f C S (x 1)) (funext e1)
  · refine (congrFun (show k0_pay50 u k q lead = tile (extractStridedSlice S256x128 ![0, 1536] u slices_S256x3200_o0_1536_S256x128) k q lead from rfl) x).trans ?_
    have ex : x = ix2 (y 0) (x 1) := (eq_ix2 x).trans (congrArg (fun a => ix2 a (x 1)) (Fin.ext (by omega)))
    have ey : y 1 = (⟨0 + (x 1).val, by have := (x 1).isLt; omega⟩ : Fin 512) := Fin.ext (h1.trans (Nat.zero_add _).symm)
    refine (congrArg _ ex).trans ((head_stored u k q C S 1536 (by omega) _ (y 0) (x 1) ec es).trans ?_)
    refine Eq.trans ?_ ((congrArg (idxRow P C S) ey).trans (Cert.Reference4Ideal.IdxRef.idx_0 P C S (x 1))).symm
    exact congrArg (fun f => turned 128 f C S (x 1)) (funext e0)

end Stored

section Final

variable (c : Dev nD) (t : Fin cfg0.N)

/-- The indexer's cosines and sines over the block. -/
abbrev kc : FVec Ideal S256x128 .f32 := k0_pay10 (F := Ideal) (iblk m c 3 t) (iblk m c 4 t)
abbrev ks : FVec Ideal S256x128 .f32 := k0_pay11 (F := Ideal) (iblk m c 3 t) (iblk m c 4 t)

theorem outs14 : (outsAt0 m c t.val t.isLt).2.2.2.1 = idxTiles (z m c t) (kc m c t) (ks m c t) := by
  by_cases h0 : t.val % 8 = 0
  · rw [outsAt0_A m c t h0]
    dsimp only
    frame_out
    rfl
  · rw [outsAt0_B m c t h0]
    dsimp only
    frame_out
    rfl

variable (r : Fin 256) (b : Fin 8) (s : Fin 2048) (h : b.val * 2048 + s.val = t.val * 256 + r.val)

include h in
theorem kc_apply (l : Fin 128) : kc m c t (ix2 r l) = cosHead (cosv (pIn m c) b s) l := by
  have ht : t.val < 64 := t.isLt
  refine (show kc m c t (ix2 r l) = k0_pay5 (F := Ideal) (iblk m c 3 t) (iblk m c 4 t) (ix2 r ⟨512 + l.val, by omega⟩) from by
    pointwise [k0_pay10]).trans ?_
  rw [pay5_apply, ← tab_cos _ b s ⟨t.val * 256 + r.val, by omega⟩ h l]
  exact Finset.sum_congr rfl fun k _ => congrArg₂ (· * ·) (cs_read m c t r k _) (place_read m c t k _)

include h in
theorem ks_apply (l : Fin 128) : ks m c t (ix2 r l) = sinHead (sinv (pIn m c) b s) l := by
  have ht : t.val < 64 := t.isLt
  refine (show ks m c t (ix2 r l) = k0_pay5 (F := Ideal) (iblk m c 3 t) (iblk m c 4 t) (ix2 r ⟨640 + l.val, by omega⟩) from by
    pointwise [k0_pay11]).trans ?_
  rw [pay5_apply, ← tab_sin _ b s ⟨t.val * 256 + r.val, by omega⟩ h l]
  exact Finset.sum_congr rfl fun k _ => congrArg₂ (· * ·) (cs_read m c t r k _) (place_read m c t k _)

include h in
theorem z_1536 (l : Fin 128) : z m c t (ix2 r ⟨1536 + l.val, by omega⟩) = row m c b s ⟨2224 + l.val, by omega⟩ * Ideal.ofBits FTy.f32 1031798784#32 := by
  have hw : ∀ k : Fin 1024, h_v252 (F := Ideal) (wIn m c) (ix2 k ⟨1536 + l.val, by omega⟩)
      = wIn m c (ix2 k ⟨2224 + l.val, by omega⟩) * Ideal.ofBits FTy.f32 1031798784#32 := fun k => by
    refine Eq.trans (congrArg (fun j => h_v252 (F := Ideal) (wIn m c) (ix2 k j)) (Fin.ext ?_))
      ((w_qi (wIn m c) k (⟨0 + l.val, by omega⟩ : Fin 256) (by dsimp only; omega) (by dsimp only; omega)).trans
        (congrArg (fun j => wIn m c (ix2 k j) * Ideal.ofBits FTy.f32 1031798784#32) (Fin.ext ?_))) <;> (dsimp only; omega)
  exact z_apply m c t r b s h _ _ _ scale_pos.1 scale_pos.2 hw

include h in
theorem z_1664 (l : Fin 128) : z m c t (ix2 r ⟨1664 + l.val, by omega⟩) = row m c b s ⟨2352 + l.val, by omega⟩ * Ideal.ofBits FTy.f32 1031798784#32 := by
  have hw : ∀ k : Fin 1024, h_v252 (F := Ideal) (wIn m c) (ix2 k ⟨1664 + l.val, by omega⟩)
      = wIn m c (ix2 k ⟨2352 + l.val, by omega⟩) * Ideal.ofBits FTy.f32 1031798784#32 := fun k => by
    refine Eq.trans (congrArg (fun j => h_v252 (F := Ideal) (wIn m c) (ix2 k j)) (Fin.ext ?_))
      ((w_qi (wIn m c) k (⟨128 + l.val, by omega⟩ : Fin 256) (by dsimp only; omega) (by dsimp only; omega)).trans
        (congrArg (fun j => wIn m c (ix2 k j) * Ideal.ofBits FTy.f32 1031798784#32) (Fin.ext ?_))) <;> (dsimp only; omega)
  exact z_apply m c t r b s h _ _ _ scale_pos.1 scale_pos.2 hw

include h in
theorem z_1792 (l : Fin 128) : z m c t (ix2 r ⟨1792 + l.val, by omega⟩) = row m c b s ⟨2480 + l.val % 32, by omega⟩ := by
  have hw : ∀ k : Fin 1024, h_v252 (F := Ideal) (wIn m c) (ix2 k ⟨1792 + l.val, by omega⟩)
      = wIn m c (ix2 k ⟨2480 + l.val % 32, by omega⟩) * Ideal.ofBits FTy.f32 1065353216#32 := fun k => by
    refine Eq.trans (congrArg (fun j => h_v252 (F := Ideal) (wIn m c) (ix2 k j)) (Fin.ext ?_))
      ((w_ki (wIn m c) k (⟨0 + l.val, by omega⟩ : Fin 256) (by dsimp only; omega) (by dsimp only; omega)).trans
        (congrArg (fun j => wIn m c (ix2 k j) * Ideal.ofBits FTy.f32 1065353216#32) (Fin.ext ?_))) <;> (dsimp only; omega)
  exact z_one m c t r b s h _ _ hw

include h in
theorem z_1920 (l : Fin 128) : z m c t (ix2 r ⟨1920 + l.val, by omega⟩) = row m c b s ⟨2480 + l.val % 32, by omega⟩ := by
  have hw : ∀ k : Fin 1024, h_v252 (F := Ideal) (wIn m c) (ix2 k ⟨1920 + l.val, by omega⟩)
      = wIn m c (ix2 k ⟨2480 + l.val % 32, by omega⟩) * Ideal.ofBits FTy.f32 1065353216#32 := fun k => by
    refine Eq.trans (congrArg (fun j => h_v252 (F := Ideal) (wIn m c) (ix2 k j)) (Fin.ext ?_))
      ((w_ki (wIn m c) k (⟨128 + l.val, by omega⟩ : Fin 256) (by dsimp only; omega) (by dsimp only; omega)).trans
        (congrArg (fun j => wIn m c (ix2 k j) * Ideal.ofBits FTy.f32 1065353216#32) (Fin.ext ?_))) <;> (dsimp only; omega)
  exact z_one m c t r b s h _ _ hw

end Final

theorem point14 (c : Dev nD) (t : Fin cfg0.N) (y : S256x512.Idx) :
    (outsAt0 m c t.val t.isLt).2.2.2.1 y
      = Cert.Reference4Ideal.Read.val_main_v197 (F := Ideal) (xIn m c) (pIn m c) (gIn m c) (wIn m c) (((cfg0.win 14).blk t).view.emb y) := by
  have ht : t.val < 64 := t.isLt
  have hy : (y 0).val < 256 := (y 0).isLt
  have e : ((cfg0.win 14).blk t).view.emb y = ix2 ⟨t.val * 256 + (y 0).val, by omega⟩ (y 1) := by blk_ext [idx14 t]
  refine Eq.trans ?_ (congrArg _ e).symm
  obtain ⟨b, s, hr⟩ : ∃ (b : Fin 8) (s : Fin 2048), b.val * 2048 + s.val = t.val * 256 + (y 0).val :=
    ⟨⟨(t.val * 256 + (y 0).val) / 2048, by omega⟩, ⟨(t.val * 256 + (y 0).val) % 2048, by omega⟩,
      by show _ / 2048 * 2048 + _ % 2048 = _; omega⟩
  refine Eq.trans ?_ (Cert.Reference4Ideal.IdxRef.v197_apply _ _ _ _ _ _ b s hr).symm
  rw [outs14]
  exact idxTiles_apply _ _ _ _ _ _ y (kc_apply m c t (y 0) b s hr) (ks_apply m c t (y 0) b s hr) (z_1920 m c t (y 0) b s hr)
    (z_1792 m c t (y 0) b s hr) (z_1664 m c t (y 0) b s hr) (z_1536 m c t (y 0) b s hr)

theorem final14 (c : Dev nD) : (dats m 0 c).arrAt 14 cfg0.N
    = Cert.Reference4Ideal.Read.val_main_v197 (F := Ideal) (xIn m c) (pIn m c) (gIn m c) (wIn m c) := by
  refine (dats m 0 c).arrAt_eq_of_covers 14 _ (by decide +kernel) fun t _ y => ?_
  blk_simp
  rw [after0_14]
  exact point14 m c t y

end Cert.Kernel4Ideal.IdxValue
-- ==== Proof.lean ====
/-
  The certificate: the sparse attention call's frames and named constants, and the values of the
  two layers' feed-forwards, of the mixing call and of three results of the input projection call.
-/
module

public import proofs.«01_k».proof.Defs
public import proofs.«01_k».proof.Proof.Frame
public import proofs.«01_k».proof.Proof.FrameIdeal
public import proofs.«01_k».proof.Proof.FfnValue
public import proofs.«01_k».proof.Proof.FirstFfnValue
public import proofs.«01_k».proof.Proof.CmpValue
public import proofs.«01_k».proof.Proof.MixValue
public import proofs.«01_k».proof.Proof.InValue
public import proofs.«01_k».proof.Proof.IdxValue
public import proofs.«01_k».proof.Proof.Gen.Kernel
public import proofs.«01_k».proof.Proof.Gen.KernelIdeal
public import proofs.«01_k».proof.Proof.Gen.Kernel2.Frame
public import proofs.«01_k».proof.Proof.Gen.Kernel3.Frame
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Proof

open Idealize.ShloMosaic Idealize.SL.Sem

/-- The sparse attention returns with its arguments as they were. -/
theorem frame1 : Cert.quiescent_Kernel := fun m ρ _ => Cert.Kernel.Gen.frame m ρ

theorem frame1_ideal : Cert.quiescent_KernelIdeal := fun m ρ _ => Cert.KernelIdeal.Gen.frame m ρ

theorem frame2 : Cert.quiescent_Kernel2 := fun m ρ _ => Cert.Kernel2.Gen.frame m ρ

theorem frame2_ideal : Cert.quiescent_Kernel2Ideal := fun m ρ _ => Cert.Kernel2Ideal.Gen.frame m ρ

theorem frame2_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem frame3 : Cert.quiescent_Kernel3 := fun m ρ _ => Cert.Kernel3.Gen.frame m ρ

theorem frame3_ideal : Cert.quiescent_Kernel3Ideal := fun m ρ _ => Cert.Kernel3Ideal.Gen.frame m ρ

theorem frame3_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem frame4 : Cert.quiescent_Kernel4 := fun m ρ _ => Cert.Kernel4.Gen.frame m ρ

theorem frame4_ideal : Cert.quiescent_Kernel4Ideal := fun m ρ _ => Cert.Kernel4Ideal.Gen.frame m ρ

theorem frame4_reference : Cert.quiescent_Reference4Ideal := fun m ρ _ =>
  (θ_run Cert.Reference4Ideal.defs _ _).mono
    (fun r h => ⟨fun c => (h c).2.2.2.2, sem_eq_zero_of_no_sems (by decide) r.2⟩) (Cert.Reference4Ideal.Value.run m ρ)

theorem frame5 : Cert.quiescent_Kernel5 := fun m ρ _ => Cert.Kernel5.Gen.frame m ρ

theorem frame5_ideal : Cert.quiescent_Kernel5Ideal := fun m ρ _ => Cert.Kernel5Ideal.Gen.frame m ρ

theorem frame5_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem frame6 : Cert.quiescent_Kernel6 := fun m ρ _ => Cert.Kernel6.Gen.frame m ρ

theorem frame6_ideal : Cert.quiescent_Kernel6Ideal := fun m ρ _ => Cert.Kernel6Ideal.Gen.frame m ρ

theorem frame6_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The sparse attention's named constants are the floats they stand for, at the value claimed of each. -/
theorem preserves1 : Cert.preserves_Kernel_KernelIdeal :=
  ⟨IdealRules.named_const.statement Cert.KernelIdeal.κ "mask" .f32 0xF149F2CA#32 ⊥ rfl,
    IdealRules.named_const.statement Cert.KernelIdeal.κ "scale" .f32 0x3E38AA3B#32 (((8 * (Real.log 2))⁻¹ : ℝ) : EReal) rfl,
    IdealRules.named_const.statement Cert.KernelIdeal.κ "big" .f32 0x7149F2CA#32 ⊤ rfl⟩

/-- The feed-forward's result is the reference's. -/
theorem algebraic2 : Cert.algebraic_Kernel2Ideal_Reference2Ideal := by
  pair_intro
  · run_from Cert.Kernel2Ideal.Gen.run_main m g
  · run_from Cert.Reference2Ideal.Value.run m' g'
    rw [Cert.Kernel2Ideal.FfnValue.final m c, Cert.Reference2Ideal.Read.val_main_v31_eq]
    simp only [hagree c]

/-- The mixing call's result is the reference's. -/
theorem algebraic3 : Cert.algebraic_Kernel3Ideal_Reference3Ideal := by
  pair_intro
  · run_from Cert.Kernel3Ideal.Gen.run_main m g
  · run_from Cert.Reference3Ideal.Value.run m' g'
    rw [Cert.Kernel3Ideal.MixValue.final m c, Cert.Reference3Ideal.Read.val_main_v33_eq]
    simp only [hagree c]

/-- The input projection's branch columns, compressed source and forgetting columns are the reference's. -/
theorem algebraic4 : Cert.algebraic_Kernel4Ideal_Reference4Ideal := fun m g m' g' _ hagree =>
  ⟨fun c => Cert.Reference4Ideal.Read.val_main_v139 (F := Ideal) (Cert.Kernel4Ideal.InValue.xIn m c) (Cert.Kernel4Ideal.InValue.pIn m c)
      (Cert.Kernel4Ideal.InValue.gIn m c) (Cert.Kernel4Ideal.InValue.wIn m c),
    fun c => Cert.Reference4Ideal.Read.val_main_v141 (F := Ideal) (Cert.Kernel4Ideal.InValue.xIn m c) (Cert.Kernel4Ideal.InValue.pIn m c)
      (Cert.Kernel4Ideal.InValue.gIn m c) (Cert.Kernel4Ideal.InValue.wIn m c),
    fun c => Cert.Reference4Ideal.Read.val_main_v143 (F := Ideal) (Cert.Kernel4Ideal.InValue.xIn m c)
      (Cert.Kernel4Ideal.InValue.gIn m c) (Cert.Kernel4Ideal.InValue.wIn m c),
    fun c => Cert.Reference4Ideal.Read.val_main_v197 (F := Ideal) (Cert.Kernel4Ideal.InValue.xIn m c) (Cert.Kernel4Ideal.InValue.pIn m c)
      (Cert.Kernel4Ideal.InValue.gIn m c) (Cert.Kernel4Ideal.InValue.wIn m c),
    (θ_run Cert.Kernel4Ideal.defs _ _).mono (fun r h c =>
      let ⟨_, q12, q13, q14, _, q16, kept⟩ := h c
      ⟨q12.trans (Cert.Kernel4Ideal.InValue.final12 m c),
        q13.trans (Cert.Kernel4Ideal.InValue.final13 m c),
        q16.trans (Cert.Kernel4Ideal.InValue.final16 m c),
        q14.trans (Cert.Kernel4Ideal.IdxValue.final14 m c), kept⟩)
      (Cert.Kernel4Ideal.Value.run_blocks m g),
    (θ_run Cert.Reference4Ideal.defs _ _).mono (fun r h c =>
      let ⟨b, k, e, i, kept⟩ := h c
      let ⟨hx, hp, hg, hw, _⟩ := hagree c
      ⟨(b.trans (Cert.Reference4Ideal.Read.val_main_v139_eq _)).trans (congr (congr (congr (congrArg (Cert.Reference4Ideal.Read.val_main_v139 (F := Ideal)) hx) hp) hg) hw),
        (k.trans (Cert.Reference4Ideal.Read.val_main_v141_eq _)).trans (congr (congr (congr (congrArg (Cert.Reference4Ideal.Read.val_main_v141 (F := Ideal)) hx) hp) hg) hw),
        (e.trans (Cert.Reference4Ideal.Read.val_main_v143_eq _)).trans (congr (congr (congrArg (Cert.Reference4Ideal.Read.val_main_v143 (F := Ideal)) hx) hg) hw),
        (i.trans (Cert.Reference4Ideal.Read.val_main_v197_eq _)).trans (congr (congr (congr (congrArg (Cert.Reference4Ideal.Read.val_main_v197 (F := Ideal)) hx) hp) hg) hw),
        kept⟩)
      (Cert.Reference4Ideal.Value.run m' g')⟩

/-- The first layer's feed-forward: its result is the reference's. -/
theorem algebraic5 : Cert.algebraic_Kernel5Ideal_Reference5Ideal := by
  pair_intro
  · run_from Cert.Kernel5Ideal.Gen.run_main m g
  · run_from Cert.Reference5Ideal.Value.run m' g'
    rw [Cert.Kernel5Ideal.FirstFfnValue.final m c, Cert.Reference5Ideal.Read.val_main_v18_eq]

/-- The compressed blocks' result is the reference's. -/
theorem algebraic6 : Cert.algebraic_Kernel6Ideal_Reference6Ideal := by
  pair_intro
  · run_from Cert.Kernel6Ideal.Gen.run_main m g
  · run_from Cert.Reference6Ideal.Value.run m' g'
    rw [Cert.Kernel6Ideal.CmpValue.final m c, Cert.Reference6Ideal.Read.val_main_v50_eq]
    simp only [hagree c]

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    frame1, frame1_ideal, frame2, frame2_ideal, frame2_reference, frame3, frame3_ideal, frame3_reference,
    frame4, frame4_ideal, frame4_reference, frame5, frame5_ideal, frame5_reference,
    frame6, frame6_ideal, frame6_reference, preserves1,
    trivial, algebraic2, trivial, algebraic3, trivial, algebraic4, trivial, algebraic5, trivial, algebraic6⟩

end Cert.Proof

end
